-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x256 : Shape := ⟨2, ![512, 256]⟩
abbrev S2x256x128x64 : Shape := ⟨4, ![2, 256, 128, 64]⟩
abbrev S256x512 : Shape := ⟨2, ![256, 512]⟩
abbrev S512x512 : Shape := ⟨2, ![512, 512]⟩
abbrev S2x256x4x64 : Shape := ⟨4, ![2, 256, 4, 64]⟩
abbrev S2 : Shape := ⟨1, ![2]⟩
abbrev S32 : Shape := ⟨1, ![32]⟩
abbrev S_ : Shape := ⟨0, ![]⟩
abbrev S1 : Shape := ⟨1, ![1]⟩
abbrev S256x256 : Shape := ⟨2, ![256, 256]⟩
abbrev S256x64 : Shape := ⟨2, ![256, 64]⟩
abbrev S1x256x1x64 : Shape := ⟨4, ![1, 256, 1, 64]⟩
abbrev S64x256 : Shape := ⟨2, ![64, 256]⟩
abbrev S256 : Shape := ⟨1, ![256]⟩
abbrev S256x1 : Shape := ⟨2, ![256, 1]⟩
abbrev S16x512 : Shape := ⟨2, ![16, 512]⟩
abbrev S1x256x512 : Shape := ⟨3, ![1, 256, 512]⟩

abbrev nBuf : Space → Nat
  | .hbm => 6
  | .vmem => 8
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S2x256x128x64, .f32⟩
  | .hbm, ⟨3, _⟩ => ⟨S2x256x128x64, .f32⟩
  | .hbm, ⟨4, _⟩ => ⟨S256x512, .f32⟩
  | .hbm, ⟨5, _⟩ => ⟨S2x256x512, .f32⟩
  | .local _ .vmem, ⟨0, _⟩ => ⟨S2x256x512, .f32⟩
  | .local _ .vmem, ⟨1, _⟩ => ⟨S512x256, .f32⟩
  | .local _ .vmem, ⟨2, _⟩ => ⟨S256x512, .f32⟩
  | .local _ .vmem, ⟨3, _⟩ => ⟨S2x256x512, .f32⟩
  | .local _ .vmem, ⟨4, _⟩ => ⟨S512x512, .f32⟩
  | .local _ .vmem, ⟨5, _⟩ => ⟨S512x512, .f32⟩
  | .local _ .vmem, ⟨6, _⟩ => ⟨S2x256x4x64, .f32⟩
  | .local _ .vmem, ⟨7, _⟩ => ⟨S2x256x4x64, .f32⟩
  | _, _ => ⟨S2x256x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) : Fin 4 → Nat :=
  let c0_i32_282 : BitVec 32 := 0#32
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_280 : BitVec 32 := 4#32
  let v407 : BitVec 32 := Scalar.muli v2 c4_i32_280
  let c0_i32_284 : BitVec 32 := 0#32
  ![0, 0, v407.toNat, 0]
def k0_mult1 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_417 : BitVec 32 := 16#32
  let v615 : BitVec 32 := Scalar.muli v2 c16_i32_417
  v615
def k0_mult2 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_418 : BitVec 32 := 1#32
  let v617 : BitVec 32 := Scalar.addi v2 c1_i32_418
  let c32_i32_419 : BitVec 32 := 32#32
  let c0_i32_420 : BitVec 32 := 0#32
  let v618 : BitVec 1 := Scalar.cmpi .eq c32_i32_419 c0_i32_420
  let c1_i32_421 : BitVec 32 := 1#32
  let v619 : BitVec 32 := Scalar.select v618 c1_i32_421 c32_i32_419
  let v620 : BitVec 32 := Scalar.remsi v617 v619
  let c0_i32_423 : BitVec 32 := 0#32
  let v622 : BitVec 1 := Scalar.cmpi .slt v620 c0_i32_423
  let c0_i32_424 : BitVec 32 := 0#32
  let v623 : BitVec 1 := Scalar.cmpi .slt v619 c0_i32_424
  let v624 : BitVec 1 := Scalar.xori v622 v623
  let c0_i32_422 : BitVec 32 := 0#32
  let v621 : BitVec 1 := Scalar.cmpi .ne v620 c0_i32_422
  let v625 : BitVec 1 := Scalar.andi v624 v621
  let v626 : BitVec 32 := Scalar.addi v620 v619
  let v627 : BitVec 32 := Scalar.select v625 v626 v620
  let c16_i32_425 : BitVec 32 := 16#32
  let v628 : BitVec 32 := Scalar.muli v627 c16_i32_425
  v628
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_417 : BitVec 32 := 16#32
  let v615 : BitVec 32 := Scalar.muli v2 c16_i32_417
  let v616 : BitVec 32 := v615
  let c0_i32_429 : BitVec 32 := 0#32
  ![v616.toNat, 0]
def k0_off4 (d0 : Dev nD) (c1_i32_418 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v617 : BitVec 32 := Scalar.addi v2 c1_i32_418
  let c32_i32_419 : BitVec 32 := 32#32
  let c0_i32_420 : BitVec 32 := 0#32
  let v618 : BitVec 1 := Scalar.cmpi .eq c32_i32_419 c0_i32_420
  let c1_i32_421 : BitVec 32 := 1#32
  let v619 : BitVec 32 := Scalar.select v618 c1_i32_421 c32_i32_419
  let v620 : BitVec 32 := Scalar.remsi v617 v619
  let c0_i32_423 : BitVec 32 := 0#32
  let v622 : BitVec 1 := Scalar.cmpi .slt v620 c0_i32_423
  let c0_i32_424 : BitVec 32 := 0#32
  let v623 : BitVec 1 := Scalar.cmpi .slt v619 c0_i32_424
  let v624 : BitVec 1 := Scalar.xori v622 v623
  let c0_i32_422 : BitVec 32 := 0#32
  let v621 : BitVec 1 := Scalar.cmpi .ne v620 c0_i32_422
  let v625 : BitVec 1 := Scalar.andi v624 v621
  let v626 : BitVec 32 := Scalar.addi v620 v619
  let v627 : BitVec 32 := Scalar.select v625 v626 v620
  let c16_i32_425 : BitVec 32 := 16#32
  let v628 : BitVec 32 := Scalar.muli v627 c16_i32_425
  let v629 : BitVec 32 := v628
  let c0_i32_430 : BitVec 32 := 0#32
  ![v629.toNat, 0]
def k0_dev32 (d0 : Dev nD) : Nat :=
  let c0_i32_428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_418 : BitVec 32 := 1#32
  let v617 : BitVec 32 := Scalar.addi v2 c1_i32_418
  let c32_i32_419 : BitVec 32 := 32#32
  let c0_i32_420 : BitVec 32 := 0#32
  let v618 : BitVec 1 := Scalar.cmpi .eq c32_i32_419 c0_i32_420
  let c1_i32_421 : BitVec 32 := 1#32
  let v619 : BitVec 32 := Scalar.select v618 c1_i32_421 c32_i32_419
  let v620 : BitVec 32 := Scalar.remsi v617 v619
  let c0_i32_423 : BitVec 32 := 0#32
  let v622 : BitVec 1 := Scalar.cmpi .slt v620 c0_i32_423
  let c0_i32_424 : BitVec 32 := 0#32
  let v623 : BitVec 1 := Scalar.cmpi .slt v619 c0_i32_424
  let v624 : BitVec 1 := Scalar.xori v622 v623
  let c0_i32_422 : BitVec 32 := 0#32
  let v621 : BitVec 1 := Scalar.cmpi .ne v620 c0_i32_422
  let v625 : BitVec 1 := Scalar.andi v624 v621
  let v626 : BitVec 32 := Scalar.addi v620 v619
  let v627 : BitVec 32 := Scalar.select v625 v626 v620
  let c1_i32_427 : BitVec 32 := 1#32
  let v630 : BitVec 32 := Scalar.muli v627 c1_i32_427
  let v631 : BitVec 32 := Scalar.addi c0_i32_428 v630
  v631.toNat
def k0_mult3 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_431 : BitVec 32 := 2#32
  let v638 : BitVec 32 := Scalar.addi v2 c2_i32_431
  let c32_i32_432 : BitVec 32 := 32#32
  let c0_i32_433 : BitVec 32 := 0#32
  let v639 : BitVec 1 := Scalar.cmpi .eq c32_i32_432 c0_i32_433
  let c1_i32_434 : BitVec 32 := 1#32
  let v640 : BitVec 32 := Scalar.select v639 c1_i32_434 c32_i32_432
  let v641 : BitVec 32 := Scalar.remsi v638 v640
  let c0_i32_436 : BitVec 32 := 0#32
  let v643 : BitVec 1 := Scalar.cmpi .slt v641 c0_i32_436
  let c0_i32_437 : BitVec 32 := 0#32
  let v644 : BitVec 1 := Scalar.cmpi .slt v640 c0_i32_437
  let v645 : BitVec 1 := Scalar.xori v643 v644
  let c0_i32_435 : BitVec 32 := 0#32
  let v642 : BitVec 1 := Scalar.cmpi .ne v641 c0_i32_435
  let v646 : BitVec 1 := Scalar.andi v645 v642
  let v647 : BitVec 32 := Scalar.addi v641 v640
  let v648 : BitVec 32 := Scalar.select v646 v647 v641
  let c16_i32_438 : BitVec 32 := 16#32
  let v649 : BitVec 32 := Scalar.muli v648 c16_i32_438
  v649
def k0_dev33 (d0 : Dev nD) : Nat :=
  let c0_i32_441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_431 : BitVec 32 := 2#32
  let v638 : BitVec 32 := Scalar.addi v2 c2_i32_431
  let c32_i32_432 : BitVec 32 := 32#32
  let c0_i32_433 : BitVec 32 := 0#32
  let v639 : BitVec 1 := Scalar.cmpi .eq c32_i32_432 c0_i32_433
  let c1_i32_434 : BitVec 32 := 1#32
  let v640 : BitVec 32 := Scalar.select v639 c1_i32_434 c32_i32_432
  let v641 : BitVec 32 := Scalar.remsi v638 v640
  let c0_i32_436 : BitVec 32 := 0#32
  let v643 : BitVec 1 := Scalar.cmpi .slt v641 c0_i32_436
  let c0_i32_437 : BitVec 32 := 0#32
  let v644 : BitVec 1 := Scalar.cmpi .slt v640 c0_i32_437
  let v645 : BitVec 1 := Scalar.xori v643 v644
  let c0_i32_435 : BitVec 32 := 0#32
  let v642 : BitVec 1 := Scalar.cmpi .ne v641 c0_i32_435
  let v646 : BitVec 1 := Scalar.andi v645 v642
  let v647 : BitVec 32 := Scalar.addi v641 v640
  let v648 : BitVec 32 := Scalar.select v646 v647 v641
  let c1_i32_440 : BitVec 32 := 1#32
  let v651 : BitVec 32 := Scalar.muli v648 c1_i32_440
  let v652 : BitVec 32 := Scalar.addi c0_i32_441 v651
  v652.toNat
def k0_mult4 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_444 : BitVec 32 := 3#32
  let v659 : BitVec 32 := Scalar.addi v2 c3_i32_444
  let c32_i32_445 : BitVec 32 := 32#32
  let c0_i32_446 : BitVec 32 := 0#32
  let v660 : BitVec 1 := Scalar.cmpi .eq c32_i32_445 c0_i32_446
  let c1_i32_447 : BitVec 32 := 1#32
  let v661 : BitVec 32 := Scalar.select v660 c1_i32_447 c32_i32_445
  let v662 : BitVec 32 := Scalar.remsi v659 v661
  let c0_i32_449 : BitVec 32 := 0#32
  let v664 : BitVec 1 := Scalar.cmpi .slt v662 c0_i32_449
  let c0_i32_450 : BitVec 32 := 0#32
  let v665 : BitVec 1 := Scalar.cmpi .slt v661 c0_i32_450
  let v666 : BitVec 1 := Scalar.xori v664 v665
  let c0_i32_448 : BitVec 32 := 0#32
  let v663 : BitVec 1 := Scalar.cmpi .ne v662 c0_i32_448
  let v667 : BitVec 1 := Scalar.andi v666 v663
  let v668 : BitVec 32 := Scalar.addi v662 v661
  let v669 : BitVec 32 := Scalar.select v667 v668 v662
  let c16_i32_451 : BitVec 32 := 16#32
  let v670 : BitVec 32 := Scalar.muli v669 c16_i32_451
  v670
def k0_dev34 (d0 : Dev nD) : Nat :=
  let c0_i32_454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_444 : BitVec 32 := 3#32
  let v659 : BitVec 32 := Scalar.addi v2 c3_i32_444
  let c32_i32_445 : BitVec 32 := 32#32
  let c0_i32_446 : BitVec 32 := 0#32
  let v660 : BitVec 1 := Scalar.cmpi .eq c32_i32_445 c0_i32_446
  let c1_i32_447 : BitVec 32 := 1#32
  let v661 : BitVec 32 := Scalar.select v660 c1_i32_447 c32_i32_445
  let v662 : BitVec 32 := Scalar.remsi v659 v661
  let c0_i32_449 : BitVec 32 := 0#32
  let v664 : BitVec 1 := Scalar.cmpi .slt v662 c0_i32_449
  let c0_i32_450 : BitVec 32 := 0#32
  let v665 : BitVec 1 := Scalar.cmpi .slt v661 c0_i32_450
  let v666 : BitVec 1 := Scalar.xori v664 v665
  let c0_i32_448 : BitVec 32 := 0#32
  let v663 : BitVec 1 := Scalar.cmpi .ne v662 c0_i32_448
  let v667 : BitVec 1 := Scalar.andi v666 v663
  let v668 : BitVec 32 := Scalar.addi v662 v661
  let v669 : BitVec 32 := Scalar.select v667 v668 v662
  let c1_i32_453 : BitVec 32 := 1#32
  let v672 : BitVec 32 := Scalar.muli v669 c1_i32_453
  let v673 : BitVec 32 := Scalar.addi c0_i32_454 v672
  v673.toNat
def k0_mult5 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_457 : BitVec 32 := 4#32
  let v680 : BitVec 32 := Scalar.addi v2 c4_i32_457
  let c32_i32_458 : BitVec 32 := 32#32
  let c0_i32_459 : BitVec 32 := 0#32
  let v681 : BitVec 1 := Scalar.cmpi .eq c32_i32_458 c0_i32_459
  let c1_i32_460 : BitVec 32 := 1#32
  let v682 : BitVec 32 := Scalar.select v681 c1_i32_460 c32_i32_458
  let v683 : BitVec 32 := Scalar.remsi v680 v682
  let c0_i32_462 : BitVec 32 := 0#32
  let v685 : BitVec 1 := Scalar.cmpi .slt v683 c0_i32_462
  let c0_i32_463 : BitVec 32 := 0#32
  let v686 : BitVec 1 := Scalar.cmpi .slt v682 c0_i32_463
  let v687 : BitVec 1 := Scalar.xori v685 v686
  let c0_i32_461 : BitVec 32 := 0#32
  let v684 : BitVec 1 := Scalar.cmpi .ne v683 c0_i32_461
  let v688 : BitVec 1 := Scalar.andi v687 v684
  let v689 : BitVec 32 := Scalar.addi v683 v682
  let v690 : BitVec 32 := Scalar.select v688 v689 v683
  let c16_i32_464 : BitVec 32 := 16#32
  let v691 : BitVec 32 := Scalar.muli v690 c16_i32_464
  v691
def k0_dev35 (d0 : Dev nD) : Nat :=
  let c0_i32_467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_457 : BitVec 32 := 4#32
  let v680 : BitVec 32 := Scalar.addi v2 c4_i32_457
  let c32_i32_458 : BitVec 32 := 32#32
  let c0_i32_459 : BitVec 32 := 0#32
  let v681 : BitVec 1 := Scalar.cmpi .eq c32_i32_458 c0_i32_459
  let c1_i32_460 : BitVec 32 := 1#32
  let v682 : BitVec 32 := Scalar.select v681 c1_i32_460 c32_i32_458
  let v683 : BitVec 32 := Scalar.remsi v680 v682
  let c0_i32_462 : BitVec 32 := 0#32
  let v685 : BitVec 1 := Scalar.cmpi .slt v683 c0_i32_462
  let c0_i32_463 : BitVec 32 := 0#32
  let v686 : BitVec 1 := Scalar.cmpi .slt v682 c0_i32_463
  let v687 : BitVec 1 := Scalar.xori v685 v686
  let c0_i32_461 : BitVec 32 := 0#32
  let v684 : BitVec 1 := Scalar.cmpi .ne v683 c0_i32_461
  let v688 : BitVec 1 := Scalar.andi v687 v684
  let v689 : BitVec 32 := Scalar.addi v683 v682
  let v690 : BitVec 32 := Scalar.select v688 v689 v683
  let c1_i32_466 : BitVec 32 := 1#32
  let v693 : BitVec 32 := Scalar.muli v690 c1_i32_466
  let v694 : BitVec 32 := Scalar.addi c0_i32_467 v693
  v694.toNat
def k0_mult6 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_470 : BitVec 32 := 5#32
  let v701 : BitVec 32 := Scalar.addi v2 c5_i32_470
  let c32_i32_471 : BitVec 32 := 32#32
  let c0_i32_472 : BitVec 32 := 0#32
  let v702 : BitVec 1 := Scalar.cmpi .eq c32_i32_471 c0_i32_472
  let c1_i32_473 : BitVec 32 := 1#32
  let v703 : BitVec 32 := Scalar.select v702 c1_i32_473 c32_i32_471
  let v704 : BitVec 32 := Scalar.remsi v701 v703
  let c0_i32_475 : BitVec 32 := 0#32
  let v706 : BitVec 1 := Scalar.cmpi .slt v704 c0_i32_475
  let c0_i32_476 : BitVec 32 := 0#32
  let v707 : BitVec 1 := Scalar.cmpi .slt v703 c0_i32_476
  let v708 : BitVec 1 := Scalar.xori v706 v707
  let c0_i32_474 : BitVec 32 := 0#32
  let v705 : BitVec 1 := Scalar.cmpi .ne v704 c0_i32_474
  let v709 : BitVec 1 := Scalar.andi v708 v705
  let v710 : BitVec 32 := Scalar.addi v704 v703
  let v711 : BitVec 32 := Scalar.select v709 v710 v704
  let c16_i32_477 : BitVec 32 := 16#32
  let v712 : BitVec 32 := Scalar.muli v711 c16_i32_477
  v712
def k0_dev36 (d0 : Dev nD) : Nat :=
  let c0_i32_480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_470 : BitVec 32 := 5#32
  let v701 : BitVec 32 := Scalar.addi v2 c5_i32_470
  let c32_i32_471 : BitVec 32 := 32#32
  let c0_i32_472 : BitVec 32 := 0#32
  let v702 : BitVec 1 := Scalar.cmpi .eq c32_i32_471 c0_i32_472
  let c1_i32_473 : BitVec 32 := 1#32
  let v703 : BitVec 32 := Scalar.select v702 c1_i32_473 c32_i32_471
  let v704 : BitVec 32 := Scalar.remsi v701 v703
  let c0_i32_475 : BitVec 32 := 0#32
  let v706 : BitVec 1 := Scalar.cmpi .slt v704 c0_i32_475
  let c0_i32_476 : BitVec 32 := 0#32
  let v707 : BitVec 1 := Scalar.cmpi .slt v703 c0_i32_476
  let v708 : BitVec 1 := Scalar.xori v706 v707
  let c0_i32_474 : BitVec 32 := 0#32
  let v705 : BitVec 1 := Scalar.cmpi .ne v704 c0_i32_474
  let v709 : BitVec 1 := Scalar.andi v708 v705
  let v710 : BitVec 32 := Scalar.addi v704 v703
  let v711 : BitVec 32 := Scalar.select v709 v710 v704
  let c1_i32_479 : BitVec 32 := 1#32
  let v714 : BitVec 32 := Scalar.muli v711 c1_i32_479
  let v715 : BitVec 32 := Scalar.addi c0_i32_480 v714
  v715.toNat
def k0_mult7 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_483 : BitVec 32 := 6#32
  let v722 : BitVec 32 := Scalar.addi v2 c6_i32_483
  let c32_i32_484 : BitVec 32 := 32#32
  let c0_i32_485 : BitVec 32 := 0#32
  let v723 : BitVec 1 := Scalar.cmpi .eq c32_i32_484 c0_i32_485
  let c1_i32_486 : BitVec 32 := 1#32
  let v724 : BitVec 32 := Scalar.select v723 c1_i32_486 c32_i32_484
  let v725 : BitVec 32 := Scalar.remsi v722 v724
  let c0_i32_488 : BitVec 32 := 0#32
  let v727 : BitVec 1 := Scalar.cmpi .slt v725 c0_i32_488
  let c0_i32_489 : BitVec 32 := 0#32
  let v728 : BitVec 1 := Scalar.cmpi .slt v724 c0_i32_489
  let v729 : BitVec 1 := Scalar.xori v727 v728
  let c0_i32_487 : BitVec 32 := 0#32
  let v726 : BitVec 1 := Scalar.cmpi .ne v725 c0_i32_487
  let v730 : BitVec 1 := Scalar.andi v729 v726
  let v731 : BitVec 32 := Scalar.addi v725 v724
  let v732 : BitVec 32 := Scalar.select v730 v731 v725
  let c16_i32_490 : BitVec 32 := 16#32
  let v733 : BitVec 32 := Scalar.muli v732 c16_i32_490
  v733
def k0_dev37 (d0 : Dev nD) : Nat :=
  let c0_i32_493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_483 : BitVec 32 := 6#32
  let v722 : BitVec 32 := Scalar.addi v2 c6_i32_483
  let c32_i32_484 : BitVec 32 := 32#32
  let c0_i32_485 : BitVec 32 := 0#32
  let v723 : BitVec 1 := Scalar.cmpi .eq c32_i32_484 c0_i32_485
  let c1_i32_486 : BitVec 32 := 1#32
  let v724 : BitVec 32 := Scalar.select v723 c1_i32_486 c32_i32_484
  let v725 : BitVec 32 := Scalar.remsi v722 v724
  let c0_i32_488 : BitVec 32 := 0#32
  let v727 : BitVec 1 := Scalar.cmpi .slt v725 c0_i32_488
  let c0_i32_489 : BitVec 32 := 0#32
  let v728 : BitVec 1 := Scalar.cmpi .slt v724 c0_i32_489
  let v729 : BitVec 1 := Scalar.xori v727 v728
  let c0_i32_487 : BitVec 32 := 0#32
  let v726 : BitVec 1 := Scalar.cmpi .ne v725 c0_i32_487
  let v730 : BitVec 1 := Scalar.andi v729 v726
  let v731 : BitVec 32 := Scalar.addi v725 v724
  let v732 : BitVec 32 := Scalar.select v730 v731 v725
  let c1_i32_492 : BitVec 32 := 1#32
  let v735 : BitVec 32 := Scalar.muli v732 c1_i32_492
  let v736 : BitVec 32 := Scalar.addi c0_i32_493 v735
  v736.toNat
def k0_mult8 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_496 : BitVec 32 := 7#32
  let v743 : BitVec 32 := Scalar.addi v2 c7_i32_496
  let c32_i32_497 : BitVec 32 := 32#32
  let c0_i32_498 : BitVec 32 := 0#32
  let v744 : BitVec 1 := Scalar.cmpi .eq c32_i32_497 c0_i32_498
  let c1_i32_499 : BitVec 32 := 1#32
  let v745 : BitVec 32 := Scalar.select v744 c1_i32_499 c32_i32_497
  let v746 : BitVec 32 := Scalar.remsi v743 v745
  let c0_i32_501 : BitVec 32 := 0#32
  let v748 : BitVec 1 := Scalar.cmpi .slt v746 c0_i32_501
  let c0_i32_502 : BitVec 32 := 0#32
  let v749 : BitVec 1 := Scalar.cmpi .slt v745 c0_i32_502
  let v750 : BitVec 1 := Scalar.xori v748 v749
  let c0_i32_500 : BitVec 32 := 0#32
  let v747 : BitVec 1 := Scalar.cmpi .ne v746 c0_i32_500
  let v751 : BitVec 1 := Scalar.andi v750 v747
  let v752 : BitVec 32 := Scalar.addi v746 v745
  let v753 : BitVec 32 := Scalar.select v751 v752 v746
  let c16_i32_503 : BitVec 32 := 16#32
  let v754 : BitVec 32 := Scalar.muli v753 c16_i32_503
  v754
def k0_dev38 (d0 : Dev nD) : Nat :=
  let c0_i32_506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_496 : BitVec 32 := 7#32
  let v743 : BitVec 32 := Scalar.addi v2 c7_i32_496
  let c32_i32_497 : BitVec 32 := 32#32
  let c0_i32_498 : BitVec 32 := 0#32
  let v744 : BitVec 1 := Scalar.cmpi .eq c32_i32_497 c0_i32_498
  let c1_i32_499 : BitVec 32 := 1#32
  let v745 : BitVec 32 := Scalar.select v744 c1_i32_499 c32_i32_497
  let v746 : BitVec 32 := Scalar.remsi v743 v745
  let c0_i32_501 : BitVec 32 := 0#32
  let v748 : BitVec 1 := Scalar.cmpi .slt v746 c0_i32_501
  let c0_i32_502 : BitVec 32 := 0#32
  let v749 : BitVec 1 := Scalar.cmpi .slt v745 c0_i32_502
  let v750 : BitVec 1 := Scalar.xori v748 v749
  let c0_i32_500 : BitVec 32 := 0#32
  let v747 : BitVec 1 := Scalar.cmpi .ne v746 c0_i32_500
  let v751 : BitVec 1 := Scalar.andi v750 v747
  let v752 : BitVec 32 := Scalar.addi v746 v745
  let v753 : BitVec 32 := Scalar.select v751 v752 v746
  let c1_i32_505 : BitVec 32 := 1#32
  let v756 : BitVec 32 := Scalar.muli v753 c1_i32_505
  let v757 : BitVec 32 := Scalar.addi c0_i32_506 v756
  v757.toNat
def k0_mult9 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_509 : BitVec 32 := 8#32
  let v764 : BitVec 32 := Scalar.addi v2 c8_i32_509
  let c32_i32_510 : BitVec 32 := 32#32
  let c0_i32_511 : BitVec 32 := 0#32
  let v765 : BitVec 1 := Scalar.cmpi .eq c32_i32_510 c0_i32_511
  let c1_i32_512 : BitVec 32 := 1#32
  let v766 : BitVec 32 := Scalar.select v765 c1_i32_512 c32_i32_510
  let v767 : BitVec 32 := Scalar.remsi v764 v766
  let c0_i32_514 : BitVec 32 := 0#32
  let v769 : BitVec 1 := Scalar.cmpi .slt v767 c0_i32_514
  let c0_i32_515 : BitVec 32 := 0#32
  let v770 : BitVec 1 := Scalar.cmpi .slt v766 c0_i32_515
  let v771 : BitVec 1 := Scalar.xori v769 v770
  let c0_i32_513 : BitVec 32 := 0#32
  let v768 : BitVec 1 := Scalar.cmpi .ne v767 c0_i32_513
  let v772 : BitVec 1 := Scalar.andi v771 v768
  let v773 : BitVec 32 := Scalar.addi v767 v766
  let v774 : BitVec 32 := Scalar.select v772 v773 v767
  let c16_i32_516 : BitVec 32 := 16#32
  let v775 : BitVec 32 := Scalar.muli v774 c16_i32_516
  v775
def k0_dev39 (d0 : Dev nD) : Nat :=
  let c0_i32_519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_509 : BitVec 32 := 8#32
  let v764 : BitVec 32 := Scalar.addi v2 c8_i32_509
  let c32_i32_510 : BitVec 32 := 32#32
  let c0_i32_511 : BitVec 32 := 0#32
  let v765 : BitVec 1 := Scalar.cmpi .eq c32_i32_510 c0_i32_511
  let c1_i32_512 : BitVec 32 := 1#32
  let v766 : BitVec 32 := Scalar.select v765 c1_i32_512 c32_i32_510
  let v767 : BitVec 32 := Scalar.remsi v764 v766
  let c0_i32_514 : BitVec 32 := 0#32
  let v769 : BitVec 1 := Scalar.cmpi .slt v767 c0_i32_514
  let c0_i32_515 : BitVec 32 := 0#32
  let v770 : BitVec 1 := Scalar.cmpi .slt v766 c0_i32_515
  let v771 : BitVec 1 := Scalar.xori v769 v770
  let c0_i32_513 : BitVec 32 := 0#32
  let v768 : BitVec 1 := Scalar.cmpi .ne v767 c0_i32_513
  let v772 : BitVec 1 := Scalar.andi v771 v768
  let v773 : BitVec 32 := Scalar.addi v767 v766
  let v774 : BitVec 32 := Scalar.select v772 v773 v767
  let c1_i32_518 : BitVec 32 := 1#32
  let v777 : BitVec 32 := Scalar.muli v774 c1_i32_518
  let v778 : BitVec 32 := Scalar.addi c0_i32_519 v777
  v778.toNat
def k0_mult10 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_522 : BitVec 32 := 9#32
  let v785 : BitVec 32 := Scalar.addi v2 c9_i32_522
  let c32_i32_523 : BitVec 32 := 32#32
  let c0_i32_524 : BitVec 32 := 0#32
  let v786 : BitVec 1 := Scalar.cmpi .eq c32_i32_523 c0_i32_524
  let c1_i32_525 : BitVec 32 := 1#32
  let v787 : BitVec 32 := Scalar.select v786 c1_i32_525 c32_i32_523
  let v788 : BitVec 32 := Scalar.remsi v785 v787
  let c0_i32_527 : BitVec 32 := 0#32
  let v790 : BitVec 1 := Scalar.cmpi .slt v788 c0_i32_527
  let c0_i32_528 : BitVec 32 := 0#32
  let v791 : BitVec 1 := Scalar.cmpi .slt v787 c0_i32_528
  let v792 : BitVec 1 := Scalar.xori v790 v791
  let c0_i32_526 : BitVec 32 := 0#32
  let v789 : BitVec 1 := Scalar.cmpi .ne v788 c0_i32_526
  let v793 : BitVec 1 := Scalar.andi v792 v789
  let v794 : BitVec 32 := Scalar.addi v788 v787
  let v795 : BitVec 32 := Scalar.select v793 v794 v788
  let c16_i32_529 : BitVec 32 := 16#32
  let v796 : BitVec 32 := Scalar.muli v795 c16_i32_529
  v796
def k0_dev40 (d0 : Dev nD) : Nat :=
  let c0_i32_532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_522 : BitVec 32 := 9#32
  let v785 : BitVec 32 := Scalar.addi v2 c9_i32_522
  let c32_i32_523 : BitVec 32 := 32#32
  let c0_i32_524 : BitVec 32 := 0#32
  let v786 : BitVec 1 := Scalar.cmpi .eq c32_i32_523 c0_i32_524
  let c1_i32_525 : BitVec 32 := 1#32
  let v787 : BitVec 32 := Scalar.select v786 c1_i32_525 c32_i32_523
  let v788 : BitVec 32 := Scalar.remsi v785 v787
  let c0_i32_527 : BitVec 32 := 0#32
  let v790 : BitVec 1 := Scalar.cmpi .slt v788 c0_i32_527
  let c0_i32_528 : BitVec 32 := 0#32
  let v791 : BitVec 1 := Scalar.cmpi .slt v787 c0_i32_528
  let v792 : BitVec 1 := Scalar.xori v790 v791
  let c0_i32_526 : BitVec 32 := 0#32
  let v789 : BitVec 1 := Scalar.cmpi .ne v788 c0_i32_526
  let v793 : BitVec 1 := Scalar.andi v792 v789
  let v794 : BitVec 32 := Scalar.addi v788 v787
  let v795 : BitVec 32 := Scalar.select v793 v794 v788
  let c1_i32_531 : BitVec 32 := 1#32
  let v798 : BitVec 32 := Scalar.muli v795 c1_i32_531
  let v799 : BitVec 32 := Scalar.addi c0_i32_532 v798
  v799.toNat
def k0_mult11 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_535 : BitVec 32 := 10#32
  let v806 : BitVec 32 := Scalar.addi v2 c10_i32_535
  let c32_i32_536 : BitVec 32 := 32#32
  let c0_i32_537 : BitVec 32 := 0#32
  let v807 : BitVec 1 := Scalar.cmpi .eq c32_i32_536 c0_i32_537
  let c1_i32_538 : BitVec 32 := 1#32
  let v808 : BitVec 32 := Scalar.select v807 c1_i32_538 c32_i32_536
  let v809 : BitVec 32 := Scalar.remsi v806 v808
  let c0_i32_540 : BitVec 32 := 0#32
  let v811 : BitVec 1 := Scalar.cmpi .slt v809 c0_i32_540
  let c0_i32_541 : BitVec 32 := 0#32
  let v812 : BitVec 1 := Scalar.cmpi .slt v808 c0_i32_541
  let v813 : BitVec 1 := Scalar.xori v811 v812
  let c0_i32_539 : BitVec 32 := 0#32
  let v810 : BitVec 1 := Scalar.cmpi .ne v809 c0_i32_539
  let v814 : BitVec 1 := Scalar.andi v813 v810
  let v815 : BitVec 32 := Scalar.addi v809 v808
  let v816 : BitVec 32 := Scalar.select v814 v815 v809
  let c16_i32_542 : BitVec 32 := 16#32
  let v817 : BitVec 32 := Scalar.muli v816 c16_i32_542
  v817
def k0_dev41 (d0 : Dev nD) : Nat :=
  let c0_i32_545 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_535 : BitVec 32 := 10#32
  let v806 : BitVec 32 := Scalar.addi v2 c10_i32_535
  let c32_i32_536 : BitVec 32 := 32#32
  let c0_i32_537 : BitVec 32 := 0#32
  let v807 : BitVec 1 := Scalar.cmpi .eq c32_i32_536 c0_i32_537
  let c1_i32_538 : BitVec 32 := 1#32
  let v808 : BitVec 32 := Scalar.select v807 c1_i32_538 c32_i32_536
  let v809 : BitVec 32 := Scalar.remsi v806 v808
  let c0_i32_540 : BitVec 32 := 0#32
  let v811 : BitVec 1 := Scalar.cmpi .slt v809 c0_i32_540
  let c0_i32_541 : BitVec 32 := 0#32
  let v812 : BitVec 1 := Scalar.cmpi .slt v808 c0_i32_541
  let v813 : BitVec 1 := Scalar.xori v811 v812
  let c0_i32_539 : BitVec 32 := 0#32
  let v810 : BitVec 1 := Scalar.cmpi .ne v809 c0_i32_539
  let v814 : BitVec 1 := Scalar.andi v813 v810
  let v815 : BitVec 32 := Scalar.addi v809 v808
  let v816 : BitVec 32 := Scalar.select v814 v815 v809
  let c1_i32_544 : BitVec 32 := 1#32
  let v819 : BitVec 32 := Scalar.muli v816 c1_i32_544
  let v820 : BitVec 32 := Scalar.addi c0_i32_545 v819
  v820.toNat
def k0_mult12 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_548 : BitVec 32 := 11#32
  let v827 : BitVec 32 := Scalar.addi v2 c11_i32_548
  let c32_i32_549 : BitVec 32 := 32#32
  let c0_i32_550 : BitVec 32 := 0#32
  let v828 : BitVec 1 := Scalar.cmpi .eq c32_i32_549 c0_i32_550
  let c1_i32_551 : BitVec 32 := 1#32
  let v829 : BitVec 32 := Scalar.select v828 c1_i32_551 c32_i32_549
  let v830 : BitVec 32 := Scalar.remsi v827 v829
  let c0_i32_553 : BitVec 32 := 0#32
  let v832 : BitVec 1 := Scalar.cmpi .slt v830 c0_i32_553
  let c0_i32_554 : BitVec 32 := 0#32
  let v833 : BitVec 1 := Scalar.cmpi .slt v829 c0_i32_554
  let v834 : BitVec 1 := Scalar.xori v832 v833
  let c0_i32_552 : BitVec 32 := 0#32
  let v831 : BitVec 1 := Scalar.cmpi .ne v830 c0_i32_552
  let v835 : BitVec 1 := Scalar.andi v834 v831
  let v836 : BitVec 32 := Scalar.addi v830 v829
  let v837 : BitVec 32 := Scalar.select v835 v836 v830
  let c16_i32_555 : BitVec 32 := 16#32
  let v838 : BitVec 32 := Scalar.muli v837 c16_i32_555
  v838
def k0_dev42 (d0 : Dev nD) : Nat :=
  let c0_i32_558 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_548 : BitVec 32 := 11#32
  let v827 : BitVec 32 := Scalar.addi v2 c11_i32_548
  let c32_i32_549 : BitVec 32 := 32#32
  let c0_i32_550 : BitVec 32 := 0#32
  let v828 : BitVec 1 := Scalar.cmpi .eq c32_i32_549 c0_i32_550
  let c1_i32_551 : BitVec 32 := 1#32
  let v829 : BitVec 32 := Scalar.select v828 c1_i32_551 c32_i32_549
  let v830 : BitVec 32 := Scalar.remsi v827 v829
  let c0_i32_553 : BitVec 32 := 0#32
  let v832 : BitVec 1 := Scalar.cmpi .slt v830 c0_i32_553
  let c0_i32_554 : BitVec 32 := 0#32
  let v833 : BitVec 1 := Scalar.cmpi .slt v829 c0_i32_554
  let v834 : BitVec 1 := Scalar.xori v832 v833
  let c0_i32_552 : BitVec 32 := 0#32
  let v831 : BitVec 1 := Scalar.cmpi .ne v830 c0_i32_552
  let v835 : BitVec 1 := Scalar.andi v834 v831
  let v836 : BitVec 32 := Scalar.addi v830 v829
  let v837 : BitVec 32 := Scalar.select v835 v836 v830
  let c1_i32_557 : BitVec 32 := 1#32
  let v840 : BitVec 32 := Scalar.muli v837 c1_i32_557
  let v841 : BitVec 32 := Scalar.addi c0_i32_558 v840
  v841.toNat
def k0_mult13 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_561 : BitVec 32 := 12#32
  let v848 : BitVec 32 := Scalar.addi v2 c12_i32_561
  let c32_i32_562 : BitVec 32 := 32#32
  let c0_i32_563 : BitVec 32 := 0#32
  let v849 : BitVec 1 := Scalar.cmpi .eq c32_i32_562 c0_i32_563
  let c1_i32_564 : BitVec 32 := 1#32
  let v850 : BitVec 32 := Scalar.select v849 c1_i32_564 c32_i32_562
  let v851 : BitVec 32 := Scalar.remsi v848 v850
  let c0_i32_566 : BitVec 32 := 0#32
  let v853 : BitVec 1 := Scalar.cmpi .slt v851 c0_i32_566
  let c0_i32_567 : BitVec 32 := 0#32
  let v854 : BitVec 1 := Scalar.cmpi .slt v850 c0_i32_567
  let v855 : BitVec 1 := Scalar.xori v853 v854
  let c0_i32_565 : BitVec 32 := 0#32
  let v852 : BitVec 1 := Scalar.cmpi .ne v851 c0_i32_565
  let v856 : BitVec 1 := Scalar.andi v855 v852
  let v857 : BitVec 32 := Scalar.addi v851 v850
  let v858 : BitVec 32 := Scalar.select v856 v857 v851
  let c16_i32_568 : BitVec 32 := 16#32
  let v859 : BitVec 32 := Scalar.muli v858 c16_i32_568
  v859
def k0_dev43 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_561 : BitVec 32 := 12#32
  let v848 : BitVec 32 := Scalar.addi v2 c12_i32_561
  let c32_i32_562 : BitVec 32 := 32#32
  let c0_i32_563 : BitVec 32 := 0#32
  let v849 : BitVec 1 := Scalar.cmpi .eq c32_i32_562 c0_i32_563
  let c1_i32_564 : BitVec 32 := 1#32
  let v850 : BitVec 32 := Scalar.select v849 c1_i32_564 c32_i32_562
  let v851 : BitVec 32 := Scalar.remsi v848 v850
  let c0_i32_566 : BitVec 32 := 0#32
  let v853 : BitVec 1 := Scalar.cmpi .slt v851 c0_i32_566
  let c0_i32_567 : BitVec 32 := 0#32
  let v854 : BitVec 1 := Scalar.cmpi .slt v850 c0_i32_567
  let v855 : BitVec 1 := Scalar.xori v853 v854
  let c0_i32_565 : BitVec 32 := 0#32
  let v852 : BitVec 1 := Scalar.cmpi .ne v851 c0_i32_565
  let v856 : BitVec 1 := Scalar.andi v855 v852
  let v857 : BitVec 32 := Scalar.addi v851 v850
  let v858 : BitVec 32 := Scalar.select v856 v857 v851
  let c1_i32_570 : BitVec 32 := 1#32
  let v861 : BitVec 32 := Scalar.muli v858 c1_i32_570
  let v862 : BitVec 32 := Scalar.addi c0_i32_571 v861
  v862.toNat
def k0_mult14 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_574 : BitVec 32 := 13#32
  let v869 : BitVec 32 := Scalar.addi v2 c13_i32_574
  let c32_i32_575 : BitVec 32 := 32#32
  let c0_i32_576 : BitVec 32 := 0#32
  let v870 : BitVec 1 := Scalar.cmpi .eq c32_i32_575 c0_i32_576
  let c1_i32_577 : BitVec 32 := 1#32
  let v871 : BitVec 32 := Scalar.select v870 c1_i32_577 c32_i32_575
  let v872 : BitVec 32 := Scalar.remsi v869 v871
  let c0_i32_579 : BitVec 32 := 0#32
  let v874 : BitVec 1 := Scalar.cmpi .slt v872 c0_i32_579
  let c0_i32_580 : BitVec 32 := 0#32
  let v875 : BitVec 1 := Scalar.cmpi .slt v871 c0_i32_580
  let v876 : BitVec 1 := Scalar.xori v874 v875
  let c0_i32_578 : BitVec 32 := 0#32
  let v873 : BitVec 1 := Scalar.cmpi .ne v872 c0_i32_578
  let v877 : BitVec 1 := Scalar.andi v876 v873
  let v878 : BitVec 32 := Scalar.addi v872 v871
  let v879 : BitVec 32 := Scalar.select v877 v878 v872
  let c16_i32_581 : BitVec 32 := 16#32
  let v880 : BitVec 32 := Scalar.muli v879 c16_i32_581
  v880
def k0_dev44 (d0 : Dev nD) : Nat :=
  let c0_i32_584 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_574 : BitVec 32 := 13#32
  let v869 : BitVec 32 := Scalar.addi v2 c13_i32_574
  let c32_i32_575 : BitVec 32 := 32#32
  let c0_i32_576 : BitVec 32 := 0#32
  let v870 : BitVec 1 := Scalar.cmpi .eq c32_i32_575 c0_i32_576
  let c1_i32_577 : BitVec 32 := 1#32
  let v871 : BitVec 32 := Scalar.select v870 c1_i32_577 c32_i32_575
  let v872 : BitVec 32 := Scalar.remsi v869 v871
  let c0_i32_579 : BitVec 32 := 0#32
  let v874 : BitVec 1 := Scalar.cmpi .slt v872 c0_i32_579
  let c0_i32_580 : BitVec 32 := 0#32
  let v875 : BitVec 1 := Scalar.cmpi .slt v871 c0_i32_580
  let v876 : BitVec 1 := Scalar.xori v874 v875
  let c0_i32_578 : BitVec 32 := 0#32
  let v873 : BitVec 1 := Scalar.cmpi .ne v872 c0_i32_578
  let v877 : BitVec 1 := Scalar.andi v876 v873
  let v878 : BitVec 32 := Scalar.addi v872 v871
  let v879 : BitVec 32 := Scalar.select v877 v878 v872
  let c1_i32_583 : BitVec 32 := 1#32
  let v882 : BitVec 32 := Scalar.muli v879 c1_i32_583
  let v883 : BitVec 32 := Scalar.addi c0_i32_584 v882
  v883.toNat
def k0_mult15 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_587 : BitVec 32 := 14#32
  let v890 : BitVec 32 := Scalar.addi v2 c14_i32_587
  let c32_i32_588 : BitVec 32 := 32#32
  let c0_i32_589 : BitVec 32 := 0#32
  let v891 : BitVec 1 := Scalar.cmpi .eq c32_i32_588 c0_i32_589
  let c1_i32_590 : BitVec 32 := 1#32
  let v892 : BitVec 32 := Scalar.select v891 c1_i32_590 c32_i32_588
  let v893 : BitVec 32 := Scalar.remsi v890 v892
  let c0_i32_592 : BitVec 32 := 0#32
  let v895 : BitVec 1 := Scalar.cmpi .slt v893 c0_i32_592
  let c0_i32_593 : BitVec 32 := 0#32
  let v896 : BitVec 1 := Scalar.cmpi .slt v892 c0_i32_593
  let v897 : BitVec 1 := Scalar.xori v895 v896
  let c0_i32_591 : BitVec 32 := 0#32
  let v894 : BitVec 1 := Scalar.cmpi .ne v893 c0_i32_591
  let v898 : BitVec 1 := Scalar.andi v897 v894
  let v899 : BitVec 32 := Scalar.addi v893 v892
  let v900 : BitVec 32 := Scalar.select v898 v899 v893
  let c16_i32_594 : BitVec 32 := 16#32
  let v901 : BitVec 32 := Scalar.muli v900 c16_i32_594
  v901
def k0_dev45 (d0 : Dev nD) : Nat :=
  let c0_i32_597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_587 : BitVec 32 := 14#32
  let v890 : BitVec 32 := Scalar.addi v2 c14_i32_587
  let c32_i32_588 : BitVec 32 := 32#32
  let c0_i32_589 : BitVec 32 := 0#32
  let v891 : BitVec 1 := Scalar.cmpi .eq c32_i32_588 c0_i32_589
  let c1_i32_590 : BitVec 32 := 1#32
  let v892 : BitVec 32 := Scalar.select v891 c1_i32_590 c32_i32_588
  let v893 : BitVec 32 := Scalar.remsi v890 v892
  let c0_i32_592 : BitVec 32 := 0#32
  let v895 : BitVec 1 := Scalar.cmpi .slt v893 c0_i32_592
  let c0_i32_593 : BitVec 32 := 0#32
  let v896 : BitVec 1 := Scalar.cmpi .slt v892 c0_i32_593
  let v897 : BitVec 1 := Scalar.xori v895 v896
  let c0_i32_591 : BitVec 32 := 0#32
  let v894 : BitVec 1 := Scalar.cmpi .ne v893 c0_i32_591
  let v898 : BitVec 1 := Scalar.andi v897 v894
  let v899 : BitVec 32 := Scalar.addi v893 v892
  let v900 : BitVec 32 := Scalar.select v898 v899 v893
  let c1_i32_596 : BitVec 32 := 1#32
  let v903 : BitVec 32 := Scalar.muli v900 c1_i32_596
  let v904 : BitVec 32 := Scalar.addi c0_i32_597 v903
  v904.toNat
def k0_mult16 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_600 : BitVec 32 := 15#32
  let v911 : BitVec 32 := Scalar.addi v2 c15_i32_600
  let c32_i32_601 : BitVec 32 := 32#32
  let c0_i32_602 : BitVec 32 := 0#32
  let v912 : BitVec 1 := Scalar.cmpi .eq c32_i32_601 c0_i32_602
  let c1_i32_603 : BitVec 32 := 1#32
  let v913 : BitVec 32 := Scalar.select v912 c1_i32_603 c32_i32_601
  let v914 : BitVec 32 := Scalar.remsi v911 v913
  let c0_i32_605 : BitVec 32 := 0#32
  let v916 : BitVec 1 := Scalar.cmpi .slt v914 c0_i32_605
  let c0_i32_606 : BitVec 32 := 0#32
  let v917 : BitVec 1 := Scalar.cmpi .slt v913 c0_i32_606
  let v918 : BitVec 1 := Scalar.xori v916 v917
  let c0_i32_604 : BitVec 32 := 0#32
  let v915 : BitVec 1 := Scalar.cmpi .ne v914 c0_i32_604
  let v919 : BitVec 1 := Scalar.andi v918 v915
  let v920 : BitVec 32 := Scalar.addi v914 v913
  let v921 : BitVec 32 := Scalar.select v919 v920 v914
  let c16_i32_607 : BitVec 32 := 16#32
  let v922 : BitVec 32 := Scalar.muli v921 c16_i32_607
  v922
def k0_dev46 (d0 : Dev nD) : Nat :=
  let c0_i32_610 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_600 : BitVec 32 := 15#32
  let v911 : BitVec 32 := Scalar.addi v2 c15_i32_600
  let c32_i32_601 : BitVec 32 := 32#32
  let c0_i32_602 : BitVec 32 := 0#32
  let v912 : BitVec 1 := Scalar.cmpi .eq c32_i32_601 c0_i32_602
  let c1_i32_603 : BitVec 32 := 1#32
  let v913 : BitVec 32 := Scalar.select v912 c1_i32_603 c32_i32_601
  let v914 : BitVec 32 := Scalar.remsi v911 v913
  let c0_i32_605 : BitVec 32 := 0#32
  let v916 : BitVec 1 := Scalar.cmpi .slt v914 c0_i32_605
  let c0_i32_606 : BitVec 32 := 0#32
  let v917 : BitVec 1 := Scalar.cmpi .slt v913 c0_i32_606
  let v918 : BitVec 1 := Scalar.xori v916 v917
  let c0_i32_604 : BitVec 32 := 0#32
  let v915 : BitVec 1 := Scalar.cmpi .ne v914 c0_i32_604
  let v919 : BitVec 1 := Scalar.andi v918 v915
  let v920 : BitVec 32 := Scalar.addi v914 v913
  let v921 : BitVec 32 := Scalar.select v919 v920 v914
  let c1_i32_609 : BitVec 32 := 1#32
  let v924 : BitVec 32 := Scalar.muli v921 c1_i32_609
  let v925 : BitVec 32 := Scalar.addi c0_i32_610 v924
  v925.toNat
def k0_mult17 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_613 : BitVec 32 := 16#32
  let v932 : BitVec 32 := Scalar.addi v2 c16_i32_613
  let c32_i32_614 : BitVec 32 := 32#32
  let c0_i32_615 : BitVec 32 := 0#32
  let v933 : BitVec 1 := Scalar.cmpi .eq c32_i32_614 c0_i32_615
  let c1_i32_616 : BitVec 32 := 1#32
  let v934 : BitVec 32 := Scalar.select v933 c1_i32_616 c32_i32_614
  let v935 : BitVec 32 := Scalar.remsi v932 v934
  let c0_i32_618 : BitVec 32 := 0#32
  let v937 : BitVec 1 := Scalar.cmpi .slt v935 c0_i32_618
  let c0_i32_619 : BitVec 32 := 0#32
  let v938 : BitVec 1 := Scalar.cmpi .slt v934 c0_i32_619
  let v939 : BitVec 1 := Scalar.xori v937 v938
  let c0_i32_617 : BitVec 32 := 0#32
  let v936 : BitVec 1 := Scalar.cmpi .ne v935 c0_i32_617
  let v940 : BitVec 1 := Scalar.andi v939 v936
  let v941 : BitVec 32 := Scalar.addi v935 v934
  let v942 : BitVec 32 := Scalar.select v940 v941 v935
  let c16_i32_620 : BitVec 32 := 16#32
  let v943 : BitVec 32 := Scalar.muli v942 c16_i32_620
  v943
def k0_dev47 (d0 : Dev nD) : Nat :=
  let c0_i32_623 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_613 : BitVec 32 := 16#32
  let v932 : BitVec 32 := Scalar.addi v2 c16_i32_613
  let c32_i32_614 : BitVec 32 := 32#32
  let c0_i32_615 : BitVec 32 := 0#32
  let v933 : BitVec 1 := Scalar.cmpi .eq c32_i32_614 c0_i32_615
  let c1_i32_616 : BitVec 32 := 1#32
  let v934 : BitVec 32 := Scalar.select v933 c1_i32_616 c32_i32_614
  let v935 : BitVec 32 := Scalar.remsi v932 v934
  let c0_i32_618 : BitVec 32 := 0#32
  let v937 : BitVec 1 := Scalar.cmpi .slt v935 c0_i32_618
  let c0_i32_619 : BitVec 32 := 0#32
  let v938 : BitVec 1 := Scalar.cmpi .slt v934 c0_i32_619
  let v939 : BitVec 1 := Scalar.xori v937 v938
  let c0_i32_617 : BitVec 32 := 0#32
  let v936 : BitVec 1 := Scalar.cmpi .ne v935 c0_i32_617
  let v940 : BitVec 1 := Scalar.andi v939 v936
  let v941 : BitVec 32 := Scalar.addi v935 v934
  let v942 : BitVec 32 := Scalar.select v940 v941 v935
  let c1_i32_622 : BitVec 32 := 1#32
  let v945 : BitVec 32 := Scalar.muli v942 c1_i32_622
  let v946 : BitVec 32 := Scalar.addi c0_i32_623 v945
  v946.toNat
def k0_mult18 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_626 : BitVec 32 := 17#32
  let v953 : BitVec 32 := Scalar.addi v2 c17_i32_626
  let c32_i32_627 : BitVec 32 := 32#32
  let c0_i32_628 : BitVec 32 := 0#32
  let v954 : BitVec 1 := Scalar.cmpi .eq c32_i32_627 c0_i32_628
  let c1_i32_629 : BitVec 32 := 1#32
  let v955 : BitVec 32 := Scalar.select v954 c1_i32_629 c32_i32_627
  let v956 : BitVec 32 := Scalar.remsi v953 v955
  let c0_i32_631 : BitVec 32 := 0#32
  let v958 : BitVec 1 := Scalar.cmpi .slt v956 c0_i32_631
  let c0_i32_632 : BitVec 32 := 0#32
  let v959 : BitVec 1 := Scalar.cmpi .slt v955 c0_i32_632
  let v960 : BitVec 1 := Scalar.xori v958 v959
  let c0_i32_630 : BitVec 32 := 0#32
  let v957 : BitVec 1 := Scalar.cmpi .ne v956 c0_i32_630
  let v961 : BitVec 1 := Scalar.andi v960 v957
  let v962 : BitVec 32 := Scalar.addi v956 v955
  let v963 : BitVec 32 := Scalar.select v961 v962 v956
  let c16_i32_633 : BitVec 32 := 16#32
  let v964 : BitVec 32 := Scalar.muli v963 c16_i32_633
  v964
def k0_dev48 (d0 : Dev nD) : Nat :=
  let c0_i32_636 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_626 : BitVec 32 := 17#32
  let v953 : BitVec 32 := Scalar.addi v2 c17_i32_626
  let c32_i32_627 : BitVec 32 := 32#32
  let c0_i32_628 : BitVec 32 := 0#32
  let v954 : BitVec 1 := Scalar.cmpi .eq c32_i32_627 c0_i32_628
  let c1_i32_629 : BitVec 32 := 1#32
  let v955 : BitVec 32 := Scalar.select v954 c1_i32_629 c32_i32_627
  let v956 : BitVec 32 := Scalar.remsi v953 v955
  let c0_i32_631 : BitVec 32 := 0#32
  let v958 : BitVec 1 := Scalar.cmpi .slt v956 c0_i32_631
  let c0_i32_632 : BitVec 32 := 0#32
  let v959 : BitVec 1 := Scalar.cmpi .slt v955 c0_i32_632
  let v960 : BitVec 1 := Scalar.xori v958 v959
  let c0_i32_630 : BitVec 32 := 0#32
  let v957 : BitVec 1 := Scalar.cmpi .ne v956 c0_i32_630
  let v961 : BitVec 1 := Scalar.andi v960 v957
  let v962 : BitVec 32 := Scalar.addi v956 v955
  let v963 : BitVec 32 := Scalar.select v961 v962 v956
  let c1_i32_635 : BitVec 32 := 1#32
  let v966 : BitVec 32 := Scalar.muli v963 c1_i32_635
  let v967 : BitVec 32 := Scalar.addi c0_i32_636 v966
  v967.toNat
def k0_mult19 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_639 : BitVec 32 := 18#32
  let v974 : BitVec 32 := Scalar.addi v2 c18_i32_639
  let c32_i32_640 : BitVec 32 := 32#32
  let c0_i32_641 : BitVec 32 := 0#32
  let v975 : BitVec 1 := Scalar.cmpi .eq c32_i32_640 c0_i32_641
  let c1_i32_642 : BitVec 32 := 1#32
  let v976 : BitVec 32 := Scalar.select v975 c1_i32_642 c32_i32_640
  let v977 : BitVec 32 := Scalar.remsi v974 v976
  let c0_i32_644 : BitVec 32 := 0#32
  let v979 : BitVec 1 := Scalar.cmpi .slt v977 c0_i32_644
  let c0_i32_645 : BitVec 32 := 0#32
  let v980 : BitVec 1 := Scalar.cmpi .slt v976 c0_i32_645
  let v981 : BitVec 1 := Scalar.xori v979 v980
  let c0_i32_643 : BitVec 32 := 0#32
  let v978 : BitVec 1 := Scalar.cmpi .ne v977 c0_i32_643
  let v982 : BitVec 1 := Scalar.andi v981 v978
  let v983 : BitVec 32 := Scalar.addi v977 v976
  let v984 : BitVec 32 := Scalar.select v982 v983 v977
  let c16_i32_646 : BitVec 32 := 16#32
  let v985 : BitVec 32 := Scalar.muli v984 c16_i32_646
  v985
def k0_dev49 (d0 : Dev nD) : Nat :=
  let c0_i32_649 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_639 : BitVec 32 := 18#32
  let v974 : BitVec 32 := Scalar.addi v2 c18_i32_639
  let c32_i32_640 : BitVec 32 := 32#32
  let c0_i32_641 : BitVec 32 := 0#32
  let v975 : BitVec 1 := Scalar.cmpi .eq c32_i32_640 c0_i32_641
  let c1_i32_642 : BitVec 32 := 1#32
  let v976 : BitVec 32 := Scalar.select v975 c1_i32_642 c32_i32_640
  let v977 : BitVec 32 := Scalar.remsi v974 v976
  let c0_i32_644 : BitVec 32 := 0#32
  let v979 : BitVec 1 := Scalar.cmpi .slt v977 c0_i32_644
  let c0_i32_645 : BitVec 32 := 0#32
  let v980 : BitVec 1 := Scalar.cmpi .slt v976 c0_i32_645
  let v981 : BitVec 1 := Scalar.xori v979 v980
  let c0_i32_643 : BitVec 32 := 0#32
  let v978 : BitVec 1 := Scalar.cmpi .ne v977 c0_i32_643
  let v982 : BitVec 1 := Scalar.andi v981 v978
  let v983 : BitVec 32 := Scalar.addi v977 v976
  let v984 : BitVec 32 := Scalar.select v982 v983 v977
  let c1_i32_648 : BitVec 32 := 1#32
  let v987 : BitVec 32 := Scalar.muli v984 c1_i32_648
  let v988 : BitVec 32 := Scalar.addi c0_i32_649 v987
  v988.toNat
def k0_mult20 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_652 : BitVec 32 := 19#32
  let v995 : BitVec 32 := Scalar.addi v2 c19_i32_652
  let c32_i32_653 : BitVec 32 := 32#32
  let c0_i32_654 : BitVec 32 := 0#32
  let v996 : BitVec 1 := Scalar.cmpi .eq c32_i32_653 c0_i32_654
  let c1_i32_655 : BitVec 32 := 1#32
  let v997 : BitVec 32 := Scalar.select v996 c1_i32_655 c32_i32_653
  let v998 : BitVec 32 := Scalar.remsi v995 v997
  let c0_i32_657 : BitVec 32 := 0#32
  let v1000 : BitVec 1 := Scalar.cmpi .slt v998 c0_i32_657
  let c0_i32_658 : BitVec 32 := 0#32
  let v1001 : BitVec 1 := Scalar.cmpi .slt v997 c0_i32_658
  let v1002 : BitVec 1 := Scalar.xori v1000 v1001
  let c0_i32_656 : BitVec 32 := 0#32
  let v999 : BitVec 1 := Scalar.cmpi .ne v998 c0_i32_656
  let v1003 : BitVec 1 := Scalar.andi v1002 v999
  let v1004 : BitVec 32 := Scalar.addi v998 v997
  let v1005 : BitVec 32 := Scalar.select v1003 v1004 v998
  let c16_i32_659 : BitVec 32 := 16#32
  let v1006 : BitVec 32 := Scalar.muli v1005 c16_i32_659
  v1006
def k0_dev50 (d0 : Dev nD) : Nat :=
  let c0_i32_662 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_652 : BitVec 32 := 19#32
  let v995 : BitVec 32 := Scalar.addi v2 c19_i32_652
  let c32_i32_653 : BitVec 32 := 32#32
  let c0_i32_654 : BitVec 32 := 0#32
  let v996 : BitVec 1 := Scalar.cmpi .eq c32_i32_653 c0_i32_654
  let c1_i32_655 : BitVec 32 := 1#32
  let v997 : BitVec 32 := Scalar.select v996 c1_i32_655 c32_i32_653
  let v998 : BitVec 32 := Scalar.remsi v995 v997
  let c0_i32_657 : BitVec 32 := 0#32
  let v1000 : BitVec 1 := Scalar.cmpi .slt v998 c0_i32_657
  let c0_i32_658 : BitVec 32 := 0#32
  let v1001 : BitVec 1 := Scalar.cmpi .slt v997 c0_i32_658
  let v1002 : BitVec 1 := Scalar.xori v1000 v1001
  let c0_i32_656 : BitVec 32 := 0#32
  let v999 : BitVec 1 := Scalar.cmpi .ne v998 c0_i32_656
  let v1003 : BitVec 1 := Scalar.andi v1002 v999
  let v1004 : BitVec 32 := Scalar.addi v998 v997
  let v1005 : BitVec 32 := Scalar.select v1003 v1004 v998
  let c1_i32_661 : BitVec 32 := 1#32
  let v1008 : BitVec 32 := Scalar.muli v1005 c1_i32_661
  let v1009 : BitVec 32 := Scalar.addi c0_i32_662 v1008
  v1009.toNat
def k0_mult21 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_665 : BitVec 32 := 20#32
  let v1016 : BitVec 32 := Scalar.addi v2 c20_i32_665
  let c32_i32_666 : BitVec 32 := 32#32
  let c0_i32_667 : BitVec 32 := 0#32
  let v1017 : BitVec 1 := Scalar.cmpi .eq c32_i32_666 c0_i32_667
  let c1_i32_668 : BitVec 32 := 1#32
  let v1018 : BitVec 32 := Scalar.select v1017 c1_i32_668 c32_i32_666
  let v1019 : BitVec 32 := Scalar.remsi v1016 v1018
  let c0_i32_670 : BitVec 32 := 0#32
  let v1021 : BitVec 1 := Scalar.cmpi .slt v1019 c0_i32_670
  let c0_i32_671 : BitVec 32 := 0#32
  let v1022 : BitVec 1 := Scalar.cmpi .slt v1018 c0_i32_671
  let v1023 : BitVec 1 := Scalar.xori v1021 v1022
  let c0_i32_669 : BitVec 32 := 0#32
  let v1020 : BitVec 1 := Scalar.cmpi .ne v1019 c0_i32_669
  let v1024 : BitVec 1 := Scalar.andi v1023 v1020
  let v1025 : BitVec 32 := Scalar.addi v1019 v1018
  let v1026 : BitVec 32 := Scalar.select v1024 v1025 v1019
  let c16_i32_672 : BitVec 32 := 16#32
  let v1027 : BitVec 32 := Scalar.muli v1026 c16_i32_672
  v1027
def k0_dev51 (d0 : Dev nD) : Nat :=
  let c0_i32_675 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_665 : BitVec 32 := 20#32
  let v1016 : BitVec 32 := Scalar.addi v2 c20_i32_665
  let c32_i32_666 : BitVec 32 := 32#32
  let c0_i32_667 : BitVec 32 := 0#32
  let v1017 : BitVec 1 := Scalar.cmpi .eq c32_i32_666 c0_i32_667
  let c1_i32_668 : BitVec 32 := 1#32
  let v1018 : BitVec 32 := Scalar.select v1017 c1_i32_668 c32_i32_666
  let v1019 : BitVec 32 := Scalar.remsi v1016 v1018
  let c0_i32_670 : BitVec 32 := 0#32
  let v1021 : BitVec 1 := Scalar.cmpi .slt v1019 c0_i32_670
  let c0_i32_671 : BitVec 32 := 0#32
  let v1022 : BitVec 1 := Scalar.cmpi .slt v1018 c0_i32_671
  let v1023 : BitVec 1 := Scalar.xori v1021 v1022
  let c0_i32_669 : BitVec 32 := 0#32
  let v1020 : BitVec 1 := Scalar.cmpi .ne v1019 c0_i32_669
  let v1024 : BitVec 1 := Scalar.andi v1023 v1020
  let v1025 : BitVec 32 := Scalar.addi v1019 v1018
  let v1026 : BitVec 32 := Scalar.select v1024 v1025 v1019
  let c1_i32_674 : BitVec 32 := 1#32
  let v1029 : BitVec 32 := Scalar.muli v1026 c1_i32_674
  let v1030 : BitVec 32 := Scalar.addi c0_i32_675 v1029
  v1030.toNat
def k0_mult22 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_678 : BitVec 32 := 21#32
  let v1037 : BitVec 32 := Scalar.addi v2 c21_i32_678
  let c32_i32_679 : BitVec 32 := 32#32
  let c0_i32_680 : BitVec 32 := 0#32
  let v1038 : BitVec 1 := Scalar.cmpi .eq c32_i32_679 c0_i32_680
  let c1_i32_681 : BitVec 32 := 1#32
  let v1039 : BitVec 32 := Scalar.select v1038 c1_i32_681 c32_i32_679
  let v1040 : BitVec 32 := Scalar.remsi v1037 v1039
  let c0_i32_683 : BitVec 32 := 0#32
  let v1042 : BitVec 1 := Scalar.cmpi .slt v1040 c0_i32_683
  let c0_i32_684 : BitVec 32 := 0#32
  let v1043 : BitVec 1 := Scalar.cmpi .slt v1039 c0_i32_684
  let v1044 : BitVec 1 := Scalar.xori v1042 v1043
  let c0_i32_682 : BitVec 32 := 0#32
  let v1041 : BitVec 1 := Scalar.cmpi .ne v1040 c0_i32_682
  let v1045 : BitVec 1 := Scalar.andi v1044 v1041
  let v1046 : BitVec 32 := Scalar.addi v1040 v1039
  let v1047 : BitVec 32 := Scalar.select v1045 v1046 v1040
  let c16_i32_685 : BitVec 32 := 16#32
  let v1048 : BitVec 32 := Scalar.muli v1047 c16_i32_685
  v1048
def k0_dev52 (d0 : Dev nD) : Nat :=
  let c0_i32_688 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_678 : BitVec 32 := 21#32
  let v1037 : BitVec 32 := Scalar.addi v2 c21_i32_678
  let c32_i32_679 : BitVec 32 := 32#32
  let c0_i32_680 : BitVec 32 := 0#32
  let v1038 : BitVec 1 := Scalar.cmpi .eq c32_i32_679 c0_i32_680
  let c1_i32_681 : BitVec 32 := 1#32
  let v1039 : BitVec 32 := Scalar.select v1038 c1_i32_681 c32_i32_679
  let v1040 : BitVec 32 := Scalar.remsi v1037 v1039
  let c0_i32_683 : BitVec 32 := 0#32
  let v1042 : BitVec 1 := Scalar.cmpi .slt v1040 c0_i32_683
  let c0_i32_684 : BitVec 32 := 0#32
  let v1043 : BitVec 1 := Scalar.cmpi .slt v1039 c0_i32_684
  let v1044 : BitVec 1 := Scalar.xori v1042 v1043
  let c0_i32_682 : BitVec 32 := 0#32
  let v1041 : BitVec 1 := Scalar.cmpi .ne v1040 c0_i32_682
  let v1045 : BitVec 1 := Scalar.andi v1044 v1041
  let v1046 : BitVec 32 := Scalar.addi v1040 v1039
  let v1047 : BitVec 32 := Scalar.select v1045 v1046 v1040
  let c1_i32_687 : BitVec 32 := 1#32
  let v1050 : BitVec 32 := Scalar.muli v1047 c1_i32_687
  let v1051 : BitVec 32 := Scalar.addi c0_i32_688 v1050
  v1051.toNat
def k0_mult23 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_691 : BitVec 32 := 22#32
  let v1058 : BitVec 32 := Scalar.addi v2 c22_i32_691
  let c32_i32_692 : BitVec 32 := 32#32
  let c0_i32_693 : BitVec 32 := 0#32
  let v1059 : BitVec 1 := Scalar.cmpi .eq c32_i32_692 c0_i32_693
  let c1_i32_694 : BitVec 32 := 1#32
  let v1060 : BitVec 32 := Scalar.select v1059 c1_i32_694 c32_i32_692
  let v1061 : BitVec 32 := Scalar.remsi v1058 v1060
  let c0_i32_696 : BitVec 32 := 0#32
  let v1063 : BitVec 1 := Scalar.cmpi .slt v1061 c0_i32_696
  let c0_i32_697 : BitVec 32 := 0#32
  let v1064 : BitVec 1 := Scalar.cmpi .slt v1060 c0_i32_697
  let v1065 : BitVec 1 := Scalar.xori v1063 v1064
  let c0_i32_695 : BitVec 32 := 0#32
  let v1062 : BitVec 1 := Scalar.cmpi .ne v1061 c0_i32_695
  let v1066 : BitVec 1 := Scalar.andi v1065 v1062
  let v1067 : BitVec 32 := Scalar.addi v1061 v1060
  let v1068 : BitVec 32 := Scalar.select v1066 v1067 v1061
  let c16_i32_698 : BitVec 32 := 16#32
  let v1069 : BitVec 32 := Scalar.muli v1068 c16_i32_698
  v1069
def k0_dev53 (d0 : Dev nD) : Nat :=
  let c0_i32_701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_691 : BitVec 32 := 22#32
  let v1058 : BitVec 32 := Scalar.addi v2 c22_i32_691
  let c32_i32_692 : BitVec 32 := 32#32
  let c0_i32_693 : BitVec 32 := 0#32
  let v1059 : BitVec 1 := Scalar.cmpi .eq c32_i32_692 c0_i32_693
  let c1_i32_694 : BitVec 32 := 1#32
  let v1060 : BitVec 32 := Scalar.select v1059 c1_i32_694 c32_i32_692
  let v1061 : BitVec 32 := Scalar.remsi v1058 v1060
  let c0_i32_696 : BitVec 32 := 0#32
  let v1063 : BitVec 1 := Scalar.cmpi .slt v1061 c0_i32_696
  let c0_i32_697 : BitVec 32 := 0#32
  let v1064 : BitVec 1 := Scalar.cmpi .slt v1060 c0_i32_697
  let v1065 : BitVec 1 := Scalar.xori v1063 v1064
  let c0_i32_695 : BitVec 32 := 0#32
  let v1062 : BitVec 1 := Scalar.cmpi .ne v1061 c0_i32_695
  let v1066 : BitVec 1 := Scalar.andi v1065 v1062
  let v1067 : BitVec 32 := Scalar.addi v1061 v1060
  let v1068 : BitVec 32 := Scalar.select v1066 v1067 v1061
  let c1_i32_700 : BitVec 32 := 1#32
  let v1071 : BitVec 32 := Scalar.muli v1068 c1_i32_700
  let v1072 : BitVec 32 := Scalar.addi c0_i32_701 v1071
  v1072.toNat
def k0_mult24 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_704 : BitVec 32 := 23#32
  let v1079 : BitVec 32 := Scalar.addi v2 c23_i32_704
  let c32_i32_705 : BitVec 32 := 32#32
  let c0_i32_706 : BitVec 32 := 0#32
  let v1080 : BitVec 1 := Scalar.cmpi .eq c32_i32_705 c0_i32_706
  let c1_i32_707 : BitVec 32 := 1#32
  let v1081 : BitVec 32 := Scalar.select v1080 c1_i32_707 c32_i32_705
  let v1082 : BitVec 32 := Scalar.remsi v1079 v1081
  let c0_i32_709 : BitVec 32 := 0#32
  let v1084 : BitVec 1 := Scalar.cmpi .slt v1082 c0_i32_709
  let c0_i32_710 : BitVec 32 := 0#32
  let v1085 : BitVec 1 := Scalar.cmpi .slt v1081 c0_i32_710
  let v1086 : BitVec 1 := Scalar.xori v1084 v1085
  let c0_i32_708 : BitVec 32 := 0#32
  let v1083 : BitVec 1 := Scalar.cmpi .ne v1082 c0_i32_708
  let v1087 : BitVec 1 := Scalar.andi v1086 v1083
  let v1088 : BitVec 32 := Scalar.addi v1082 v1081
  let v1089 : BitVec 32 := Scalar.select v1087 v1088 v1082
  let c16_i32_711 : BitVec 32 := 16#32
  let v1090 : BitVec 32 := Scalar.muli v1089 c16_i32_711
  v1090
def k0_dev54 (d0 : Dev nD) : Nat :=
  let c0_i32_714 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_704 : BitVec 32 := 23#32
  let v1079 : BitVec 32 := Scalar.addi v2 c23_i32_704
  let c32_i32_705 : BitVec 32 := 32#32
  let c0_i32_706 : BitVec 32 := 0#32
  let v1080 : BitVec 1 := Scalar.cmpi .eq c32_i32_705 c0_i32_706
  let c1_i32_707 : BitVec 32 := 1#32
  let v1081 : BitVec 32 := Scalar.select v1080 c1_i32_707 c32_i32_705
  let v1082 : BitVec 32 := Scalar.remsi v1079 v1081
  let c0_i32_709 : BitVec 32 := 0#32
  let v1084 : BitVec 1 := Scalar.cmpi .slt v1082 c0_i32_709
  let c0_i32_710 : BitVec 32 := 0#32
  let v1085 : BitVec 1 := Scalar.cmpi .slt v1081 c0_i32_710
  let v1086 : BitVec 1 := Scalar.xori v1084 v1085
  let c0_i32_708 : BitVec 32 := 0#32
  let v1083 : BitVec 1 := Scalar.cmpi .ne v1082 c0_i32_708
  let v1087 : BitVec 1 := Scalar.andi v1086 v1083
  let v1088 : BitVec 32 := Scalar.addi v1082 v1081
  let v1089 : BitVec 32 := Scalar.select v1087 v1088 v1082
  let c1_i32_713 : BitVec 32 := 1#32
  let v1092 : BitVec 32 := Scalar.muli v1089 c1_i32_713
  let v1093 : BitVec 32 := Scalar.addi c0_i32_714 v1092
  v1093.toNat
def k0_mult25 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_717 : BitVec 32 := 24#32
  let v1100 : BitVec 32 := Scalar.addi v2 c24_i32_717
  let c32_i32_718 : BitVec 32 := 32#32
  let c0_i32_719 : BitVec 32 := 0#32
  let v1101 : BitVec 1 := Scalar.cmpi .eq c32_i32_718 c0_i32_719
  let c1_i32_720 : BitVec 32 := 1#32
  let v1102 : BitVec 32 := Scalar.select v1101 c1_i32_720 c32_i32_718
  let v1103 : BitVec 32 := Scalar.remsi v1100 v1102
  let c0_i32_722 : BitVec 32 := 0#32
  let v1105 : BitVec 1 := Scalar.cmpi .slt v1103 c0_i32_722
  let c0_i32_723 : BitVec 32 := 0#32
  let v1106 : BitVec 1 := Scalar.cmpi .slt v1102 c0_i32_723
  let v1107 : BitVec 1 := Scalar.xori v1105 v1106
  let c0_i32_721 : BitVec 32 := 0#32
  let v1104 : BitVec 1 := Scalar.cmpi .ne v1103 c0_i32_721
  let v1108 : BitVec 1 := Scalar.andi v1107 v1104
  let v1109 : BitVec 32 := Scalar.addi v1103 v1102
  let v1110 : BitVec 32 := Scalar.select v1108 v1109 v1103
  let c16_i32_724 : BitVec 32 := 16#32
  let v1111 : BitVec 32 := Scalar.muli v1110 c16_i32_724
  v1111
def k0_dev55 (d0 : Dev nD) : Nat :=
  let c0_i32_727 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_717 : BitVec 32 := 24#32
  let v1100 : BitVec 32 := Scalar.addi v2 c24_i32_717
  let c32_i32_718 : BitVec 32 := 32#32
  let c0_i32_719 : BitVec 32 := 0#32
  let v1101 : BitVec 1 := Scalar.cmpi .eq c32_i32_718 c0_i32_719
  let c1_i32_720 : BitVec 32 := 1#32
  let v1102 : BitVec 32 := Scalar.select v1101 c1_i32_720 c32_i32_718
  let v1103 : BitVec 32 := Scalar.remsi v1100 v1102
  let c0_i32_722 : BitVec 32 := 0#32
  let v1105 : BitVec 1 := Scalar.cmpi .slt v1103 c0_i32_722
  let c0_i32_723 : BitVec 32 := 0#32
  let v1106 : BitVec 1 := Scalar.cmpi .slt v1102 c0_i32_723
  let v1107 : BitVec 1 := Scalar.xori v1105 v1106
  let c0_i32_721 : BitVec 32 := 0#32
  let v1104 : BitVec 1 := Scalar.cmpi .ne v1103 c0_i32_721
  let v1108 : BitVec 1 := Scalar.andi v1107 v1104
  let v1109 : BitVec 32 := Scalar.addi v1103 v1102
  let v1110 : BitVec 32 := Scalar.select v1108 v1109 v1103
  let c1_i32_726 : BitVec 32 := 1#32
  let v1113 : BitVec 32 := Scalar.muli v1110 c1_i32_726
  let v1114 : BitVec 32 := Scalar.addi c0_i32_727 v1113
  v1114.toNat
def k0_mult26 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_730 : BitVec 32 := 25#32
  let v1121 : BitVec 32 := Scalar.addi v2 c25_i32_730
  let c32_i32_731 : BitVec 32 := 32#32
  let c0_i32_732 : BitVec 32 := 0#32
  let v1122 : BitVec 1 := Scalar.cmpi .eq c32_i32_731 c0_i32_732
  let c1_i32_733 : BitVec 32 := 1#32
  let v1123 : BitVec 32 := Scalar.select v1122 c1_i32_733 c32_i32_731
  let v1124 : BitVec 32 := Scalar.remsi v1121 v1123
  let c0_i32_735 : BitVec 32 := 0#32
  let v1126 : BitVec 1 := Scalar.cmpi .slt v1124 c0_i32_735
  let c0_i32_736 : BitVec 32 := 0#32
  let v1127 : BitVec 1 := Scalar.cmpi .slt v1123 c0_i32_736
  let v1128 : BitVec 1 := Scalar.xori v1126 v1127
  let c0_i32_734 : BitVec 32 := 0#32
  let v1125 : BitVec 1 := Scalar.cmpi .ne v1124 c0_i32_734
  let v1129 : BitVec 1 := Scalar.andi v1128 v1125
  let v1130 : BitVec 32 := Scalar.addi v1124 v1123
  let v1131 : BitVec 32 := Scalar.select v1129 v1130 v1124
  let c16_i32_737 : BitVec 32 := 16#32
  let v1132 : BitVec 32 := Scalar.muli v1131 c16_i32_737
  v1132
def k0_dev56 (d0 : Dev nD) : Nat :=
  let c0_i32_740 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_730 : BitVec 32 := 25#32
  let v1121 : BitVec 32 := Scalar.addi v2 c25_i32_730
  let c32_i32_731 : BitVec 32 := 32#32
  let c0_i32_732 : BitVec 32 := 0#32
  let v1122 : BitVec 1 := Scalar.cmpi .eq c32_i32_731 c0_i32_732
  let c1_i32_733 : BitVec 32 := 1#32
  let v1123 : BitVec 32 := Scalar.select v1122 c1_i32_733 c32_i32_731
  let v1124 : BitVec 32 := Scalar.remsi v1121 v1123
  let c0_i32_735 : BitVec 32 := 0#32
  let v1126 : BitVec 1 := Scalar.cmpi .slt v1124 c0_i32_735
  let c0_i32_736 : BitVec 32 := 0#32
  let v1127 : BitVec 1 := Scalar.cmpi .slt v1123 c0_i32_736
  let v1128 : BitVec 1 := Scalar.xori v1126 v1127
  let c0_i32_734 : BitVec 32 := 0#32
  let v1125 : BitVec 1 := Scalar.cmpi .ne v1124 c0_i32_734
  let v1129 : BitVec 1 := Scalar.andi v1128 v1125
  let v1130 : BitVec 32 := Scalar.addi v1124 v1123
  let v1131 : BitVec 32 := Scalar.select v1129 v1130 v1124
  let c1_i32_739 : BitVec 32 := 1#32
  let v1134 : BitVec 32 := Scalar.muli v1131 c1_i32_739
  let v1135 : BitVec 32 := Scalar.addi c0_i32_740 v1134
  v1135.toNat
def k0_mult27 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_743 : BitVec 32 := 26#32
  let v1142 : BitVec 32 := Scalar.addi v2 c26_i32_743
  let c32_i32_744 : BitVec 32 := 32#32
  let c0_i32_745 : BitVec 32 := 0#32
  let v1143 : BitVec 1 := Scalar.cmpi .eq c32_i32_744 c0_i32_745
  let c1_i32_746 : BitVec 32 := 1#32
  let v1144 : BitVec 32 := Scalar.select v1143 c1_i32_746 c32_i32_744
  let v1145 : BitVec 32 := Scalar.remsi v1142 v1144
  let c0_i32_748 : BitVec 32 := 0#32
  let v1147 : BitVec 1 := Scalar.cmpi .slt v1145 c0_i32_748
  let c0_i32_749 : BitVec 32 := 0#32
  let v1148 : BitVec 1 := Scalar.cmpi .slt v1144 c0_i32_749
  let v1149 : BitVec 1 := Scalar.xori v1147 v1148
  let c0_i32_747 : BitVec 32 := 0#32
  let v1146 : BitVec 1 := Scalar.cmpi .ne v1145 c0_i32_747
  let v1150 : BitVec 1 := Scalar.andi v1149 v1146
  let v1151 : BitVec 32 := Scalar.addi v1145 v1144
  let v1152 : BitVec 32 := Scalar.select v1150 v1151 v1145
  let c16_i32_750 : BitVec 32 := 16#32
  let v1153 : BitVec 32 := Scalar.muli v1152 c16_i32_750
  v1153
def k0_dev57 (d0 : Dev nD) : Nat :=
  let c0_i32_753 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_743 : BitVec 32 := 26#32
  let v1142 : BitVec 32 := Scalar.addi v2 c26_i32_743
  let c32_i32_744 : BitVec 32 := 32#32
  let c0_i32_745 : BitVec 32 := 0#32
  let v1143 : BitVec 1 := Scalar.cmpi .eq c32_i32_744 c0_i32_745
  let c1_i32_746 : BitVec 32 := 1#32
  let v1144 : BitVec 32 := Scalar.select v1143 c1_i32_746 c32_i32_744
  let v1145 : BitVec 32 := Scalar.remsi v1142 v1144
  let c0_i32_748 : BitVec 32 := 0#32
  let v1147 : BitVec 1 := Scalar.cmpi .slt v1145 c0_i32_748
  let c0_i32_749 : BitVec 32 := 0#32
  let v1148 : BitVec 1 := Scalar.cmpi .slt v1144 c0_i32_749
  let v1149 : BitVec 1 := Scalar.xori v1147 v1148
  let c0_i32_747 : BitVec 32 := 0#32
  let v1146 : BitVec 1 := Scalar.cmpi .ne v1145 c0_i32_747
  let v1150 : BitVec 1 := Scalar.andi v1149 v1146
  let v1151 : BitVec 32 := Scalar.addi v1145 v1144
  let v1152 : BitVec 32 := Scalar.select v1150 v1151 v1145
  let c1_i32_752 : BitVec 32 := 1#32
  let v1155 : BitVec 32 := Scalar.muli v1152 c1_i32_752
  let v1156 : BitVec 32 := Scalar.addi c0_i32_753 v1155
  v1156.toNat
def k0_mult28 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_756 : BitVec 32 := 27#32
  let v1163 : BitVec 32 := Scalar.addi v2 c27_i32_756
  let c32_i32_757 : BitVec 32 := 32#32
  let c0_i32_758 : BitVec 32 := 0#32
  let v1164 : BitVec 1 := Scalar.cmpi .eq c32_i32_757 c0_i32_758
  let c1_i32_759 : BitVec 32 := 1#32
  let v1165 : BitVec 32 := Scalar.select v1164 c1_i32_759 c32_i32_757
  let v1166 : BitVec 32 := Scalar.remsi v1163 v1165
  let c0_i32_761 : BitVec 32 := 0#32
  let v1168 : BitVec 1 := Scalar.cmpi .slt v1166 c0_i32_761
  let c0_i32_762 : BitVec 32 := 0#32
  let v1169 : BitVec 1 := Scalar.cmpi .slt v1165 c0_i32_762
  let v1170 : BitVec 1 := Scalar.xori v1168 v1169
  let c0_i32_760 : BitVec 32 := 0#32
  let v1167 : BitVec 1 := Scalar.cmpi .ne v1166 c0_i32_760
  let v1171 : BitVec 1 := Scalar.andi v1170 v1167
  let v1172 : BitVec 32 := Scalar.addi v1166 v1165
  let v1173 : BitVec 32 := Scalar.select v1171 v1172 v1166
  let c16_i32_763 : BitVec 32 := 16#32
  let v1174 : BitVec 32 := Scalar.muli v1173 c16_i32_763
  v1174
def k0_dev58 (d0 : Dev nD) : Nat :=
  let c0_i32_766 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_756 : BitVec 32 := 27#32
  let v1163 : BitVec 32 := Scalar.addi v2 c27_i32_756
  let c32_i32_757 : BitVec 32 := 32#32
  let c0_i32_758 : BitVec 32 := 0#32
  let v1164 : BitVec 1 := Scalar.cmpi .eq c32_i32_757 c0_i32_758
  let c1_i32_759 : BitVec 32 := 1#32
  let v1165 : BitVec 32 := Scalar.select v1164 c1_i32_759 c32_i32_757
  let v1166 : BitVec 32 := Scalar.remsi v1163 v1165
  let c0_i32_761 : BitVec 32 := 0#32
  let v1168 : BitVec 1 := Scalar.cmpi .slt v1166 c0_i32_761
  let c0_i32_762 : BitVec 32 := 0#32
  let v1169 : BitVec 1 := Scalar.cmpi .slt v1165 c0_i32_762
  let v1170 : BitVec 1 := Scalar.xori v1168 v1169
  let c0_i32_760 : BitVec 32 := 0#32
  let v1167 : BitVec 1 := Scalar.cmpi .ne v1166 c0_i32_760
  let v1171 : BitVec 1 := Scalar.andi v1170 v1167
  let v1172 : BitVec 32 := Scalar.addi v1166 v1165
  let v1173 : BitVec 32 := Scalar.select v1171 v1172 v1166
  let c1_i32_765 : BitVec 32 := 1#32
  let v1176 : BitVec 32 := Scalar.muli v1173 c1_i32_765
  let v1177 : BitVec 32 := Scalar.addi c0_i32_766 v1176
  v1177.toNat
def k0_mult29 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_769 : BitVec 32 := 28#32
  let v1184 : BitVec 32 := Scalar.addi v2 c28_i32_769
  let c32_i32_770 : BitVec 32 := 32#32
  let c0_i32_771 : BitVec 32 := 0#32
  let v1185 : BitVec 1 := Scalar.cmpi .eq c32_i32_770 c0_i32_771
  let c1_i32_772 : BitVec 32 := 1#32
  let v1186 : BitVec 32 := Scalar.select v1185 c1_i32_772 c32_i32_770
  let v1187 : BitVec 32 := Scalar.remsi v1184 v1186
  let c0_i32_774 : BitVec 32 := 0#32
  let v1189 : BitVec 1 := Scalar.cmpi .slt v1187 c0_i32_774
  let c0_i32_775 : BitVec 32 := 0#32
  let v1190 : BitVec 1 := Scalar.cmpi .slt v1186 c0_i32_775
  let v1191 : BitVec 1 := Scalar.xori v1189 v1190
  let c0_i32_773 : BitVec 32 := 0#32
  let v1188 : BitVec 1 := Scalar.cmpi .ne v1187 c0_i32_773
  let v1192 : BitVec 1 := Scalar.andi v1191 v1188
  let v1193 : BitVec 32 := Scalar.addi v1187 v1186
  let v1194 : BitVec 32 := Scalar.select v1192 v1193 v1187
  let c16_i32_776 : BitVec 32 := 16#32
  let v1195 : BitVec 32 := Scalar.muli v1194 c16_i32_776
  v1195
def k0_dev59 (d0 : Dev nD) : Nat :=
  let c0_i32_779 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_769 : BitVec 32 := 28#32
  let v1184 : BitVec 32 := Scalar.addi v2 c28_i32_769
  let c32_i32_770 : BitVec 32 := 32#32
  let c0_i32_771 : BitVec 32 := 0#32
  let v1185 : BitVec 1 := Scalar.cmpi .eq c32_i32_770 c0_i32_771
  let c1_i32_772 : BitVec 32 := 1#32
  let v1186 : BitVec 32 := Scalar.select v1185 c1_i32_772 c32_i32_770
  let v1187 : BitVec 32 := Scalar.remsi v1184 v1186
  let c0_i32_774 : BitVec 32 := 0#32
  let v1189 : BitVec 1 := Scalar.cmpi .slt v1187 c0_i32_774
  let c0_i32_775 : BitVec 32 := 0#32
  let v1190 : BitVec 1 := Scalar.cmpi .slt v1186 c0_i32_775
  let v1191 : BitVec 1 := Scalar.xori v1189 v1190
  let c0_i32_773 : BitVec 32 := 0#32
  let v1188 : BitVec 1 := Scalar.cmpi .ne v1187 c0_i32_773
  let v1192 : BitVec 1 := Scalar.andi v1191 v1188
  let v1193 : BitVec 32 := Scalar.addi v1187 v1186
  let v1194 : BitVec 32 := Scalar.select v1192 v1193 v1187
  let c1_i32_778 : BitVec 32 := 1#32
  let v1197 : BitVec 32 := Scalar.muli v1194 c1_i32_778
  let v1198 : BitVec 32 := Scalar.addi c0_i32_779 v1197
  v1198.toNat
def k0_mult30 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_782 : BitVec 32 := 29#32
  let v1205 : BitVec 32 := Scalar.addi v2 c29_i32_782
  let c32_i32_783 : BitVec 32 := 32#32
  let c0_i32_784 : BitVec 32 := 0#32
  let v1206 : BitVec 1 := Scalar.cmpi .eq c32_i32_783 c0_i32_784
  let c1_i32_785 : BitVec 32 := 1#32
  let v1207 : BitVec 32 := Scalar.select v1206 c1_i32_785 c32_i32_783
  let v1208 : BitVec 32 := Scalar.remsi v1205 v1207
  let c0_i32_787 : BitVec 32 := 0#32
  let v1210 : BitVec 1 := Scalar.cmpi .slt v1208 c0_i32_787
  let c0_i32_788 : BitVec 32 := 0#32
  let v1211 : BitVec 1 := Scalar.cmpi .slt v1207 c0_i32_788
  let v1212 : BitVec 1 := Scalar.xori v1210 v1211
  let c0_i32_786 : BitVec 32 := 0#32
  let v1209 : BitVec 1 := Scalar.cmpi .ne v1208 c0_i32_786
  let v1213 : BitVec 1 := Scalar.andi v1212 v1209
  let v1214 : BitVec 32 := Scalar.addi v1208 v1207
  let v1215 : BitVec 32 := Scalar.select v1213 v1214 v1208
  let c16_i32_789 : BitVec 32 := 16#32
  let v1216 : BitVec 32 := Scalar.muli v1215 c16_i32_789
  v1216
def k0_dev60 (d0 : Dev nD) : Nat :=
  let c0_i32_792 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_782 : BitVec 32 := 29#32
  let v1205 : BitVec 32 := Scalar.addi v2 c29_i32_782
  let c32_i32_783 : BitVec 32 := 32#32
  let c0_i32_784 : BitVec 32 := 0#32
  let v1206 : BitVec 1 := Scalar.cmpi .eq c32_i32_783 c0_i32_784
  let c1_i32_785 : BitVec 32 := 1#32
  let v1207 : BitVec 32 := Scalar.select v1206 c1_i32_785 c32_i32_783
  let v1208 : BitVec 32 := Scalar.remsi v1205 v1207
  let c0_i32_787 : BitVec 32 := 0#32
  let v1210 : BitVec 1 := Scalar.cmpi .slt v1208 c0_i32_787
  let c0_i32_788 : BitVec 32 := 0#32
  let v1211 : BitVec 1 := Scalar.cmpi .slt v1207 c0_i32_788
  let v1212 : BitVec 1 := Scalar.xori v1210 v1211
  let c0_i32_786 : BitVec 32 := 0#32
  let v1209 : BitVec 1 := Scalar.cmpi .ne v1208 c0_i32_786
  let v1213 : BitVec 1 := Scalar.andi v1212 v1209
  let v1214 : BitVec 32 := Scalar.addi v1208 v1207
  let v1215 : BitVec 32 := Scalar.select v1213 v1214 v1208
  let c1_i32_791 : BitVec 32 := 1#32
  let v1218 : BitVec 32 := Scalar.muli v1215 c1_i32_791
  let v1219 : BitVec 32 := Scalar.addi c0_i32_792 v1218
  v1219.toNat
def k0_mult31 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_795 : BitVec 32 := 30#32
  let v1226 : BitVec 32 := Scalar.addi v2 c30_i32_795
  let c32_i32_796 : BitVec 32 := 32#32
  let c0_i32_797 : BitVec 32 := 0#32
  let v1227 : BitVec 1 := Scalar.cmpi .eq c32_i32_796 c0_i32_797
  let c1_i32_798 : BitVec 32 := 1#32
  let v1228 : BitVec 32 := Scalar.select v1227 c1_i32_798 c32_i32_796
  let v1229 : BitVec 32 := Scalar.remsi v1226 v1228
  let c0_i32_800 : BitVec 32 := 0#32
  let v1231 : BitVec 1 := Scalar.cmpi .slt v1229 c0_i32_800
  let c0_i32_801 : BitVec 32 := 0#32
  let v1232 : BitVec 1 := Scalar.cmpi .slt v1228 c0_i32_801
  let v1233 : BitVec 1 := Scalar.xori v1231 v1232
  let c0_i32_799 : BitVec 32 := 0#32
  let v1230 : BitVec 1 := Scalar.cmpi .ne v1229 c0_i32_799
  let v1234 : BitVec 1 := Scalar.andi v1233 v1230
  let v1235 : BitVec 32 := Scalar.addi v1229 v1228
  let v1236 : BitVec 32 := Scalar.select v1234 v1235 v1229
  let c16_i32_802 : BitVec 32 := 16#32
  let v1237 : BitVec 32 := Scalar.muli v1236 c16_i32_802
  v1237
def k0_dev61 (d0 : Dev nD) : Nat :=
  let c0_i32_805 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_795 : BitVec 32 := 30#32
  let v1226 : BitVec 32 := Scalar.addi v2 c30_i32_795
  let c32_i32_796 : BitVec 32 := 32#32
  let c0_i32_797 : BitVec 32 := 0#32
  let v1227 : BitVec 1 := Scalar.cmpi .eq c32_i32_796 c0_i32_797
  let c1_i32_798 : BitVec 32 := 1#32
  let v1228 : BitVec 32 := Scalar.select v1227 c1_i32_798 c32_i32_796
  let v1229 : BitVec 32 := Scalar.remsi v1226 v1228
  let c0_i32_800 : BitVec 32 := 0#32
  let v1231 : BitVec 1 := Scalar.cmpi .slt v1229 c0_i32_800
  let c0_i32_801 : BitVec 32 := 0#32
  let v1232 : BitVec 1 := Scalar.cmpi .slt v1228 c0_i32_801
  let v1233 : BitVec 1 := Scalar.xori v1231 v1232
  let c0_i32_799 : BitVec 32 := 0#32
  let v1230 : BitVec 1 := Scalar.cmpi .ne v1229 c0_i32_799
  let v1234 : BitVec 1 := Scalar.andi v1233 v1230
  let v1235 : BitVec 32 := Scalar.addi v1229 v1228
  let v1236 : BitVec 32 := Scalar.select v1234 v1235 v1229
  let c1_i32_804 : BitVec 32 := 1#32
  let v1239 : BitVec 32 := Scalar.muli v1236 c1_i32_804
  let v1240 : BitVec 32 := Scalar.addi c0_i32_805 v1239
  v1240.toNat
def k0_mult32 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_808 : BitVec 32 := 31#32
  let v1247 : BitVec 32 := Scalar.addi v2 c31_i32_808
  let c32_i32_809 : BitVec 32 := 32#32
  let c0_i32_810 : BitVec 32 := 0#32
  let v1248 : BitVec 1 := Scalar.cmpi .eq c32_i32_809 c0_i32_810
  let c1_i32_811 : BitVec 32 := 1#32
  let v1249 : BitVec 32 := Scalar.select v1248 c1_i32_811 c32_i32_809
  let v1250 : BitVec 32 := Scalar.remsi v1247 v1249
  let c0_i32_813 : BitVec 32 := 0#32
  let v1252 : BitVec 1 := Scalar.cmpi .slt v1250 c0_i32_813
  let c0_i32_814 : BitVec 32 := 0#32
  let v1253 : BitVec 1 := Scalar.cmpi .slt v1249 c0_i32_814
  let v1254 : BitVec 1 := Scalar.xori v1252 v1253
  let c0_i32_812 : BitVec 32 := 0#32
  let v1251 : BitVec 1 := Scalar.cmpi .ne v1250 c0_i32_812
  let v1255 : BitVec 1 := Scalar.andi v1254 v1251
  let v1256 : BitVec 32 := Scalar.addi v1250 v1249
  let v1257 : BitVec 32 := Scalar.select v1255 v1256 v1250
  let c16_i32_815 : BitVec 32 := 16#32
  let v1258 : BitVec 32 := Scalar.muli v1257 c16_i32_815
  v1258
def k0_dev62 (d0 : Dev nD) : Nat :=
  let c0_i32_818 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_808 : BitVec 32 := 31#32
  let v1247 : BitVec 32 := Scalar.addi v2 c31_i32_808
  let c32_i32_809 : BitVec 32 := 32#32
  let c0_i32_810 : BitVec 32 := 0#32
  let v1248 : BitVec 1 := Scalar.cmpi .eq c32_i32_809 c0_i32_810
  let c1_i32_811 : BitVec 32 := 1#32
  let v1249 : BitVec 32 := Scalar.select v1248 c1_i32_811 c32_i32_809
  let v1250 : BitVec 32 := Scalar.remsi v1247 v1249
  let c0_i32_813 : BitVec 32 := 0#32
  let v1252 : BitVec 1 := Scalar.cmpi .slt v1250 c0_i32_813
  let c0_i32_814 : BitVec 32 := 0#32
  let v1253 : BitVec 1 := Scalar.cmpi .slt v1249 c0_i32_814
  let v1254 : BitVec 1 := Scalar.xori v1252 v1253
  let c0_i32_812 : BitVec 32 := 0#32
  let v1251 : BitVec 1 := Scalar.cmpi .ne v1250 c0_i32_812
  let v1255 : BitVec 1 := Scalar.andi v1254 v1251
  let v1256 : BitVec 32 := Scalar.addi v1250 v1249
  let v1257 : BitVec 32 := Scalar.select v1255 v1256 v1250
  let c1_i32_817 : BitVec 32 := 1#32
  let v1260 : BitVec 32 := Scalar.muli v1257 c1_i32_817
  let v1261 : BitVec 32 := Scalar.addi c0_i32_818 v1260
  v1261.toNat
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_417 : BitVec 32 := 16#32
  let v615 : BitVec 32 := Scalar.muli v2 c16_i32_417
  let v616 : BitVec 32 := v615
  let v1268 : Index := Scalar.indexCast v616
  let c0_821 : Index := 0#32
  ![v1268.toNat, 0]
def k0_mult33 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_822 : BitVec 32 := 1#32
  let v1270 : BitVec 32 := Scalar.addi v2 c1_i32_822
  let c32_i32_823 : BitVec 32 := 32#32
  let c0_i32_824 : BitVec 32 := 0#32
  let v1271 : BitVec 1 := Scalar.cmpi .eq c32_i32_823 c0_i32_824
  let c1_i32_825 : BitVec 32 := 1#32
  let v1272 : BitVec 32 := Scalar.select v1271 c1_i32_825 c32_i32_823
  let v1273 : BitVec 32 := Scalar.remsi v1270 v1272
  let c0_i32_827 : BitVec 32 := 0#32
  let v1275 : BitVec 1 := Scalar.cmpi .slt v1273 c0_i32_827
  let c0_i32_828 : BitVec 32 := 0#32
  let v1276 : BitVec 1 := Scalar.cmpi .slt v1272 c0_i32_828
  let v1277 : BitVec 1 := Scalar.xori v1275 v1276
  let c0_i32_826 : BitVec 32 := 0#32
  let v1274 : BitVec 1 := Scalar.cmpi .ne v1273 c0_i32_826
  let v1278 : BitVec 1 := Scalar.andi v1277 v1274
  let v1279 : BitVec 32 := Scalar.addi v1273 v1272
  let v1280 : BitVec 32 := Scalar.select v1278 v1279 v1273
  let c16_i32_829 : BitVec 32 := 16#32
  let v1281 : BitVec 32 := Scalar.muli v1280 c16_i32_829
  v1281
def k0_off6 (d0 : Dev nD) (c1_i32_822 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1270 : BitVec 32 := Scalar.addi v2 c1_i32_822
  let c32_i32_823 : BitVec 32 := 32#32
  let c0_i32_824 : BitVec 32 := 0#32
  let v1271 : BitVec 1 := Scalar.cmpi .eq c32_i32_823 c0_i32_824
  let c1_i32_825 : BitVec 32 := 1#32
  let v1272 : BitVec 32 := Scalar.select v1271 c1_i32_825 c32_i32_823
  let v1273 : BitVec 32 := Scalar.remsi v1270 v1272
  let c0_i32_827 : BitVec 32 := 0#32
  let v1275 : BitVec 1 := Scalar.cmpi .slt v1273 c0_i32_827
  let c0_i32_828 : BitVec 32 := 0#32
  let v1276 : BitVec 1 := Scalar.cmpi .slt v1272 c0_i32_828
  let v1277 : BitVec 1 := Scalar.xori v1275 v1276
  let c0_i32_826 : BitVec 32 := 0#32
  let v1274 : BitVec 1 := Scalar.cmpi .ne v1273 c0_i32_826
  let v1278 : BitVec 1 := Scalar.andi v1277 v1274
  let v1279 : BitVec 32 := Scalar.addi v1273 v1272
  let v1280 : BitVec 32 := Scalar.select v1278 v1279 v1273
  ![v1280.toNat]
def k0_off7 (d0 : Dev nD) (c1_i32_822 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1270 : BitVec 32 := Scalar.addi v2 c1_i32_822
  let c32_i32_823 : BitVec 32 := 32#32
  let c0_i32_824 : BitVec 32 := 0#32
  let v1271 : BitVec 1 := Scalar.cmpi .eq c32_i32_823 c0_i32_824
  let c1_i32_825 : BitVec 32 := 1#32
  let v1272 : BitVec 32 := Scalar.select v1271 c1_i32_825 c32_i32_823
  let v1273 : BitVec 32 := Scalar.remsi v1270 v1272
  let c0_i32_827 : BitVec 32 := 0#32
  let v1275 : BitVec 1 := Scalar.cmpi .slt v1273 c0_i32_827
  let c0_i32_828 : BitVec 32 := 0#32
  let v1276 : BitVec 1 := Scalar.cmpi .slt v1272 c0_i32_828
  let v1277 : BitVec 1 := Scalar.xori v1275 v1276
  let c0_i32_826 : BitVec 32 := 0#32
  let v1274 : BitVec 1 := Scalar.cmpi .ne v1273 c0_i32_826
  let v1278 : BitVec 1 := Scalar.andi v1277 v1274
  let v1279 : BitVec 32 := Scalar.addi v1273 v1272
  let v1280 : BitVec 32 := Scalar.select v1278 v1279 v1273
  let c16_i32_829 : BitVec 32 := 16#32
  let v1281 : BitVec 32 := Scalar.muli v1280 c16_i32_829
  let v1282 : BitVec 32 := v1281
  let v1289 : Index := Scalar.indexCast v1282
  let c0_835 : Index := 0#32
  ![v1289.toNat, 0]
def k0_mult34 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_836 : BitVec 32 := 2#32
  let v1292 : BitVec 32 := Scalar.addi v2 c2_i32_836
  let c32_i32_837 : BitVec 32 := 32#32
  let c0_i32_838 : BitVec 32 := 0#32
  let v1293 : BitVec 1 := Scalar.cmpi .eq c32_i32_837 c0_i32_838
  let c1_i32_839 : BitVec 32 := 1#32
  let v1294 : BitVec 32 := Scalar.select v1293 c1_i32_839 c32_i32_837
  let v1295 : BitVec 32 := Scalar.remsi v1292 v1294
  let c0_i32_841 : BitVec 32 := 0#32
  let v1297 : BitVec 1 := Scalar.cmpi .slt v1295 c0_i32_841
  let c0_i32_842 : BitVec 32 := 0#32
  let v1298 : BitVec 1 := Scalar.cmpi .slt v1294 c0_i32_842
  let v1299 : BitVec 1 := Scalar.xori v1297 v1298
  let c0_i32_840 : BitVec 32 := 0#32
  let v1296 : BitVec 1 := Scalar.cmpi .ne v1295 c0_i32_840
  let v1300 : BitVec 1 := Scalar.andi v1299 v1296
  let v1301 : BitVec 32 := Scalar.addi v1295 v1294
  let v1302 : BitVec 32 := Scalar.select v1300 v1301 v1295
  let c16_i32_843 : BitVec 32 := 16#32
  let v1303 : BitVec 32 := Scalar.muli v1302 c16_i32_843
  v1303
def k0_mult35 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_850 : BitVec 32 := 3#32
  let v1314 : BitVec 32 := Scalar.addi v2 c3_i32_850
  let c32_i32_851 : BitVec 32 := 32#32
  let c0_i32_852 : BitVec 32 := 0#32
  let v1315 : BitVec 1 := Scalar.cmpi .eq c32_i32_851 c0_i32_852
  let c1_i32_853 : BitVec 32 := 1#32
  let v1316 : BitVec 32 := Scalar.select v1315 c1_i32_853 c32_i32_851
  let v1317 : BitVec 32 := Scalar.remsi v1314 v1316
  let c0_i32_855 : BitVec 32 := 0#32
  let v1319 : BitVec 1 := Scalar.cmpi .slt v1317 c0_i32_855
  let c0_i32_856 : BitVec 32 := 0#32
  let v1320 : BitVec 1 := Scalar.cmpi .slt v1316 c0_i32_856
  let v1321 : BitVec 1 := Scalar.xori v1319 v1320
  let c0_i32_854 : BitVec 32 := 0#32
  let v1318 : BitVec 1 := Scalar.cmpi .ne v1317 c0_i32_854
  let v1322 : BitVec 1 := Scalar.andi v1321 v1318
  let v1323 : BitVec 32 := Scalar.addi v1317 v1316
  let v1324 : BitVec 32 := Scalar.select v1322 v1323 v1317
  let c16_i32_857 : BitVec 32 := 16#32
  let v1325 : BitVec 32 := Scalar.muli v1324 c16_i32_857
  v1325
def k0_mult36 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_864 : BitVec 32 := 4#32
  let v1336 : BitVec 32 := Scalar.addi v2 c4_i32_864
  let c32_i32_865 : BitVec 32 := 32#32
  let c0_i32_866 : BitVec 32 := 0#32
  let v1337 : BitVec 1 := Scalar.cmpi .eq c32_i32_865 c0_i32_866
  let c1_i32_867 : BitVec 32 := 1#32
  let v1338 : BitVec 32 := Scalar.select v1337 c1_i32_867 c32_i32_865
  let v1339 : BitVec 32 := Scalar.remsi v1336 v1338
  let c0_i32_869 : BitVec 32 := 0#32
  let v1341 : BitVec 1 := Scalar.cmpi .slt v1339 c0_i32_869
  let c0_i32_870 : BitVec 32 := 0#32
  let v1342 : BitVec 1 := Scalar.cmpi .slt v1338 c0_i32_870
  let v1343 : BitVec 1 := Scalar.xori v1341 v1342
  let c0_i32_868 : BitVec 32 := 0#32
  let v1340 : BitVec 1 := Scalar.cmpi .ne v1339 c0_i32_868
  let v1344 : BitVec 1 := Scalar.andi v1343 v1340
  let v1345 : BitVec 32 := Scalar.addi v1339 v1338
  let v1346 : BitVec 32 := Scalar.select v1344 v1345 v1339
  let c16_i32_871 : BitVec 32 := 16#32
  let v1347 : BitVec 32 := Scalar.muli v1346 c16_i32_871
  v1347
def k0_mult37 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_878 : BitVec 32 := 5#32
  let v1358 : BitVec 32 := Scalar.addi v2 c5_i32_878
  let c32_i32_879 : BitVec 32 := 32#32
  let c0_i32_880 : BitVec 32 := 0#32
  let v1359 : BitVec 1 := Scalar.cmpi .eq c32_i32_879 c0_i32_880
  let c1_i32_881 : BitVec 32 := 1#32
  let v1360 : BitVec 32 := Scalar.select v1359 c1_i32_881 c32_i32_879
  let v1361 : BitVec 32 := Scalar.remsi v1358 v1360
  let c0_i32_883 : BitVec 32 := 0#32
  let v1363 : BitVec 1 := Scalar.cmpi .slt v1361 c0_i32_883
  let c0_i32_884 : BitVec 32 := 0#32
  let v1364 : BitVec 1 := Scalar.cmpi .slt v1360 c0_i32_884
  let v1365 : BitVec 1 := Scalar.xori v1363 v1364
  let c0_i32_882 : BitVec 32 := 0#32
  let v1362 : BitVec 1 := Scalar.cmpi .ne v1361 c0_i32_882
  let v1366 : BitVec 1 := Scalar.andi v1365 v1362
  let v1367 : BitVec 32 := Scalar.addi v1361 v1360
  let v1368 : BitVec 32 := Scalar.select v1366 v1367 v1361
  let c16_i32_885 : BitVec 32 := 16#32
  let v1369 : BitVec 32 := Scalar.muli v1368 c16_i32_885
  v1369
def k0_mult38 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_892 : BitVec 32 := 6#32
  let v1380 : BitVec 32 := Scalar.addi v2 c6_i32_892
  let c32_i32_893 : BitVec 32 := 32#32
  let c0_i32_894 : BitVec 32 := 0#32
  let v1381 : BitVec 1 := Scalar.cmpi .eq c32_i32_893 c0_i32_894
  let c1_i32_895 : BitVec 32 := 1#32
  let v1382 : BitVec 32 := Scalar.select v1381 c1_i32_895 c32_i32_893
  let v1383 : BitVec 32 := Scalar.remsi v1380 v1382
  let c0_i32_897 : BitVec 32 := 0#32
  let v1385 : BitVec 1 := Scalar.cmpi .slt v1383 c0_i32_897
  let c0_i32_898 : BitVec 32 := 0#32
  let v1386 : BitVec 1 := Scalar.cmpi .slt v1382 c0_i32_898
  let v1387 : BitVec 1 := Scalar.xori v1385 v1386
  let c0_i32_896 : BitVec 32 := 0#32
  let v1384 : BitVec 1 := Scalar.cmpi .ne v1383 c0_i32_896
  let v1388 : BitVec 1 := Scalar.andi v1387 v1384
  let v1389 : BitVec 32 := Scalar.addi v1383 v1382
  let v1390 : BitVec 32 := Scalar.select v1388 v1389 v1383
  let c16_i32_899 : BitVec 32 := 16#32
  let v1391 : BitVec 32 := Scalar.muli v1390 c16_i32_899
  v1391
def k0_mult39 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_906 : BitVec 32 := 7#32
  let v1402 : BitVec 32 := Scalar.addi v2 c7_i32_906
  let c32_i32_907 : BitVec 32 := 32#32
  let c0_i32_908 : BitVec 32 := 0#32
  let v1403 : BitVec 1 := Scalar.cmpi .eq c32_i32_907 c0_i32_908
  let c1_i32_909 : BitVec 32 := 1#32
  let v1404 : BitVec 32 := Scalar.select v1403 c1_i32_909 c32_i32_907
  let v1405 : BitVec 32 := Scalar.remsi v1402 v1404
  let c0_i32_911 : BitVec 32 := 0#32
  let v1407 : BitVec 1 := Scalar.cmpi .slt v1405 c0_i32_911
  let c0_i32_912 : BitVec 32 := 0#32
  let v1408 : BitVec 1 := Scalar.cmpi .slt v1404 c0_i32_912
  let v1409 : BitVec 1 := Scalar.xori v1407 v1408
  let c0_i32_910 : BitVec 32 := 0#32
  let v1406 : BitVec 1 := Scalar.cmpi .ne v1405 c0_i32_910
  let v1410 : BitVec 1 := Scalar.andi v1409 v1406
  let v1411 : BitVec 32 := Scalar.addi v1405 v1404
  let v1412 : BitVec 32 := Scalar.select v1410 v1411 v1405
  let c16_i32_913 : BitVec 32 := 16#32
  let v1413 : BitVec 32 := Scalar.muli v1412 c16_i32_913
  v1413
def k0_mult40 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_920 : BitVec 32 := 8#32
  let v1424 : BitVec 32 := Scalar.addi v2 c8_i32_920
  let c32_i32_921 : BitVec 32 := 32#32
  let c0_i32_922 : BitVec 32 := 0#32
  let v1425 : BitVec 1 := Scalar.cmpi .eq c32_i32_921 c0_i32_922
  let c1_i32_923 : BitVec 32 := 1#32
  let v1426 : BitVec 32 := Scalar.select v1425 c1_i32_923 c32_i32_921
  let v1427 : BitVec 32 := Scalar.remsi v1424 v1426
  let c0_i32_925 : BitVec 32 := 0#32
  let v1429 : BitVec 1 := Scalar.cmpi .slt v1427 c0_i32_925
  let c0_i32_926 : BitVec 32 := 0#32
  let v1430 : BitVec 1 := Scalar.cmpi .slt v1426 c0_i32_926
  let v1431 : BitVec 1 := Scalar.xori v1429 v1430
  let c0_i32_924 : BitVec 32 := 0#32
  let v1428 : BitVec 1 := Scalar.cmpi .ne v1427 c0_i32_924
  let v1432 : BitVec 1 := Scalar.andi v1431 v1428
  let v1433 : BitVec 32 := Scalar.addi v1427 v1426
  let v1434 : BitVec 32 := Scalar.select v1432 v1433 v1427
  let c16_i32_927 : BitVec 32 := 16#32
  let v1435 : BitVec 32 := Scalar.muli v1434 c16_i32_927
  v1435
def k0_mult41 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_934 : BitVec 32 := 9#32
  let v1446 : BitVec 32 := Scalar.addi v2 c9_i32_934
  let c32_i32_935 : BitVec 32 := 32#32
  let c0_i32_936 : BitVec 32 := 0#32
  let v1447 : BitVec 1 := Scalar.cmpi .eq c32_i32_935 c0_i32_936
  let c1_i32_937 : BitVec 32 := 1#32
  let v1448 : BitVec 32 := Scalar.select v1447 c1_i32_937 c32_i32_935
  let v1449 : BitVec 32 := Scalar.remsi v1446 v1448
  let c0_i32_939 : BitVec 32 := 0#32
  let v1451 : BitVec 1 := Scalar.cmpi .slt v1449 c0_i32_939
  let c0_i32_940 : BitVec 32 := 0#32
  let v1452 : BitVec 1 := Scalar.cmpi .slt v1448 c0_i32_940
  let v1453 : BitVec 1 := Scalar.xori v1451 v1452
  let c0_i32_938 : BitVec 32 := 0#32
  let v1450 : BitVec 1 := Scalar.cmpi .ne v1449 c0_i32_938
  let v1454 : BitVec 1 := Scalar.andi v1453 v1450
  let v1455 : BitVec 32 := Scalar.addi v1449 v1448
  let v1456 : BitVec 32 := Scalar.select v1454 v1455 v1449
  let c16_i32_941 : BitVec 32 := 16#32
  let v1457 : BitVec 32 := Scalar.muli v1456 c16_i32_941
  v1457
def k0_mult42 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_948 : BitVec 32 := 10#32
  let v1468 : BitVec 32 := Scalar.addi v2 c10_i32_948
  let c32_i32_949 : BitVec 32 := 32#32
  let c0_i32_950 : BitVec 32 := 0#32
  let v1469 : BitVec 1 := Scalar.cmpi .eq c32_i32_949 c0_i32_950
  let c1_i32_951 : BitVec 32 := 1#32
  let v1470 : BitVec 32 := Scalar.select v1469 c1_i32_951 c32_i32_949
  let v1471 : BitVec 32 := Scalar.remsi v1468 v1470
  let c0_i32_953 : BitVec 32 := 0#32
  let v1473 : BitVec 1 := Scalar.cmpi .slt v1471 c0_i32_953
  let c0_i32_954 : BitVec 32 := 0#32
  let v1474 : BitVec 1 := Scalar.cmpi .slt v1470 c0_i32_954
  let v1475 : BitVec 1 := Scalar.xori v1473 v1474
  let c0_i32_952 : BitVec 32 := 0#32
  let v1472 : BitVec 1 := Scalar.cmpi .ne v1471 c0_i32_952
  let v1476 : BitVec 1 := Scalar.andi v1475 v1472
  let v1477 : BitVec 32 := Scalar.addi v1471 v1470
  let v1478 : BitVec 32 := Scalar.select v1476 v1477 v1471
  let c16_i32_955 : BitVec 32 := 16#32
  let v1479 : BitVec 32 := Scalar.muli v1478 c16_i32_955
  v1479
def k0_mult43 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_962 : BitVec 32 := 11#32
  let v1490 : BitVec 32 := Scalar.addi v2 c11_i32_962
  let c32_i32_963 : BitVec 32 := 32#32
  let c0_i32_964 : BitVec 32 := 0#32
  let v1491 : BitVec 1 := Scalar.cmpi .eq c32_i32_963 c0_i32_964
  let c1_i32_965 : BitVec 32 := 1#32
  let v1492 : BitVec 32 := Scalar.select v1491 c1_i32_965 c32_i32_963
  let v1493 : BitVec 32 := Scalar.remsi v1490 v1492
  let c0_i32_967 : BitVec 32 := 0#32
  let v1495 : BitVec 1 := Scalar.cmpi .slt v1493 c0_i32_967
  let c0_i32_968 : BitVec 32 := 0#32
  let v1496 : BitVec 1 := Scalar.cmpi .slt v1492 c0_i32_968
  let v1497 : BitVec 1 := Scalar.xori v1495 v1496
  let c0_i32_966 : BitVec 32 := 0#32
  let v1494 : BitVec 1 := Scalar.cmpi .ne v1493 c0_i32_966
  let v1498 : BitVec 1 := Scalar.andi v1497 v1494
  let v1499 : BitVec 32 := Scalar.addi v1493 v1492
  let v1500 : BitVec 32 := Scalar.select v1498 v1499 v1493
  let c16_i32_969 : BitVec 32 := 16#32
  let v1501 : BitVec 32 := Scalar.muli v1500 c16_i32_969
  v1501
def k0_mult44 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_976 : BitVec 32 := 12#32
  let v1512 : BitVec 32 := Scalar.addi v2 c12_i32_976
  let c32_i32_977 : BitVec 32 := 32#32
  let c0_i32_978 : BitVec 32 := 0#32
  let v1513 : BitVec 1 := Scalar.cmpi .eq c32_i32_977 c0_i32_978
  let c1_i32_979 : BitVec 32 := 1#32
  let v1514 : BitVec 32 := Scalar.select v1513 c1_i32_979 c32_i32_977
  let v1515 : BitVec 32 := Scalar.remsi v1512 v1514
  let c0_i32_981 : BitVec 32 := 0#32
  let v1517 : BitVec 1 := Scalar.cmpi .slt v1515 c0_i32_981
  let c0_i32_982 : BitVec 32 := 0#32
  let v1518 : BitVec 1 := Scalar.cmpi .slt v1514 c0_i32_982
  let v1519 : BitVec 1 := Scalar.xori v1517 v1518
  let c0_i32_980 : BitVec 32 := 0#32
  let v1516 : BitVec 1 := Scalar.cmpi .ne v1515 c0_i32_980
  let v1520 : BitVec 1 := Scalar.andi v1519 v1516
  let v1521 : BitVec 32 := Scalar.addi v1515 v1514
  let v1522 : BitVec 32 := Scalar.select v1520 v1521 v1515
  let c16_i32_983 : BitVec 32 := 16#32
  let v1523 : BitVec 32 := Scalar.muli v1522 c16_i32_983
  v1523
def k0_mult45 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_990 : BitVec 32 := 13#32
  let v1534 : BitVec 32 := Scalar.addi v2 c13_i32_990
  let c32_i32_991 : BitVec 32 := 32#32
  let c0_i32_992 : BitVec 32 := 0#32
  let v1535 : BitVec 1 := Scalar.cmpi .eq c32_i32_991 c0_i32_992
  let c1_i32_993 : BitVec 32 := 1#32
  let v1536 : BitVec 32 := Scalar.select v1535 c1_i32_993 c32_i32_991
  let v1537 : BitVec 32 := Scalar.remsi v1534 v1536
  let c0_i32_995 : BitVec 32 := 0#32
  let v1539 : BitVec 1 := Scalar.cmpi .slt v1537 c0_i32_995
  let c0_i32_996 : BitVec 32 := 0#32
  let v1540 : BitVec 1 := Scalar.cmpi .slt v1536 c0_i32_996
  let v1541 : BitVec 1 := Scalar.xori v1539 v1540
  let c0_i32_994 : BitVec 32 := 0#32
  let v1538 : BitVec 1 := Scalar.cmpi .ne v1537 c0_i32_994
  let v1542 : BitVec 1 := Scalar.andi v1541 v1538
  let v1543 : BitVec 32 := Scalar.addi v1537 v1536
  let v1544 : BitVec 32 := Scalar.select v1542 v1543 v1537
  let c16_i32_997 : BitVec 32 := 16#32
  let v1545 : BitVec 32 := Scalar.muli v1544 c16_i32_997
  v1545
def k0_mult46 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1004 : BitVec 32 := 14#32
  let v1556 : BitVec 32 := Scalar.addi v2 c14_i32_1004
  let c32_i32_1005 : BitVec 32 := 32#32
  let c0_i32_1006 : BitVec 32 := 0#32
  let v1557 : BitVec 1 := Scalar.cmpi .eq c32_i32_1005 c0_i32_1006
  let c1_i32_1007 : BitVec 32 := 1#32
  let v1558 : BitVec 32 := Scalar.select v1557 c1_i32_1007 c32_i32_1005
  let v1559 : BitVec 32 := Scalar.remsi v1556 v1558
  let c0_i32_1009 : BitVec 32 := 0#32
  let v1561 : BitVec 1 := Scalar.cmpi .slt v1559 c0_i32_1009
  let c0_i32_1010 : BitVec 32 := 0#32
  let v1562 : BitVec 1 := Scalar.cmpi .slt v1558 c0_i32_1010
  let v1563 : BitVec 1 := Scalar.xori v1561 v1562
  let c0_i32_1008 : BitVec 32 := 0#32
  let v1560 : BitVec 1 := Scalar.cmpi .ne v1559 c0_i32_1008
  let v1564 : BitVec 1 := Scalar.andi v1563 v1560
  let v1565 : BitVec 32 := Scalar.addi v1559 v1558
  let v1566 : BitVec 32 := Scalar.select v1564 v1565 v1559
  let c16_i32_1011 : BitVec 32 := 16#32
  let v1567 : BitVec 32 := Scalar.muli v1566 c16_i32_1011
  v1567
def k0_mult47 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1018 : BitVec 32 := 15#32
  let v1578 : BitVec 32 := Scalar.addi v2 c15_i32_1018
  let c32_i32_1019 : BitVec 32 := 32#32
  let c0_i32_1020 : BitVec 32 := 0#32
  let v1579 : BitVec 1 := Scalar.cmpi .eq c32_i32_1019 c0_i32_1020
  let c1_i32_1021 : BitVec 32 := 1#32
  let v1580 : BitVec 32 := Scalar.select v1579 c1_i32_1021 c32_i32_1019
  let v1581 : BitVec 32 := Scalar.remsi v1578 v1580
  let c0_i32_1023 : BitVec 32 := 0#32
  let v1583 : BitVec 1 := Scalar.cmpi .slt v1581 c0_i32_1023
  let c0_i32_1024 : BitVec 32 := 0#32
  let v1584 : BitVec 1 := Scalar.cmpi .slt v1580 c0_i32_1024
  let v1585 : BitVec 1 := Scalar.xori v1583 v1584
  let c0_i32_1022 : BitVec 32 := 0#32
  let v1582 : BitVec 1 := Scalar.cmpi .ne v1581 c0_i32_1022
  let v1586 : BitVec 1 := Scalar.andi v1585 v1582
  let v1587 : BitVec 32 := Scalar.addi v1581 v1580
  let v1588 : BitVec 32 := Scalar.select v1586 v1587 v1581
  let c16_i32_1025 : BitVec 32 := 16#32
  let v1589 : BitVec 32 := Scalar.muli v1588 c16_i32_1025
  v1589
def k0_mult48 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1032 : BitVec 32 := 16#32
  let v1600 : BitVec 32 := Scalar.addi v2 c16_i32_1032
  let c32_i32_1033 : BitVec 32 := 32#32
  let c0_i32_1034 : BitVec 32 := 0#32
  let v1601 : BitVec 1 := Scalar.cmpi .eq c32_i32_1033 c0_i32_1034
  let c1_i32_1035 : BitVec 32 := 1#32
  let v1602 : BitVec 32 := Scalar.select v1601 c1_i32_1035 c32_i32_1033
  let v1603 : BitVec 32 := Scalar.remsi v1600 v1602
  let c0_i32_1037 : BitVec 32 := 0#32
  let v1605 : BitVec 1 := Scalar.cmpi .slt v1603 c0_i32_1037
  let c0_i32_1038 : BitVec 32 := 0#32
  let v1606 : BitVec 1 := Scalar.cmpi .slt v1602 c0_i32_1038
  let v1607 : BitVec 1 := Scalar.xori v1605 v1606
  let c0_i32_1036 : BitVec 32 := 0#32
  let v1604 : BitVec 1 := Scalar.cmpi .ne v1603 c0_i32_1036
  let v1608 : BitVec 1 := Scalar.andi v1607 v1604
  let v1609 : BitVec 32 := Scalar.addi v1603 v1602
  let v1610 : BitVec 32 := Scalar.select v1608 v1609 v1603
  let c16_i32_1039 : BitVec 32 := 16#32
  let v1611 : BitVec 32 := Scalar.muli v1610 c16_i32_1039
  v1611
def k0_mult49 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1046 : BitVec 32 := 17#32
  let v1622 : BitVec 32 := Scalar.addi v2 c17_i32_1046
  let c32_i32_1047 : BitVec 32 := 32#32
  let c0_i32_1048 : BitVec 32 := 0#32
  let v1623 : BitVec 1 := Scalar.cmpi .eq c32_i32_1047 c0_i32_1048
  let c1_i32_1049 : BitVec 32 := 1#32
  let v1624 : BitVec 32 := Scalar.select v1623 c1_i32_1049 c32_i32_1047
  let v1625 : BitVec 32 := Scalar.remsi v1622 v1624
  let c0_i32_1051 : BitVec 32 := 0#32
  let v1627 : BitVec 1 := Scalar.cmpi .slt v1625 c0_i32_1051
  let c0_i32_1052 : BitVec 32 := 0#32
  let v1628 : BitVec 1 := Scalar.cmpi .slt v1624 c0_i32_1052
  let v1629 : BitVec 1 := Scalar.xori v1627 v1628
  let c0_i32_1050 : BitVec 32 := 0#32
  let v1626 : BitVec 1 := Scalar.cmpi .ne v1625 c0_i32_1050
  let v1630 : BitVec 1 := Scalar.andi v1629 v1626
  let v1631 : BitVec 32 := Scalar.addi v1625 v1624
  let v1632 : BitVec 32 := Scalar.select v1630 v1631 v1625
  let c16_i32_1053 : BitVec 32 := 16#32
  let v1633 : BitVec 32 := Scalar.muli v1632 c16_i32_1053
  v1633
def k0_mult50 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1060 : BitVec 32 := 18#32
  let v1644 : BitVec 32 := Scalar.addi v2 c18_i32_1060
  let c32_i32_1061 : BitVec 32 := 32#32
  let c0_i32_1062 : BitVec 32 := 0#32
  let v1645 : BitVec 1 := Scalar.cmpi .eq c32_i32_1061 c0_i32_1062
  let c1_i32_1063 : BitVec 32 := 1#32
  let v1646 : BitVec 32 := Scalar.select v1645 c1_i32_1063 c32_i32_1061
  let v1647 : BitVec 32 := Scalar.remsi v1644 v1646
  let c0_i32_1065 : BitVec 32 := 0#32
  let v1649 : BitVec 1 := Scalar.cmpi .slt v1647 c0_i32_1065
  let c0_i32_1066 : BitVec 32 := 0#32
  let v1650 : BitVec 1 := Scalar.cmpi .slt v1646 c0_i32_1066
  let v1651 : BitVec 1 := Scalar.xori v1649 v1650
  let c0_i32_1064 : BitVec 32 := 0#32
  let v1648 : BitVec 1 := Scalar.cmpi .ne v1647 c0_i32_1064
  let v1652 : BitVec 1 := Scalar.andi v1651 v1648
  let v1653 : BitVec 32 := Scalar.addi v1647 v1646
  let v1654 : BitVec 32 := Scalar.select v1652 v1653 v1647
  let c16_i32_1067 : BitVec 32 := 16#32
  let v1655 : BitVec 32 := Scalar.muli v1654 c16_i32_1067
  v1655
def k0_mult51 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1074 : BitVec 32 := 19#32
  let v1666 : BitVec 32 := Scalar.addi v2 c19_i32_1074
  let c32_i32_1075 : BitVec 32 := 32#32
  let c0_i32_1076 : BitVec 32 := 0#32
  let v1667 : BitVec 1 := Scalar.cmpi .eq c32_i32_1075 c0_i32_1076
  let c1_i32_1077 : BitVec 32 := 1#32
  let v1668 : BitVec 32 := Scalar.select v1667 c1_i32_1077 c32_i32_1075
  let v1669 : BitVec 32 := Scalar.remsi v1666 v1668
  let c0_i32_1079 : BitVec 32 := 0#32
  let v1671 : BitVec 1 := Scalar.cmpi .slt v1669 c0_i32_1079
  let c0_i32_1080 : BitVec 32 := 0#32
  let v1672 : BitVec 1 := Scalar.cmpi .slt v1668 c0_i32_1080
  let v1673 : BitVec 1 := Scalar.xori v1671 v1672
  let c0_i32_1078 : BitVec 32 := 0#32
  let v1670 : BitVec 1 := Scalar.cmpi .ne v1669 c0_i32_1078
  let v1674 : BitVec 1 := Scalar.andi v1673 v1670
  let v1675 : BitVec 32 := Scalar.addi v1669 v1668
  let v1676 : BitVec 32 := Scalar.select v1674 v1675 v1669
  let c16_i32_1081 : BitVec 32 := 16#32
  let v1677 : BitVec 32 := Scalar.muli v1676 c16_i32_1081
  v1677
def k0_mult52 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1088 : BitVec 32 := 20#32
  let v1688 : BitVec 32 := Scalar.addi v2 c20_i32_1088
  let c32_i32_1089 : BitVec 32 := 32#32
  let c0_i32_1090 : BitVec 32 := 0#32
  let v1689 : BitVec 1 := Scalar.cmpi .eq c32_i32_1089 c0_i32_1090
  let c1_i32_1091 : BitVec 32 := 1#32
  let v1690 : BitVec 32 := Scalar.select v1689 c1_i32_1091 c32_i32_1089
  let v1691 : BitVec 32 := Scalar.remsi v1688 v1690
  let c0_i32_1093 : BitVec 32 := 0#32
  let v1693 : BitVec 1 := Scalar.cmpi .slt v1691 c0_i32_1093
  let c0_i32_1094 : BitVec 32 := 0#32
  let v1694 : BitVec 1 := Scalar.cmpi .slt v1690 c0_i32_1094
  let v1695 : BitVec 1 := Scalar.xori v1693 v1694
  let c0_i32_1092 : BitVec 32 := 0#32
  let v1692 : BitVec 1 := Scalar.cmpi .ne v1691 c0_i32_1092
  let v1696 : BitVec 1 := Scalar.andi v1695 v1692
  let v1697 : BitVec 32 := Scalar.addi v1691 v1690
  let v1698 : BitVec 32 := Scalar.select v1696 v1697 v1691
  let c16_i32_1095 : BitVec 32 := 16#32
  let v1699 : BitVec 32 := Scalar.muli v1698 c16_i32_1095
  v1699
def k0_mult53 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1102 : BitVec 32 := 21#32
  let v1710 : BitVec 32 := Scalar.addi v2 c21_i32_1102
  let c32_i32_1103 : BitVec 32 := 32#32
  let c0_i32_1104 : BitVec 32 := 0#32
  let v1711 : BitVec 1 := Scalar.cmpi .eq c32_i32_1103 c0_i32_1104
  let c1_i32_1105 : BitVec 32 := 1#32
  let v1712 : BitVec 32 := Scalar.select v1711 c1_i32_1105 c32_i32_1103
  let v1713 : BitVec 32 := Scalar.remsi v1710 v1712
  let c0_i32_1107 : BitVec 32 := 0#32
  let v1715 : BitVec 1 := Scalar.cmpi .slt v1713 c0_i32_1107
  let c0_i32_1108 : BitVec 32 := 0#32
  let v1716 : BitVec 1 := Scalar.cmpi .slt v1712 c0_i32_1108
  let v1717 : BitVec 1 := Scalar.xori v1715 v1716
  let c0_i32_1106 : BitVec 32 := 0#32
  let v1714 : BitVec 1 := Scalar.cmpi .ne v1713 c0_i32_1106
  let v1718 : BitVec 1 := Scalar.andi v1717 v1714
  let v1719 : BitVec 32 := Scalar.addi v1713 v1712
  let v1720 : BitVec 32 := Scalar.select v1718 v1719 v1713
  let c16_i32_1109 : BitVec 32 := 16#32
  let v1721 : BitVec 32 := Scalar.muli v1720 c16_i32_1109
  v1721
def k0_mult54 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1116 : BitVec 32 := 22#32
  let v1732 : BitVec 32 := Scalar.addi v2 c22_i32_1116
  let c32_i32_1117 : BitVec 32 := 32#32
  let c0_i32_1118 : BitVec 32 := 0#32
  let v1733 : BitVec 1 := Scalar.cmpi .eq c32_i32_1117 c0_i32_1118
  let c1_i32_1119 : BitVec 32 := 1#32
  let v1734 : BitVec 32 := Scalar.select v1733 c1_i32_1119 c32_i32_1117
  let v1735 : BitVec 32 := Scalar.remsi v1732 v1734
  let c0_i32_1121 : BitVec 32 := 0#32
  let v1737 : BitVec 1 := Scalar.cmpi .slt v1735 c0_i32_1121
  let c0_i32_1122 : BitVec 32 := 0#32
  let v1738 : BitVec 1 := Scalar.cmpi .slt v1734 c0_i32_1122
  let v1739 : BitVec 1 := Scalar.xori v1737 v1738
  let c0_i32_1120 : BitVec 32 := 0#32
  let v1736 : BitVec 1 := Scalar.cmpi .ne v1735 c0_i32_1120
  let v1740 : BitVec 1 := Scalar.andi v1739 v1736
  let v1741 : BitVec 32 := Scalar.addi v1735 v1734
  let v1742 : BitVec 32 := Scalar.select v1740 v1741 v1735
  let c16_i32_1123 : BitVec 32 := 16#32
  let v1743 : BitVec 32 := Scalar.muli v1742 c16_i32_1123
  v1743
def k0_mult55 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1130 : BitVec 32 := 23#32
  let v1754 : BitVec 32 := Scalar.addi v2 c23_i32_1130
  let c32_i32_1131 : BitVec 32 := 32#32
  let c0_i32_1132 : BitVec 32 := 0#32
  let v1755 : BitVec 1 := Scalar.cmpi .eq c32_i32_1131 c0_i32_1132
  let c1_i32_1133 : BitVec 32 := 1#32
  let v1756 : BitVec 32 := Scalar.select v1755 c1_i32_1133 c32_i32_1131
  let v1757 : BitVec 32 := Scalar.remsi v1754 v1756
  let c0_i32_1135 : BitVec 32 := 0#32
  let v1759 : BitVec 1 := Scalar.cmpi .slt v1757 c0_i32_1135
  let c0_i32_1136 : BitVec 32 := 0#32
  let v1760 : BitVec 1 := Scalar.cmpi .slt v1756 c0_i32_1136
  let v1761 : BitVec 1 := Scalar.xori v1759 v1760
  let c0_i32_1134 : BitVec 32 := 0#32
  let v1758 : BitVec 1 := Scalar.cmpi .ne v1757 c0_i32_1134
  let v1762 : BitVec 1 := Scalar.andi v1761 v1758
  let v1763 : BitVec 32 := Scalar.addi v1757 v1756
  let v1764 : BitVec 32 := Scalar.select v1762 v1763 v1757
  let c16_i32_1137 : BitVec 32 := 16#32
  let v1765 : BitVec 32 := Scalar.muli v1764 c16_i32_1137
  v1765
def k0_mult56 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1144 : BitVec 32 := 24#32
  let v1776 : BitVec 32 := Scalar.addi v2 c24_i32_1144
  let c32_i32_1145 : BitVec 32 := 32#32
  let c0_i32_1146 : BitVec 32 := 0#32
  let v1777 : BitVec 1 := Scalar.cmpi .eq c32_i32_1145 c0_i32_1146
  let c1_i32_1147 : BitVec 32 := 1#32
  let v1778 : BitVec 32 := Scalar.select v1777 c1_i32_1147 c32_i32_1145
  let v1779 : BitVec 32 := Scalar.remsi v1776 v1778
  let c0_i32_1149 : BitVec 32 := 0#32
  let v1781 : BitVec 1 := Scalar.cmpi .slt v1779 c0_i32_1149
  let c0_i32_1150 : BitVec 32 := 0#32
  let v1782 : BitVec 1 := Scalar.cmpi .slt v1778 c0_i32_1150
  let v1783 : BitVec 1 := Scalar.xori v1781 v1782
  let c0_i32_1148 : BitVec 32 := 0#32
  let v1780 : BitVec 1 := Scalar.cmpi .ne v1779 c0_i32_1148
  let v1784 : BitVec 1 := Scalar.andi v1783 v1780
  let v1785 : BitVec 32 := Scalar.addi v1779 v1778
  let v1786 : BitVec 32 := Scalar.select v1784 v1785 v1779
  let c16_i32_1151 : BitVec 32 := 16#32
  let v1787 : BitVec 32 := Scalar.muli v1786 c16_i32_1151
  v1787
def k0_mult57 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1158 : BitVec 32 := 25#32
  let v1798 : BitVec 32 := Scalar.addi v2 c25_i32_1158
  let c32_i32_1159 : BitVec 32 := 32#32
  let c0_i32_1160 : BitVec 32 := 0#32
  let v1799 : BitVec 1 := Scalar.cmpi .eq c32_i32_1159 c0_i32_1160
  let c1_i32_1161 : BitVec 32 := 1#32
  let v1800 : BitVec 32 := Scalar.select v1799 c1_i32_1161 c32_i32_1159
  let v1801 : BitVec 32 := Scalar.remsi v1798 v1800
  let c0_i32_1163 : BitVec 32 := 0#32
  let v1803 : BitVec 1 := Scalar.cmpi .slt v1801 c0_i32_1163
  let c0_i32_1164 : BitVec 32 := 0#32
  let v1804 : BitVec 1 := Scalar.cmpi .slt v1800 c0_i32_1164
  let v1805 : BitVec 1 := Scalar.xori v1803 v1804
  let c0_i32_1162 : BitVec 32 := 0#32
  let v1802 : BitVec 1 := Scalar.cmpi .ne v1801 c0_i32_1162
  let v1806 : BitVec 1 := Scalar.andi v1805 v1802
  let v1807 : BitVec 32 := Scalar.addi v1801 v1800
  let v1808 : BitVec 32 := Scalar.select v1806 v1807 v1801
  let c16_i32_1165 : BitVec 32 := 16#32
  let v1809 : BitVec 32 := Scalar.muli v1808 c16_i32_1165
  v1809
def k0_mult58 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1172 : BitVec 32 := 26#32
  let v1820 : BitVec 32 := Scalar.addi v2 c26_i32_1172
  let c32_i32_1173 : BitVec 32 := 32#32
  let c0_i32_1174 : BitVec 32 := 0#32
  let v1821 : BitVec 1 := Scalar.cmpi .eq c32_i32_1173 c0_i32_1174
  let c1_i32_1175 : BitVec 32 := 1#32
  let v1822 : BitVec 32 := Scalar.select v1821 c1_i32_1175 c32_i32_1173
  let v1823 : BitVec 32 := Scalar.remsi v1820 v1822
  let c0_i32_1177 : BitVec 32 := 0#32
  let v1825 : BitVec 1 := Scalar.cmpi .slt v1823 c0_i32_1177
  let c0_i32_1178 : BitVec 32 := 0#32
  let v1826 : BitVec 1 := Scalar.cmpi .slt v1822 c0_i32_1178
  let v1827 : BitVec 1 := Scalar.xori v1825 v1826
  let c0_i32_1176 : BitVec 32 := 0#32
  let v1824 : BitVec 1 := Scalar.cmpi .ne v1823 c0_i32_1176
  let v1828 : BitVec 1 := Scalar.andi v1827 v1824
  let v1829 : BitVec 32 := Scalar.addi v1823 v1822
  let v1830 : BitVec 32 := Scalar.select v1828 v1829 v1823
  let c16_i32_1179 : BitVec 32 := 16#32
  let v1831 : BitVec 32 := Scalar.muli v1830 c16_i32_1179
  v1831
def k0_mult59 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1186 : BitVec 32 := 27#32
  let v1842 : BitVec 32 := Scalar.addi v2 c27_i32_1186
  let c32_i32_1187 : BitVec 32 := 32#32
  let c0_i32_1188 : BitVec 32 := 0#32
  let v1843 : BitVec 1 := Scalar.cmpi .eq c32_i32_1187 c0_i32_1188
  let c1_i32_1189 : BitVec 32 := 1#32
  let v1844 : BitVec 32 := Scalar.select v1843 c1_i32_1189 c32_i32_1187
  let v1845 : BitVec 32 := Scalar.remsi v1842 v1844
  let c0_i32_1191 : BitVec 32 := 0#32
  let v1847 : BitVec 1 := Scalar.cmpi .slt v1845 c0_i32_1191
  let c0_i32_1192 : BitVec 32 := 0#32
  let v1848 : BitVec 1 := Scalar.cmpi .slt v1844 c0_i32_1192
  let v1849 : BitVec 1 := Scalar.xori v1847 v1848
  let c0_i32_1190 : BitVec 32 := 0#32
  let v1846 : BitVec 1 := Scalar.cmpi .ne v1845 c0_i32_1190
  let v1850 : BitVec 1 := Scalar.andi v1849 v1846
  let v1851 : BitVec 32 := Scalar.addi v1845 v1844
  let v1852 : BitVec 32 := Scalar.select v1850 v1851 v1845
  let c16_i32_1193 : BitVec 32 := 16#32
  let v1853 : BitVec 32 := Scalar.muli v1852 c16_i32_1193
  v1853
def k0_mult60 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1200 : BitVec 32 := 28#32
  let v1864 : BitVec 32 := Scalar.addi v2 c28_i32_1200
  let c32_i32_1201 : BitVec 32 := 32#32
  let c0_i32_1202 : BitVec 32 := 0#32
  let v1865 : BitVec 1 := Scalar.cmpi .eq c32_i32_1201 c0_i32_1202
  let c1_i32_1203 : BitVec 32 := 1#32
  let v1866 : BitVec 32 := Scalar.select v1865 c1_i32_1203 c32_i32_1201
  let v1867 : BitVec 32 := Scalar.remsi v1864 v1866
  let c0_i32_1205 : BitVec 32 := 0#32
  let v1869 : BitVec 1 := Scalar.cmpi .slt v1867 c0_i32_1205
  let c0_i32_1206 : BitVec 32 := 0#32
  let v1870 : BitVec 1 := Scalar.cmpi .slt v1866 c0_i32_1206
  let v1871 : BitVec 1 := Scalar.xori v1869 v1870
  let c0_i32_1204 : BitVec 32 := 0#32
  let v1868 : BitVec 1 := Scalar.cmpi .ne v1867 c0_i32_1204
  let v1872 : BitVec 1 := Scalar.andi v1871 v1868
  let v1873 : BitVec 32 := Scalar.addi v1867 v1866
  let v1874 : BitVec 32 := Scalar.select v1872 v1873 v1867
  let c16_i32_1207 : BitVec 32 := 16#32
  let v1875 : BitVec 32 := Scalar.muli v1874 c16_i32_1207
  v1875
def k0_mult61 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1214 : BitVec 32 := 29#32
  let v1886 : BitVec 32 := Scalar.addi v2 c29_i32_1214
  let c32_i32_1215 : BitVec 32 := 32#32
  let c0_i32_1216 : BitVec 32 := 0#32
  let v1887 : BitVec 1 := Scalar.cmpi .eq c32_i32_1215 c0_i32_1216
  let c1_i32_1217 : BitVec 32 := 1#32
  let v1888 : BitVec 32 := Scalar.select v1887 c1_i32_1217 c32_i32_1215
  let v1889 : BitVec 32 := Scalar.remsi v1886 v1888
  let c0_i32_1219 : BitVec 32 := 0#32
  let v1891 : BitVec 1 := Scalar.cmpi .slt v1889 c0_i32_1219
  let c0_i32_1220 : BitVec 32 := 0#32
  let v1892 : BitVec 1 := Scalar.cmpi .slt v1888 c0_i32_1220
  let v1893 : BitVec 1 := Scalar.xori v1891 v1892
  let c0_i32_1218 : BitVec 32 := 0#32
  let v1890 : BitVec 1 := Scalar.cmpi .ne v1889 c0_i32_1218
  let v1894 : BitVec 1 := Scalar.andi v1893 v1890
  let v1895 : BitVec 32 := Scalar.addi v1889 v1888
  let v1896 : BitVec 32 := Scalar.select v1894 v1895 v1889
  let c16_i32_1221 : BitVec 32 := 16#32
  let v1897 : BitVec 32 := Scalar.muli v1896 c16_i32_1221
  v1897
def k0_mult62 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1228 : BitVec 32 := 30#32
  let v1908 : BitVec 32 := Scalar.addi v2 c30_i32_1228
  let c32_i32_1229 : BitVec 32 := 32#32
  let c0_i32_1230 : BitVec 32 := 0#32
  let v1909 : BitVec 1 := Scalar.cmpi .eq c32_i32_1229 c0_i32_1230
  let c1_i32_1231 : BitVec 32 := 1#32
  let v1910 : BitVec 32 := Scalar.select v1909 c1_i32_1231 c32_i32_1229
  let v1911 : BitVec 32 := Scalar.remsi v1908 v1910
  let c0_i32_1233 : BitVec 32 := 0#32
  let v1913 : BitVec 1 := Scalar.cmpi .slt v1911 c0_i32_1233
  let c0_i32_1234 : BitVec 32 := 0#32
  let v1914 : BitVec 1 := Scalar.cmpi .slt v1910 c0_i32_1234
  let v1915 : BitVec 1 := Scalar.xori v1913 v1914
  let c0_i32_1232 : BitVec 32 := 0#32
  let v1912 : BitVec 1 := Scalar.cmpi .ne v1911 c0_i32_1232
  let v1916 : BitVec 1 := Scalar.andi v1915 v1912
  let v1917 : BitVec 32 := Scalar.addi v1911 v1910
  let v1918 : BitVec 32 := Scalar.select v1916 v1917 v1911
  let c16_i32_1235 : BitVec 32 := 16#32
  let v1919 : BitVec 32 := Scalar.muli v1918 c16_i32_1235
  v1919
def k0_mult63 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1242 : BitVec 32 := 31#32
  let v1930 : BitVec 32 := Scalar.addi v2 c31_i32_1242
  let c32_i32_1243 : BitVec 32 := 32#32
  let c0_i32_1244 : BitVec 32 := 0#32
  let v1931 : BitVec 1 := Scalar.cmpi .eq c32_i32_1243 c0_i32_1244
  let c1_i32_1245 : BitVec 32 := 1#32
  let v1932 : BitVec 32 := Scalar.select v1931 c1_i32_1245 c32_i32_1243
  let v1933 : BitVec 32 := Scalar.remsi v1930 v1932
  let c0_i32_1247 : BitVec 32 := 0#32
  let v1935 : BitVec 1 := Scalar.cmpi .slt v1933 c0_i32_1247
  let c0_i32_1248 : BitVec 32 := 0#32
  let v1936 : BitVec 1 := Scalar.cmpi .slt v1932 c0_i32_1248
  let v1937 : BitVec 1 := Scalar.xori v1935 v1936
  let c0_i32_1246 : BitVec 32 := 0#32
  let v1934 : BitVec 1 := Scalar.cmpi .ne v1933 c0_i32_1246
  let v1938 : BitVec 1 := Scalar.andi v1937 v1934
  let v1939 : BitVec 32 := Scalar.addi v1933 v1932
  let v1940 : BitVec 32 := Scalar.select v1938 v1939 v1933
  let c16_i32_1249 : BitVec 32 := 16#32
  let v1941 : BitVec 32 := Scalar.muli v1940 c16_i32_1249
  v1941
def k0_dev63 (d0 : Dev nD) : Nat :=
  let c0_i32_1266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1257 : BitVec 32 := 1#32
  let v1956 : BitVec 32 := Scalar.addi v2 c1_i32_1257
  let c32_i32_1258 : BitVec 32 := 32#32
  let c0_i32_1259 : BitVec 32 := 0#32
  let v1957 : BitVec 1 := Scalar.cmpi .eq c32_i32_1258 c0_i32_1259
  let c1_i32_1260 : BitVec 32 := 1#32
  let v1958 : BitVec 32 := Scalar.select v1957 c1_i32_1260 c32_i32_1258
  let v1959 : BitVec 32 := Scalar.remsi v1956 v1958
  let c0_i32_1262 : BitVec 32 := 0#32
  let v1961 : BitVec 1 := Scalar.cmpi .slt v1959 c0_i32_1262
  let c0_i32_1263 : BitVec 32 := 0#32
  let v1962 : BitVec 1 := Scalar.cmpi .slt v1958 c0_i32_1263
  let v1963 : BitVec 1 := Scalar.xori v1961 v1962
  let c0_i32_1261 : BitVec 32 := 0#32
  let v1960 : BitVec 1 := Scalar.cmpi .ne v1959 c0_i32_1261
  let v1964 : BitVec 1 := Scalar.andi v1963 v1960
  let v1965 : BitVec 32 := Scalar.addi v1959 v1958
  let v1966 : BitVec 32 := Scalar.select v1964 v1965 v1959
  let c1_i32_1265 : BitVec 32 := 1#32
  let v1967 : BitVec 32 := Scalar.muli v1966 c1_i32_1265
  let v1968 : BitVec 32 := Scalar.addi c0_i32_1266 v1967
  v1968.toNat
def k0_dev64 (d0 : Dev nD) : Nat :=
  let c0_i32_1278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1269 : BitVec 32 := 2#32
  let v1975 : BitVec 32 := Scalar.addi v2 c2_i32_1269
  let c32_i32_1270 : BitVec 32 := 32#32
  let c0_i32_1271 : BitVec 32 := 0#32
  let v1976 : BitVec 1 := Scalar.cmpi .eq c32_i32_1270 c0_i32_1271
  let c1_i32_1272 : BitVec 32 := 1#32
  let v1977 : BitVec 32 := Scalar.select v1976 c1_i32_1272 c32_i32_1270
  let v1978 : BitVec 32 := Scalar.remsi v1975 v1977
  let c0_i32_1274 : BitVec 32 := 0#32
  let v1980 : BitVec 1 := Scalar.cmpi .slt v1978 c0_i32_1274
  let c0_i32_1275 : BitVec 32 := 0#32
  let v1981 : BitVec 1 := Scalar.cmpi .slt v1977 c0_i32_1275
  let v1982 : BitVec 1 := Scalar.xori v1980 v1981
  let c0_i32_1273 : BitVec 32 := 0#32
  let v1979 : BitVec 1 := Scalar.cmpi .ne v1978 c0_i32_1273
  let v1983 : BitVec 1 := Scalar.andi v1982 v1979
  let v1984 : BitVec 32 := Scalar.addi v1978 v1977
  let v1985 : BitVec 32 := Scalar.select v1983 v1984 v1978
  let c1_i32_1277 : BitVec 32 := 1#32
  let v1986 : BitVec 32 := Scalar.muli v1985 c1_i32_1277
  let v1987 : BitVec 32 := Scalar.addi c0_i32_1278 v1986
  v1987.toNat
def k0_dev65 (d0 : Dev nD) : Nat :=
  let c0_i32_1290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1281 : BitVec 32 := 3#32
  let v1994 : BitVec 32 := Scalar.addi v2 c3_i32_1281
  let c32_i32_1282 : BitVec 32 := 32#32
  let c0_i32_1283 : BitVec 32 := 0#32
  let v1995 : BitVec 1 := Scalar.cmpi .eq c32_i32_1282 c0_i32_1283
  let c1_i32_1284 : BitVec 32 := 1#32
  let v1996 : BitVec 32 := Scalar.select v1995 c1_i32_1284 c32_i32_1282
  let v1997 : BitVec 32 := Scalar.remsi v1994 v1996
  let c0_i32_1286 : BitVec 32 := 0#32
  let v1999 : BitVec 1 := Scalar.cmpi .slt v1997 c0_i32_1286
  let c0_i32_1287 : BitVec 32 := 0#32
  let v2000 : BitVec 1 := Scalar.cmpi .slt v1996 c0_i32_1287
  let v2001 : BitVec 1 := Scalar.xori v1999 v2000
  let c0_i32_1285 : BitVec 32 := 0#32
  let v1998 : BitVec 1 := Scalar.cmpi .ne v1997 c0_i32_1285
  let v2002 : BitVec 1 := Scalar.andi v2001 v1998
  let v2003 : BitVec 32 := Scalar.addi v1997 v1996
  let v2004 : BitVec 32 := Scalar.select v2002 v2003 v1997
  let c1_i32_1289 : BitVec 32 := 1#32
  let v2005 : BitVec 32 := Scalar.muli v2004 c1_i32_1289
  let v2006 : BitVec 32 := Scalar.addi c0_i32_1290 v2005
  v2006.toNat
def k0_dev66 (d0 : Dev nD) : Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1293 : BitVec 32 := 4#32
  let v2013 : BitVec 32 := Scalar.addi v2 c4_i32_1293
  let c32_i32_1294 : BitVec 32 := 32#32
  let c0_i32_1295 : BitVec 32 := 0#32
  let v2014 : BitVec 1 := Scalar.cmpi .eq c32_i32_1294 c0_i32_1295
  let c1_i32_1296 : BitVec 32 := 1#32
  let v2015 : BitVec 32 := Scalar.select v2014 c1_i32_1296 c32_i32_1294
  let v2016 : BitVec 32 := Scalar.remsi v2013 v2015
  let c0_i32_1298 : BitVec 32 := 0#32
  let v2018 : BitVec 1 := Scalar.cmpi .slt v2016 c0_i32_1298
  let c0_i32_1299 : BitVec 32 := 0#32
  let v2019 : BitVec 1 := Scalar.cmpi .slt v2015 c0_i32_1299
  let v2020 : BitVec 1 := Scalar.xori v2018 v2019
  let c0_i32_1297 : BitVec 32 := 0#32
  let v2017 : BitVec 1 := Scalar.cmpi .ne v2016 c0_i32_1297
  let v2021 : BitVec 1 := Scalar.andi v2020 v2017
  let v2022 : BitVec 32 := Scalar.addi v2016 v2015
  let v2023 : BitVec 32 := Scalar.select v2021 v2022 v2016
  let c1_i32_1301 : BitVec 32 := 1#32
  let v2024 : BitVec 32 := Scalar.muli v2023 c1_i32_1301
  let v2025 : BitVec 32 := Scalar.addi c0_i32_1302 v2024
  v2025.toNat
def k0_dev67 (d0 : Dev nD) : Nat :=
  let c0_i32_1314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1305 : BitVec 32 := 5#32
  let v2032 : BitVec 32 := Scalar.addi v2 c5_i32_1305
  let c32_i32_1306 : BitVec 32 := 32#32
  let c0_i32_1307 : BitVec 32 := 0#32
  let v2033 : BitVec 1 := Scalar.cmpi .eq c32_i32_1306 c0_i32_1307
  let c1_i32_1308 : BitVec 32 := 1#32
  let v2034 : BitVec 32 := Scalar.select v2033 c1_i32_1308 c32_i32_1306
  let v2035 : BitVec 32 := Scalar.remsi v2032 v2034
  let c0_i32_1310 : BitVec 32 := 0#32
  let v2037 : BitVec 1 := Scalar.cmpi .slt v2035 c0_i32_1310
  let c0_i32_1311 : BitVec 32 := 0#32
  let v2038 : BitVec 1 := Scalar.cmpi .slt v2034 c0_i32_1311
  let v2039 : BitVec 1 := Scalar.xori v2037 v2038
  let c0_i32_1309 : BitVec 32 := 0#32
  let v2036 : BitVec 1 := Scalar.cmpi .ne v2035 c0_i32_1309
  let v2040 : BitVec 1 := Scalar.andi v2039 v2036
  let v2041 : BitVec 32 := Scalar.addi v2035 v2034
  let v2042 : BitVec 32 := Scalar.select v2040 v2041 v2035
  let c1_i32_1313 : BitVec 32 := 1#32
  let v2043 : BitVec 32 := Scalar.muli v2042 c1_i32_1313
  let v2044 : BitVec 32 := Scalar.addi c0_i32_1314 v2043
  v2044.toNat
def k0_dev68 (d0 : Dev nD) : Nat :=
  let c0_i32_1326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1317 : BitVec 32 := 6#32
  let v2051 : BitVec 32 := Scalar.addi v2 c6_i32_1317
  let c32_i32_1318 : BitVec 32 := 32#32
  let c0_i32_1319 : BitVec 32 := 0#32
  let v2052 : BitVec 1 := Scalar.cmpi .eq c32_i32_1318 c0_i32_1319
  let c1_i32_1320 : BitVec 32 := 1#32
  let v2053 : BitVec 32 := Scalar.select v2052 c1_i32_1320 c32_i32_1318
  let v2054 : BitVec 32 := Scalar.remsi v2051 v2053
  let c0_i32_1322 : BitVec 32 := 0#32
  let v2056 : BitVec 1 := Scalar.cmpi .slt v2054 c0_i32_1322
  let c0_i32_1323 : BitVec 32 := 0#32
  let v2057 : BitVec 1 := Scalar.cmpi .slt v2053 c0_i32_1323
  let v2058 : BitVec 1 := Scalar.xori v2056 v2057
  let c0_i32_1321 : BitVec 32 := 0#32
  let v2055 : BitVec 1 := Scalar.cmpi .ne v2054 c0_i32_1321
  let v2059 : BitVec 1 := Scalar.andi v2058 v2055
  let v2060 : BitVec 32 := Scalar.addi v2054 v2053
  let v2061 : BitVec 32 := Scalar.select v2059 v2060 v2054
  let c1_i32_1325 : BitVec 32 := 1#32
  let v2062 : BitVec 32 := Scalar.muli v2061 c1_i32_1325
  let v2063 : BitVec 32 := Scalar.addi c0_i32_1326 v2062
  v2063.toNat
def k0_dev69 (d0 : Dev nD) : Nat :=
  let c0_i32_1338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1329 : BitVec 32 := 7#32
  let v2070 : BitVec 32 := Scalar.addi v2 c7_i32_1329
  let c32_i32_1330 : BitVec 32 := 32#32
  let c0_i32_1331 : BitVec 32 := 0#32
  let v2071 : BitVec 1 := Scalar.cmpi .eq c32_i32_1330 c0_i32_1331
  let c1_i32_1332 : BitVec 32 := 1#32
  let v2072 : BitVec 32 := Scalar.select v2071 c1_i32_1332 c32_i32_1330
  let v2073 : BitVec 32 := Scalar.remsi v2070 v2072
  let c0_i32_1334 : BitVec 32 := 0#32
  let v2075 : BitVec 1 := Scalar.cmpi .slt v2073 c0_i32_1334
  let c0_i32_1335 : BitVec 32 := 0#32
  let v2076 : BitVec 1 := Scalar.cmpi .slt v2072 c0_i32_1335
  let v2077 : BitVec 1 := Scalar.xori v2075 v2076
  let c0_i32_1333 : BitVec 32 := 0#32
  let v2074 : BitVec 1 := Scalar.cmpi .ne v2073 c0_i32_1333
  let v2078 : BitVec 1 := Scalar.andi v2077 v2074
  let v2079 : BitVec 32 := Scalar.addi v2073 v2072
  let v2080 : BitVec 32 := Scalar.select v2078 v2079 v2073
  let c1_i32_1337 : BitVec 32 := 1#32
  let v2081 : BitVec 32 := Scalar.muli v2080 c1_i32_1337
  let v2082 : BitVec 32 := Scalar.addi c0_i32_1338 v2081
  v2082.toNat
def k0_dev70 (d0 : Dev nD) : Nat :=
  let c0_i32_1350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1341 : BitVec 32 := 8#32
  let v2089 : BitVec 32 := Scalar.addi v2 c8_i32_1341
  let c32_i32_1342 : BitVec 32 := 32#32
  let c0_i32_1343 : BitVec 32 := 0#32
  let v2090 : BitVec 1 := Scalar.cmpi .eq c32_i32_1342 c0_i32_1343
  let c1_i32_1344 : BitVec 32 := 1#32
  let v2091 : BitVec 32 := Scalar.select v2090 c1_i32_1344 c32_i32_1342
  let v2092 : BitVec 32 := Scalar.remsi v2089 v2091
  let c0_i32_1346 : BitVec 32 := 0#32
  let v2094 : BitVec 1 := Scalar.cmpi .slt v2092 c0_i32_1346
  let c0_i32_1347 : BitVec 32 := 0#32
  let v2095 : BitVec 1 := Scalar.cmpi .slt v2091 c0_i32_1347
  let v2096 : BitVec 1 := Scalar.xori v2094 v2095
  let c0_i32_1345 : BitVec 32 := 0#32
  let v2093 : BitVec 1 := Scalar.cmpi .ne v2092 c0_i32_1345
  let v2097 : BitVec 1 := Scalar.andi v2096 v2093
  let v2098 : BitVec 32 := Scalar.addi v2092 v2091
  let v2099 : BitVec 32 := Scalar.select v2097 v2098 v2092
  let c1_i32_1349 : BitVec 32 := 1#32
  let v2100 : BitVec 32 := Scalar.muli v2099 c1_i32_1349
  let v2101 : BitVec 32 := Scalar.addi c0_i32_1350 v2100
  v2101.toNat
def k0_dev71 (d0 : Dev nD) : Nat :=
  let c0_i32_1362 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1353 : BitVec 32 := 9#32
  let v2108 : BitVec 32 := Scalar.addi v2 c9_i32_1353
  let c32_i32_1354 : BitVec 32 := 32#32
  let c0_i32_1355 : BitVec 32 := 0#32
  let v2109 : BitVec 1 := Scalar.cmpi .eq c32_i32_1354 c0_i32_1355
  let c1_i32_1356 : BitVec 32 := 1#32
  let v2110 : BitVec 32 := Scalar.select v2109 c1_i32_1356 c32_i32_1354
  let v2111 : BitVec 32 := Scalar.remsi v2108 v2110
  let c0_i32_1358 : BitVec 32 := 0#32
  let v2113 : BitVec 1 := Scalar.cmpi .slt v2111 c0_i32_1358
  let c0_i32_1359 : BitVec 32 := 0#32
  let v2114 : BitVec 1 := Scalar.cmpi .slt v2110 c0_i32_1359
  let v2115 : BitVec 1 := Scalar.xori v2113 v2114
  let c0_i32_1357 : BitVec 32 := 0#32
  let v2112 : BitVec 1 := Scalar.cmpi .ne v2111 c0_i32_1357
  let v2116 : BitVec 1 := Scalar.andi v2115 v2112
  let v2117 : BitVec 32 := Scalar.addi v2111 v2110
  let v2118 : BitVec 32 := Scalar.select v2116 v2117 v2111
  let c1_i32_1361 : BitVec 32 := 1#32
  let v2119 : BitVec 32 := Scalar.muli v2118 c1_i32_1361
  let v2120 : BitVec 32 := Scalar.addi c0_i32_1362 v2119
  v2120.toNat
def k0_dev72 (d0 : Dev nD) : Nat :=
  let c0_i32_1374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1365 : BitVec 32 := 10#32
  let v2127 : BitVec 32 := Scalar.addi v2 c10_i32_1365
  let c32_i32_1366 : BitVec 32 := 32#32
  let c0_i32_1367 : BitVec 32 := 0#32
  let v2128 : BitVec 1 := Scalar.cmpi .eq c32_i32_1366 c0_i32_1367
  let c1_i32_1368 : BitVec 32 := 1#32
  let v2129 : BitVec 32 := Scalar.select v2128 c1_i32_1368 c32_i32_1366
  let v2130 : BitVec 32 := Scalar.remsi v2127 v2129
  let c0_i32_1370 : BitVec 32 := 0#32
  let v2132 : BitVec 1 := Scalar.cmpi .slt v2130 c0_i32_1370
  let c0_i32_1371 : BitVec 32 := 0#32
  let v2133 : BitVec 1 := Scalar.cmpi .slt v2129 c0_i32_1371
  let v2134 : BitVec 1 := Scalar.xori v2132 v2133
  let c0_i32_1369 : BitVec 32 := 0#32
  let v2131 : BitVec 1 := Scalar.cmpi .ne v2130 c0_i32_1369
  let v2135 : BitVec 1 := Scalar.andi v2134 v2131
  let v2136 : BitVec 32 := Scalar.addi v2130 v2129
  let v2137 : BitVec 32 := Scalar.select v2135 v2136 v2130
  let c1_i32_1373 : BitVec 32 := 1#32
  let v2138 : BitVec 32 := Scalar.muli v2137 c1_i32_1373
  let v2139 : BitVec 32 := Scalar.addi c0_i32_1374 v2138
  v2139.toNat
def k0_dev73 (d0 : Dev nD) : Nat :=
  let c0_i32_1386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1377 : BitVec 32 := 11#32
  let v2146 : BitVec 32 := Scalar.addi v2 c11_i32_1377
  let c32_i32_1378 : BitVec 32 := 32#32
  let c0_i32_1379 : BitVec 32 := 0#32
  let v2147 : BitVec 1 := Scalar.cmpi .eq c32_i32_1378 c0_i32_1379
  let c1_i32_1380 : BitVec 32 := 1#32
  let v2148 : BitVec 32 := Scalar.select v2147 c1_i32_1380 c32_i32_1378
  let v2149 : BitVec 32 := Scalar.remsi v2146 v2148
  let c0_i32_1382 : BitVec 32 := 0#32
  let v2151 : BitVec 1 := Scalar.cmpi .slt v2149 c0_i32_1382
  let c0_i32_1383 : BitVec 32 := 0#32
  let v2152 : BitVec 1 := Scalar.cmpi .slt v2148 c0_i32_1383
  let v2153 : BitVec 1 := Scalar.xori v2151 v2152
  let c0_i32_1381 : BitVec 32 := 0#32
  let v2150 : BitVec 1 := Scalar.cmpi .ne v2149 c0_i32_1381
  let v2154 : BitVec 1 := Scalar.andi v2153 v2150
  let v2155 : BitVec 32 := Scalar.addi v2149 v2148
  let v2156 : BitVec 32 := Scalar.select v2154 v2155 v2149
  let c1_i32_1385 : BitVec 32 := 1#32
  let v2157 : BitVec 32 := Scalar.muli v2156 c1_i32_1385
  let v2158 : BitVec 32 := Scalar.addi c0_i32_1386 v2157
  v2158.toNat
def k0_dev74 (d0 : Dev nD) : Nat :=
  let c0_i32_1398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1389 : BitVec 32 := 12#32
  let v2165 : BitVec 32 := Scalar.addi v2 c12_i32_1389
  let c32_i32_1390 : BitVec 32 := 32#32
  let c0_i32_1391 : BitVec 32 := 0#32
  let v2166 : BitVec 1 := Scalar.cmpi .eq c32_i32_1390 c0_i32_1391
  let c1_i32_1392 : BitVec 32 := 1#32
  let v2167 : BitVec 32 := Scalar.select v2166 c1_i32_1392 c32_i32_1390
  let v2168 : BitVec 32 := Scalar.remsi v2165 v2167
  let c0_i32_1394 : BitVec 32 := 0#32
  let v2170 : BitVec 1 := Scalar.cmpi .slt v2168 c0_i32_1394
  let c0_i32_1395 : BitVec 32 := 0#32
  let v2171 : BitVec 1 := Scalar.cmpi .slt v2167 c0_i32_1395
  let v2172 : BitVec 1 := Scalar.xori v2170 v2171
  let c0_i32_1393 : BitVec 32 := 0#32
  let v2169 : BitVec 1 := Scalar.cmpi .ne v2168 c0_i32_1393
  let v2173 : BitVec 1 := Scalar.andi v2172 v2169
  let v2174 : BitVec 32 := Scalar.addi v2168 v2167
  let v2175 : BitVec 32 := Scalar.select v2173 v2174 v2168
  let c1_i32_1397 : BitVec 32 := 1#32
  let v2176 : BitVec 32 := Scalar.muli v2175 c1_i32_1397
  let v2177 : BitVec 32 := Scalar.addi c0_i32_1398 v2176
  v2177.toNat
def k0_dev75 (d0 : Dev nD) : Nat :=
  let c0_i32_1410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1401 : BitVec 32 := 13#32
  let v2184 : BitVec 32 := Scalar.addi v2 c13_i32_1401
  let c32_i32_1402 : BitVec 32 := 32#32
  let c0_i32_1403 : BitVec 32 := 0#32
  let v2185 : BitVec 1 := Scalar.cmpi .eq c32_i32_1402 c0_i32_1403
  let c1_i32_1404 : BitVec 32 := 1#32
  let v2186 : BitVec 32 := Scalar.select v2185 c1_i32_1404 c32_i32_1402
  let v2187 : BitVec 32 := Scalar.remsi v2184 v2186
  let c0_i32_1406 : BitVec 32 := 0#32
  let v2189 : BitVec 1 := Scalar.cmpi .slt v2187 c0_i32_1406
  let c0_i32_1407 : BitVec 32 := 0#32
  let v2190 : BitVec 1 := Scalar.cmpi .slt v2186 c0_i32_1407
  let v2191 : BitVec 1 := Scalar.xori v2189 v2190
  let c0_i32_1405 : BitVec 32 := 0#32
  let v2188 : BitVec 1 := Scalar.cmpi .ne v2187 c0_i32_1405
  let v2192 : BitVec 1 := Scalar.andi v2191 v2188
  let v2193 : BitVec 32 := Scalar.addi v2187 v2186
  let v2194 : BitVec 32 := Scalar.select v2192 v2193 v2187
  let c1_i32_1409 : BitVec 32 := 1#32
  let v2195 : BitVec 32 := Scalar.muli v2194 c1_i32_1409
  let v2196 : BitVec 32 := Scalar.addi c0_i32_1410 v2195
  v2196.toNat
def k0_dev76 (d0 : Dev nD) : Nat :=
  let c0_i32_1422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1413 : BitVec 32 := 14#32
  let v2203 : BitVec 32 := Scalar.addi v2 c14_i32_1413
  let c32_i32_1414 : BitVec 32 := 32#32
  let c0_i32_1415 : BitVec 32 := 0#32
  let v2204 : BitVec 1 := Scalar.cmpi .eq c32_i32_1414 c0_i32_1415
  let c1_i32_1416 : BitVec 32 := 1#32
  let v2205 : BitVec 32 := Scalar.select v2204 c1_i32_1416 c32_i32_1414
  let v2206 : BitVec 32 := Scalar.remsi v2203 v2205
  let c0_i32_1418 : BitVec 32 := 0#32
  let v2208 : BitVec 1 := Scalar.cmpi .slt v2206 c0_i32_1418
  let c0_i32_1419 : BitVec 32 := 0#32
  let v2209 : BitVec 1 := Scalar.cmpi .slt v2205 c0_i32_1419
  let v2210 : BitVec 1 := Scalar.xori v2208 v2209
  let c0_i32_1417 : BitVec 32 := 0#32
  let v2207 : BitVec 1 := Scalar.cmpi .ne v2206 c0_i32_1417
  let v2211 : BitVec 1 := Scalar.andi v2210 v2207
  let v2212 : BitVec 32 := Scalar.addi v2206 v2205
  let v2213 : BitVec 32 := Scalar.select v2211 v2212 v2206
  let c1_i32_1421 : BitVec 32 := 1#32
  let v2214 : BitVec 32 := Scalar.muli v2213 c1_i32_1421
  let v2215 : BitVec 32 := Scalar.addi c0_i32_1422 v2214
  v2215.toNat
def k0_dev77 (d0 : Dev nD) : Nat :=
  let c0_i32_1434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1425 : BitVec 32 := 15#32
  let v2222 : BitVec 32 := Scalar.addi v2 c15_i32_1425
  let c32_i32_1426 : BitVec 32 := 32#32
  let c0_i32_1427 : BitVec 32 := 0#32
  let v2223 : BitVec 1 := Scalar.cmpi .eq c32_i32_1426 c0_i32_1427
  let c1_i32_1428 : BitVec 32 := 1#32
  let v2224 : BitVec 32 := Scalar.select v2223 c1_i32_1428 c32_i32_1426
  let v2225 : BitVec 32 := Scalar.remsi v2222 v2224
  let c0_i32_1430 : BitVec 32 := 0#32
  let v2227 : BitVec 1 := Scalar.cmpi .slt v2225 c0_i32_1430
  let c0_i32_1431 : BitVec 32 := 0#32
  let v2228 : BitVec 1 := Scalar.cmpi .slt v2224 c0_i32_1431
  let v2229 : BitVec 1 := Scalar.xori v2227 v2228
  let c0_i32_1429 : BitVec 32 := 0#32
  let v2226 : BitVec 1 := Scalar.cmpi .ne v2225 c0_i32_1429
  let v2230 : BitVec 1 := Scalar.andi v2229 v2226
  let v2231 : BitVec 32 := Scalar.addi v2225 v2224
  let v2232 : BitVec 32 := Scalar.select v2230 v2231 v2225
  let c1_i32_1433 : BitVec 32 := 1#32
  let v2233 : BitVec 32 := Scalar.muli v2232 c1_i32_1433
  let v2234 : BitVec 32 := Scalar.addi c0_i32_1434 v2233
  v2234.toNat
def k0_dev78 (d0 : Dev nD) : Nat :=
  let c0_i32_1446 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1437 : BitVec 32 := 16#32
  let v2241 : BitVec 32 := Scalar.addi v2 c16_i32_1437
  let c32_i32_1438 : BitVec 32 := 32#32
  let c0_i32_1439 : BitVec 32 := 0#32
  let v2242 : BitVec 1 := Scalar.cmpi .eq c32_i32_1438 c0_i32_1439
  let c1_i32_1440 : BitVec 32 := 1#32
  let v2243 : BitVec 32 := Scalar.select v2242 c1_i32_1440 c32_i32_1438
  let v2244 : BitVec 32 := Scalar.remsi v2241 v2243
  let c0_i32_1442 : BitVec 32 := 0#32
  let v2246 : BitVec 1 := Scalar.cmpi .slt v2244 c0_i32_1442
  let c0_i32_1443 : BitVec 32 := 0#32
  let v2247 : BitVec 1 := Scalar.cmpi .slt v2243 c0_i32_1443
  let v2248 : BitVec 1 := Scalar.xori v2246 v2247
  let c0_i32_1441 : BitVec 32 := 0#32
  let v2245 : BitVec 1 := Scalar.cmpi .ne v2244 c0_i32_1441
  let v2249 : BitVec 1 := Scalar.andi v2248 v2245
  let v2250 : BitVec 32 := Scalar.addi v2244 v2243
  let v2251 : BitVec 32 := Scalar.select v2249 v2250 v2244
  let c1_i32_1445 : BitVec 32 := 1#32
  let v2252 : BitVec 32 := Scalar.muli v2251 c1_i32_1445
  let v2253 : BitVec 32 := Scalar.addi c0_i32_1446 v2252
  v2253.toNat
def k0_dev79 (d0 : Dev nD) : Nat :=
  let c0_i32_1458 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1449 : BitVec 32 := 17#32
  let v2260 : BitVec 32 := Scalar.addi v2 c17_i32_1449
  let c32_i32_1450 : BitVec 32 := 32#32
  let c0_i32_1451 : BitVec 32 := 0#32
  let v2261 : BitVec 1 := Scalar.cmpi .eq c32_i32_1450 c0_i32_1451
  let c1_i32_1452 : BitVec 32 := 1#32
  let v2262 : BitVec 32 := Scalar.select v2261 c1_i32_1452 c32_i32_1450
  let v2263 : BitVec 32 := Scalar.remsi v2260 v2262
  let c0_i32_1454 : BitVec 32 := 0#32
  let v2265 : BitVec 1 := Scalar.cmpi .slt v2263 c0_i32_1454
  let c0_i32_1455 : BitVec 32 := 0#32
  let v2266 : BitVec 1 := Scalar.cmpi .slt v2262 c0_i32_1455
  let v2267 : BitVec 1 := Scalar.xori v2265 v2266
  let c0_i32_1453 : BitVec 32 := 0#32
  let v2264 : BitVec 1 := Scalar.cmpi .ne v2263 c0_i32_1453
  let v2268 : BitVec 1 := Scalar.andi v2267 v2264
  let v2269 : BitVec 32 := Scalar.addi v2263 v2262
  let v2270 : BitVec 32 := Scalar.select v2268 v2269 v2263
  let c1_i32_1457 : BitVec 32 := 1#32
  let v2271 : BitVec 32 := Scalar.muli v2270 c1_i32_1457
  let v2272 : BitVec 32 := Scalar.addi c0_i32_1458 v2271
  v2272.toNat
def k0_dev80 (d0 : Dev nD) : Nat :=
  let c0_i32_1470 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1461 : BitVec 32 := 18#32
  let v2279 : BitVec 32 := Scalar.addi v2 c18_i32_1461
  let c32_i32_1462 : BitVec 32 := 32#32
  let c0_i32_1463 : BitVec 32 := 0#32
  let v2280 : BitVec 1 := Scalar.cmpi .eq c32_i32_1462 c0_i32_1463
  let c1_i32_1464 : BitVec 32 := 1#32
  let v2281 : BitVec 32 := Scalar.select v2280 c1_i32_1464 c32_i32_1462
  let v2282 : BitVec 32 := Scalar.remsi v2279 v2281
  let c0_i32_1466 : BitVec 32 := 0#32
  let v2284 : BitVec 1 := Scalar.cmpi .slt v2282 c0_i32_1466
  let c0_i32_1467 : BitVec 32 := 0#32
  let v2285 : BitVec 1 := Scalar.cmpi .slt v2281 c0_i32_1467
  let v2286 : BitVec 1 := Scalar.xori v2284 v2285
  let c0_i32_1465 : BitVec 32 := 0#32
  let v2283 : BitVec 1 := Scalar.cmpi .ne v2282 c0_i32_1465
  let v2287 : BitVec 1 := Scalar.andi v2286 v2283
  let v2288 : BitVec 32 := Scalar.addi v2282 v2281
  let v2289 : BitVec 32 := Scalar.select v2287 v2288 v2282
  let c1_i32_1469 : BitVec 32 := 1#32
  let v2290 : BitVec 32 := Scalar.muli v2289 c1_i32_1469
  let v2291 : BitVec 32 := Scalar.addi c0_i32_1470 v2290
  v2291.toNat
def k0_dev81 (d0 : Dev nD) : Nat :=
  let c0_i32_1482 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1473 : BitVec 32 := 19#32
  let v2298 : BitVec 32 := Scalar.addi v2 c19_i32_1473
  let c32_i32_1474 : BitVec 32 := 32#32
  let c0_i32_1475 : BitVec 32 := 0#32
  let v2299 : BitVec 1 := Scalar.cmpi .eq c32_i32_1474 c0_i32_1475
  let c1_i32_1476 : BitVec 32 := 1#32
  let v2300 : BitVec 32 := Scalar.select v2299 c1_i32_1476 c32_i32_1474
  let v2301 : BitVec 32 := Scalar.remsi v2298 v2300
  let c0_i32_1478 : BitVec 32 := 0#32
  let v2303 : BitVec 1 := Scalar.cmpi .slt v2301 c0_i32_1478
  let c0_i32_1479 : BitVec 32 := 0#32
  let v2304 : BitVec 1 := Scalar.cmpi .slt v2300 c0_i32_1479
  let v2305 : BitVec 1 := Scalar.xori v2303 v2304
  let c0_i32_1477 : BitVec 32 := 0#32
  let v2302 : BitVec 1 := Scalar.cmpi .ne v2301 c0_i32_1477
  let v2306 : BitVec 1 := Scalar.andi v2305 v2302
  let v2307 : BitVec 32 := Scalar.addi v2301 v2300
  let v2308 : BitVec 32 := Scalar.select v2306 v2307 v2301
  let c1_i32_1481 : BitVec 32 := 1#32
  let v2309 : BitVec 32 := Scalar.muli v2308 c1_i32_1481
  let v2310 : BitVec 32 := Scalar.addi c0_i32_1482 v2309
  v2310.toNat
def k0_dev82 (d0 : Dev nD) : Nat :=
  let c0_i32_1494 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1485 : BitVec 32 := 20#32
  let v2317 : BitVec 32 := Scalar.addi v2 c20_i32_1485
  let c32_i32_1486 : BitVec 32 := 32#32
  let c0_i32_1487 : BitVec 32 := 0#32
  let v2318 : BitVec 1 := Scalar.cmpi .eq c32_i32_1486 c0_i32_1487
  let c1_i32_1488 : BitVec 32 := 1#32
  let v2319 : BitVec 32 := Scalar.select v2318 c1_i32_1488 c32_i32_1486
  let v2320 : BitVec 32 := Scalar.remsi v2317 v2319
  let c0_i32_1490 : BitVec 32 := 0#32
  let v2322 : BitVec 1 := Scalar.cmpi .slt v2320 c0_i32_1490
  let c0_i32_1491 : BitVec 32 := 0#32
  let v2323 : BitVec 1 := Scalar.cmpi .slt v2319 c0_i32_1491
  let v2324 : BitVec 1 := Scalar.xori v2322 v2323
  let c0_i32_1489 : BitVec 32 := 0#32
  let v2321 : BitVec 1 := Scalar.cmpi .ne v2320 c0_i32_1489
  let v2325 : BitVec 1 := Scalar.andi v2324 v2321
  let v2326 : BitVec 32 := Scalar.addi v2320 v2319
  let v2327 : BitVec 32 := Scalar.select v2325 v2326 v2320
  let c1_i32_1493 : BitVec 32 := 1#32
  let v2328 : BitVec 32 := Scalar.muli v2327 c1_i32_1493
  let v2329 : BitVec 32 := Scalar.addi c0_i32_1494 v2328
  v2329.toNat
def k0_dev83 (d0 : Dev nD) : Nat :=
  let c0_i32_1506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1497 : BitVec 32 := 21#32
  let v2336 : BitVec 32 := Scalar.addi v2 c21_i32_1497
  let c32_i32_1498 : BitVec 32 := 32#32
  let c0_i32_1499 : BitVec 32 := 0#32
  let v2337 : BitVec 1 := Scalar.cmpi .eq c32_i32_1498 c0_i32_1499
  let c1_i32_1500 : BitVec 32 := 1#32
  let v2338 : BitVec 32 := Scalar.select v2337 c1_i32_1500 c32_i32_1498
  let v2339 : BitVec 32 := Scalar.remsi v2336 v2338
  let c0_i32_1502 : BitVec 32 := 0#32
  let v2341 : BitVec 1 := Scalar.cmpi .slt v2339 c0_i32_1502
  let c0_i32_1503 : BitVec 32 := 0#32
  let v2342 : BitVec 1 := Scalar.cmpi .slt v2338 c0_i32_1503
  let v2343 : BitVec 1 := Scalar.xori v2341 v2342
  let c0_i32_1501 : BitVec 32 := 0#32
  let v2340 : BitVec 1 := Scalar.cmpi .ne v2339 c0_i32_1501
  let v2344 : BitVec 1 := Scalar.andi v2343 v2340
  let v2345 : BitVec 32 := Scalar.addi v2339 v2338
  let v2346 : BitVec 32 := Scalar.select v2344 v2345 v2339
  let c1_i32_1505 : BitVec 32 := 1#32
  let v2347 : BitVec 32 := Scalar.muli v2346 c1_i32_1505
  let v2348 : BitVec 32 := Scalar.addi c0_i32_1506 v2347
  v2348.toNat
def k0_dev84 (d0 : Dev nD) : Nat :=
  let c0_i32_1518 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1509 : BitVec 32 := 22#32
  let v2355 : BitVec 32 := Scalar.addi v2 c22_i32_1509
  let c32_i32_1510 : BitVec 32 := 32#32
  let c0_i32_1511 : BitVec 32 := 0#32
  let v2356 : BitVec 1 := Scalar.cmpi .eq c32_i32_1510 c0_i32_1511
  let c1_i32_1512 : BitVec 32 := 1#32
  let v2357 : BitVec 32 := Scalar.select v2356 c1_i32_1512 c32_i32_1510
  let v2358 : BitVec 32 := Scalar.remsi v2355 v2357
  let c0_i32_1514 : BitVec 32 := 0#32
  let v2360 : BitVec 1 := Scalar.cmpi .slt v2358 c0_i32_1514
  let c0_i32_1515 : BitVec 32 := 0#32
  let v2361 : BitVec 1 := Scalar.cmpi .slt v2357 c0_i32_1515
  let v2362 : BitVec 1 := Scalar.xori v2360 v2361
  let c0_i32_1513 : BitVec 32 := 0#32
  let v2359 : BitVec 1 := Scalar.cmpi .ne v2358 c0_i32_1513
  let v2363 : BitVec 1 := Scalar.andi v2362 v2359
  let v2364 : BitVec 32 := Scalar.addi v2358 v2357
  let v2365 : BitVec 32 := Scalar.select v2363 v2364 v2358
  let c1_i32_1517 : BitVec 32 := 1#32
  let v2366 : BitVec 32 := Scalar.muli v2365 c1_i32_1517
  let v2367 : BitVec 32 := Scalar.addi c0_i32_1518 v2366
  v2367.toNat
def k0_dev85 (d0 : Dev nD) : Nat :=
  let c0_i32_1530 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1521 : BitVec 32 := 23#32
  let v2374 : BitVec 32 := Scalar.addi v2 c23_i32_1521
  let c32_i32_1522 : BitVec 32 := 32#32
  let c0_i32_1523 : BitVec 32 := 0#32
  let v2375 : BitVec 1 := Scalar.cmpi .eq c32_i32_1522 c0_i32_1523
  let c1_i32_1524 : BitVec 32 := 1#32
  let v2376 : BitVec 32 := Scalar.select v2375 c1_i32_1524 c32_i32_1522
  let v2377 : BitVec 32 := Scalar.remsi v2374 v2376
  let c0_i32_1526 : BitVec 32 := 0#32
  let v2379 : BitVec 1 := Scalar.cmpi .slt v2377 c0_i32_1526
  let c0_i32_1527 : BitVec 32 := 0#32
  let v2380 : BitVec 1 := Scalar.cmpi .slt v2376 c0_i32_1527
  let v2381 : BitVec 1 := Scalar.xori v2379 v2380
  let c0_i32_1525 : BitVec 32 := 0#32
  let v2378 : BitVec 1 := Scalar.cmpi .ne v2377 c0_i32_1525
  let v2382 : BitVec 1 := Scalar.andi v2381 v2378
  let v2383 : BitVec 32 := Scalar.addi v2377 v2376
  let v2384 : BitVec 32 := Scalar.select v2382 v2383 v2377
  let c1_i32_1529 : BitVec 32 := 1#32
  let v2385 : BitVec 32 := Scalar.muli v2384 c1_i32_1529
  let v2386 : BitVec 32 := Scalar.addi c0_i32_1530 v2385
  v2386.toNat
def k0_dev86 (d0 : Dev nD) : Nat :=
  let c0_i32_1542 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1533 : BitVec 32 := 24#32
  let v2393 : BitVec 32 := Scalar.addi v2 c24_i32_1533
  let c32_i32_1534 : BitVec 32 := 32#32
  let c0_i32_1535 : BitVec 32 := 0#32
  let v2394 : BitVec 1 := Scalar.cmpi .eq c32_i32_1534 c0_i32_1535
  let c1_i32_1536 : BitVec 32 := 1#32
  let v2395 : BitVec 32 := Scalar.select v2394 c1_i32_1536 c32_i32_1534
  let v2396 : BitVec 32 := Scalar.remsi v2393 v2395
  let c0_i32_1538 : BitVec 32 := 0#32
  let v2398 : BitVec 1 := Scalar.cmpi .slt v2396 c0_i32_1538
  let c0_i32_1539 : BitVec 32 := 0#32
  let v2399 : BitVec 1 := Scalar.cmpi .slt v2395 c0_i32_1539
  let v2400 : BitVec 1 := Scalar.xori v2398 v2399
  let c0_i32_1537 : BitVec 32 := 0#32
  let v2397 : BitVec 1 := Scalar.cmpi .ne v2396 c0_i32_1537
  let v2401 : BitVec 1 := Scalar.andi v2400 v2397
  let v2402 : BitVec 32 := Scalar.addi v2396 v2395
  let v2403 : BitVec 32 := Scalar.select v2401 v2402 v2396
  let c1_i32_1541 : BitVec 32 := 1#32
  let v2404 : BitVec 32 := Scalar.muli v2403 c1_i32_1541
  let v2405 : BitVec 32 := Scalar.addi c0_i32_1542 v2404
  v2405.toNat
def k0_dev87 (d0 : Dev nD) : Nat :=
  let c0_i32_1554 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1545 : BitVec 32 := 25#32
  let v2412 : BitVec 32 := Scalar.addi v2 c25_i32_1545
  let c32_i32_1546 : BitVec 32 := 32#32
  let c0_i32_1547 : BitVec 32 := 0#32
  let v2413 : BitVec 1 := Scalar.cmpi .eq c32_i32_1546 c0_i32_1547
  let c1_i32_1548 : BitVec 32 := 1#32
  let v2414 : BitVec 32 := Scalar.select v2413 c1_i32_1548 c32_i32_1546
  let v2415 : BitVec 32 := Scalar.remsi v2412 v2414
  let c0_i32_1550 : BitVec 32 := 0#32
  let v2417 : BitVec 1 := Scalar.cmpi .slt v2415 c0_i32_1550
  let c0_i32_1551 : BitVec 32 := 0#32
  let v2418 : BitVec 1 := Scalar.cmpi .slt v2414 c0_i32_1551
  let v2419 : BitVec 1 := Scalar.xori v2417 v2418
  let c0_i32_1549 : BitVec 32 := 0#32
  let v2416 : BitVec 1 := Scalar.cmpi .ne v2415 c0_i32_1549
  let v2420 : BitVec 1 := Scalar.andi v2419 v2416
  let v2421 : BitVec 32 := Scalar.addi v2415 v2414
  let v2422 : BitVec 32 := Scalar.select v2420 v2421 v2415
  let c1_i32_1553 : BitVec 32 := 1#32
  let v2423 : BitVec 32 := Scalar.muli v2422 c1_i32_1553
  let v2424 : BitVec 32 := Scalar.addi c0_i32_1554 v2423
  v2424.toNat
def k0_dev88 (d0 : Dev nD) : Nat :=
  let c0_i32_1566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1557 : BitVec 32 := 26#32
  let v2431 : BitVec 32 := Scalar.addi v2 c26_i32_1557
  let c32_i32_1558 : BitVec 32 := 32#32
  let c0_i32_1559 : BitVec 32 := 0#32
  let v2432 : BitVec 1 := Scalar.cmpi .eq c32_i32_1558 c0_i32_1559
  let c1_i32_1560 : BitVec 32 := 1#32
  let v2433 : BitVec 32 := Scalar.select v2432 c1_i32_1560 c32_i32_1558
  let v2434 : BitVec 32 := Scalar.remsi v2431 v2433
  let c0_i32_1562 : BitVec 32 := 0#32
  let v2436 : BitVec 1 := Scalar.cmpi .slt v2434 c0_i32_1562
  let c0_i32_1563 : BitVec 32 := 0#32
  let v2437 : BitVec 1 := Scalar.cmpi .slt v2433 c0_i32_1563
  let v2438 : BitVec 1 := Scalar.xori v2436 v2437
  let c0_i32_1561 : BitVec 32 := 0#32
  let v2435 : BitVec 1 := Scalar.cmpi .ne v2434 c0_i32_1561
  let v2439 : BitVec 1 := Scalar.andi v2438 v2435
  let v2440 : BitVec 32 := Scalar.addi v2434 v2433
  let v2441 : BitVec 32 := Scalar.select v2439 v2440 v2434
  let c1_i32_1565 : BitVec 32 := 1#32
  let v2442 : BitVec 32 := Scalar.muli v2441 c1_i32_1565
  let v2443 : BitVec 32 := Scalar.addi c0_i32_1566 v2442
  v2443.toNat
def k0_dev89 (d0 : Dev nD) : Nat :=
  let c0_i32_1578 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1569 : BitVec 32 := 27#32
  let v2450 : BitVec 32 := Scalar.addi v2 c27_i32_1569
  let c32_i32_1570 : BitVec 32 := 32#32
  let c0_i32_1571 : BitVec 32 := 0#32
  let v2451 : BitVec 1 := Scalar.cmpi .eq c32_i32_1570 c0_i32_1571
  let c1_i32_1572 : BitVec 32 := 1#32
  let v2452 : BitVec 32 := Scalar.select v2451 c1_i32_1572 c32_i32_1570
  let v2453 : BitVec 32 := Scalar.remsi v2450 v2452
  let c0_i32_1574 : BitVec 32 := 0#32
  let v2455 : BitVec 1 := Scalar.cmpi .slt v2453 c0_i32_1574
  let c0_i32_1575 : BitVec 32 := 0#32
  let v2456 : BitVec 1 := Scalar.cmpi .slt v2452 c0_i32_1575
  let v2457 : BitVec 1 := Scalar.xori v2455 v2456
  let c0_i32_1573 : BitVec 32 := 0#32
  let v2454 : BitVec 1 := Scalar.cmpi .ne v2453 c0_i32_1573
  let v2458 : BitVec 1 := Scalar.andi v2457 v2454
  let v2459 : BitVec 32 := Scalar.addi v2453 v2452
  let v2460 : BitVec 32 := Scalar.select v2458 v2459 v2453
  let c1_i32_1577 : BitVec 32 := 1#32
  let v2461 : BitVec 32 := Scalar.muli v2460 c1_i32_1577
  let v2462 : BitVec 32 := Scalar.addi c0_i32_1578 v2461
  v2462.toNat
def k0_dev90 (d0 : Dev nD) : Nat :=
  let c0_i32_1590 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1581 : BitVec 32 := 28#32
  let v2469 : BitVec 32 := Scalar.addi v2 c28_i32_1581
  let c32_i32_1582 : BitVec 32 := 32#32
  let c0_i32_1583 : BitVec 32 := 0#32
  let v2470 : BitVec 1 := Scalar.cmpi .eq c32_i32_1582 c0_i32_1583
  let c1_i32_1584 : BitVec 32 := 1#32
  let v2471 : BitVec 32 := Scalar.select v2470 c1_i32_1584 c32_i32_1582
  let v2472 : BitVec 32 := Scalar.remsi v2469 v2471
  let c0_i32_1586 : BitVec 32 := 0#32
  let v2474 : BitVec 1 := Scalar.cmpi .slt v2472 c0_i32_1586
  let c0_i32_1587 : BitVec 32 := 0#32
  let v2475 : BitVec 1 := Scalar.cmpi .slt v2471 c0_i32_1587
  let v2476 : BitVec 1 := Scalar.xori v2474 v2475
  let c0_i32_1585 : BitVec 32 := 0#32
  let v2473 : BitVec 1 := Scalar.cmpi .ne v2472 c0_i32_1585
  let v2477 : BitVec 1 := Scalar.andi v2476 v2473
  let v2478 : BitVec 32 := Scalar.addi v2472 v2471
  let v2479 : BitVec 32 := Scalar.select v2477 v2478 v2472
  let c1_i32_1589 : BitVec 32 := 1#32
  let v2480 : BitVec 32 := Scalar.muli v2479 c1_i32_1589
  let v2481 : BitVec 32 := Scalar.addi c0_i32_1590 v2480
  v2481.toNat
def k0_dev91 (d0 : Dev nD) : Nat :=
  let c0_i32_1602 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1593 : BitVec 32 := 29#32
  let v2488 : BitVec 32 := Scalar.addi v2 c29_i32_1593
  let c32_i32_1594 : BitVec 32 := 32#32
  let c0_i32_1595 : BitVec 32 := 0#32
  let v2489 : BitVec 1 := Scalar.cmpi .eq c32_i32_1594 c0_i32_1595
  let c1_i32_1596 : BitVec 32 := 1#32
  let v2490 : BitVec 32 := Scalar.select v2489 c1_i32_1596 c32_i32_1594
  let v2491 : BitVec 32 := Scalar.remsi v2488 v2490
  let c0_i32_1598 : BitVec 32 := 0#32
  let v2493 : BitVec 1 := Scalar.cmpi .slt v2491 c0_i32_1598
  let c0_i32_1599 : BitVec 32 := 0#32
  let v2494 : BitVec 1 := Scalar.cmpi .slt v2490 c0_i32_1599
  let v2495 : BitVec 1 := Scalar.xori v2493 v2494
  let c0_i32_1597 : BitVec 32 := 0#32
  let v2492 : BitVec 1 := Scalar.cmpi .ne v2491 c0_i32_1597
  let v2496 : BitVec 1 := Scalar.andi v2495 v2492
  let v2497 : BitVec 32 := Scalar.addi v2491 v2490
  let v2498 : BitVec 32 := Scalar.select v2496 v2497 v2491
  let c1_i32_1601 : BitVec 32 := 1#32
  let v2499 : BitVec 32 := Scalar.muli v2498 c1_i32_1601
  let v2500 : BitVec 32 := Scalar.addi c0_i32_1602 v2499
  v2500.toNat
def k0_dev92 (d0 : Dev nD) : Nat :=
  let c0_i32_1614 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1605 : BitVec 32 := 30#32
  let v2507 : BitVec 32 := Scalar.addi v2 c30_i32_1605
  let c32_i32_1606 : BitVec 32 := 32#32
  let c0_i32_1607 : BitVec 32 := 0#32
  let v2508 : BitVec 1 := Scalar.cmpi .eq c32_i32_1606 c0_i32_1607
  let c1_i32_1608 : BitVec 32 := 1#32
  let v2509 : BitVec 32 := Scalar.select v2508 c1_i32_1608 c32_i32_1606
  let v2510 : BitVec 32 := Scalar.remsi v2507 v2509
  let c0_i32_1610 : BitVec 32 := 0#32
  let v2512 : BitVec 1 := Scalar.cmpi .slt v2510 c0_i32_1610
  let c0_i32_1611 : BitVec 32 := 0#32
  let v2513 : BitVec 1 := Scalar.cmpi .slt v2509 c0_i32_1611
  let v2514 : BitVec 1 := Scalar.xori v2512 v2513
  let c0_i32_1609 : BitVec 32 := 0#32
  let v2511 : BitVec 1 := Scalar.cmpi .ne v2510 c0_i32_1609
  let v2515 : BitVec 1 := Scalar.andi v2514 v2511
  let v2516 : BitVec 32 := Scalar.addi v2510 v2509
  let v2517 : BitVec 32 := Scalar.select v2515 v2516 v2510
  let c1_i32_1613 : BitVec 32 := 1#32
  let v2518 : BitVec 32 := Scalar.muli v2517 c1_i32_1613
  let v2519 : BitVec 32 := Scalar.addi c0_i32_1614 v2518
  v2519.toNat
def k0_dev93 (d0 : Dev nD) : Nat :=
  let c0_i32_1626 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1617 : BitVec 32 := 31#32
  let v2526 : BitVec 32 := Scalar.addi v2 c31_i32_1617
  let c32_i32_1618 : BitVec 32 := 32#32
  let c0_i32_1619 : BitVec 32 := 0#32
  let v2527 : BitVec 1 := Scalar.cmpi .eq c32_i32_1618 c0_i32_1619
  let c1_i32_1620 : BitVec 32 := 1#32
  let v2528 : BitVec 32 := Scalar.select v2527 c1_i32_1620 c32_i32_1618
  let v2529 : BitVec 32 := Scalar.remsi v2526 v2528
  let c0_i32_1622 : BitVec 32 := 0#32
  let v2531 : BitVec 1 := Scalar.cmpi .slt v2529 c0_i32_1622
  let c0_i32_1623 : BitVec 32 := 0#32
  let v2532 : BitVec 1 := Scalar.cmpi .slt v2528 c0_i32_1623
  let v2533 : BitVec 1 := Scalar.xori v2531 v2532
  let c0_i32_1621 : BitVec 32 := 0#32
  let v2530 : BitVec 1 := Scalar.cmpi .ne v2529 c0_i32_1621
  let v2534 : BitVec 1 := Scalar.andi v2533 v2530
  let v2535 : BitVec 32 := Scalar.addi v2529 v2528
  let v2536 : BitVec 32 := Scalar.select v2534 v2535 v2529
  let c1_i32_1625 : BitVec 32 := 1#32
  let v2537 : BitVec 32 := Scalar.muli v2536 c1_i32_1625
  let v2538 : BitVec 32 := Scalar.addi c0_i32_1626 v2537
  v2538.toNat
def k0_mult64 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1629 : BitVec 32 := 1#32
  let v2545 : BitVec 32 := Scalar.addi v2 c1_i32_1629
  let c32_i32_1630 : BitVec 32 := 32#32
  let c0_i32_1631 : BitVec 32 := 0#32
  let v2546 : BitVec 1 := Scalar.cmpi .eq c32_i32_1630 c0_i32_1631
  let c1_i32_1632 : BitVec 32 := 1#32
  let v2547 : BitVec 32 := Scalar.select v2546 c1_i32_1632 c32_i32_1630
  let v2548 : BitVec 32 := Scalar.remsi v2545 v2547
  let c0_i32_1634 : BitVec 32 := 0#32
  let v2550 : BitVec 1 := Scalar.cmpi .slt v2548 c0_i32_1634
  let c0_i32_1635 : BitVec 32 := 0#32
  let v2551 : BitVec 1 := Scalar.cmpi .slt v2547 c0_i32_1635
  let v2552 : BitVec 1 := Scalar.xori v2550 v2551
  let c0_i32_1633 : BitVec 32 := 0#32
  let v2549 : BitVec 1 := Scalar.cmpi .ne v2548 c0_i32_1633
  let v2553 : BitVec 1 := Scalar.andi v2552 v2549
  let v2554 : BitVec 32 := Scalar.addi v2548 v2547
  let v2555 : BitVec 32 := Scalar.select v2553 v2554 v2548
  let c16_i32_1636 : BitVec 32 := 16#32
  let v2556 : BitVec 32 := Scalar.muli v2555 c16_i32_1636
  v2556
def k0_mult65 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1642 : BitVec 32 := 2#32
  let v2564 : BitVec 32 := Scalar.addi v2 c2_i32_1642
  let c32_i32_1643 : BitVec 32 := 32#32
  let c0_i32_1644 : BitVec 32 := 0#32
  let v2565 : BitVec 1 := Scalar.cmpi .eq c32_i32_1643 c0_i32_1644
  let c1_i32_1645 : BitVec 32 := 1#32
  let v2566 : BitVec 32 := Scalar.select v2565 c1_i32_1645 c32_i32_1643
  let v2567 : BitVec 32 := Scalar.remsi v2564 v2566
  let c0_i32_1647 : BitVec 32 := 0#32
  let v2569 : BitVec 1 := Scalar.cmpi .slt v2567 c0_i32_1647
  let c0_i32_1648 : BitVec 32 := 0#32
  let v2570 : BitVec 1 := Scalar.cmpi .slt v2566 c0_i32_1648
  let v2571 : BitVec 1 := Scalar.xori v2569 v2570
  let c0_i32_1646 : BitVec 32 := 0#32
  let v2568 : BitVec 1 := Scalar.cmpi .ne v2567 c0_i32_1646
  let v2572 : BitVec 1 := Scalar.andi v2571 v2568
  let v2573 : BitVec 32 := Scalar.addi v2567 v2566
  let v2574 : BitVec 32 := Scalar.select v2572 v2573 v2567
  let c16_i32_1649 : BitVec 32 := 16#32
  let v2575 : BitVec 32 := Scalar.muli v2574 c16_i32_1649
  v2575
def k0_mult66 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1655 : BitVec 32 := 3#32
  let v2583 : BitVec 32 := Scalar.addi v2 c3_i32_1655
  let c32_i32_1656 : BitVec 32 := 32#32
  let c0_i32_1657 : BitVec 32 := 0#32
  let v2584 : BitVec 1 := Scalar.cmpi .eq c32_i32_1656 c0_i32_1657
  let c1_i32_1658 : BitVec 32 := 1#32
  let v2585 : BitVec 32 := Scalar.select v2584 c1_i32_1658 c32_i32_1656
  let v2586 : BitVec 32 := Scalar.remsi v2583 v2585
  let c0_i32_1660 : BitVec 32 := 0#32
  let v2588 : BitVec 1 := Scalar.cmpi .slt v2586 c0_i32_1660
  let c0_i32_1661 : BitVec 32 := 0#32
  let v2589 : BitVec 1 := Scalar.cmpi .slt v2585 c0_i32_1661
  let v2590 : BitVec 1 := Scalar.xori v2588 v2589
  let c0_i32_1659 : BitVec 32 := 0#32
  let v2587 : BitVec 1 := Scalar.cmpi .ne v2586 c0_i32_1659
  let v2591 : BitVec 1 := Scalar.andi v2590 v2587
  let v2592 : BitVec 32 := Scalar.addi v2586 v2585
  let v2593 : BitVec 32 := Scalar.select v2591 v2592 v2586
  let c16_i32_1662 : BitVec 32 := 16#32
  let v2594 : BitVec 32 := Scalar.muli v2593 c16_i32_1662
  v2594
def k0_mult67 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1668 : BitVec 32 := 4#32
  let v2602 : BitVec 32 := Scalar.addi v2 c4_i32_1668
  let c32_i32_1669 : BitVec 32 := 32#32
  let c0_i32_1670 : BitVec 32 := 0#32
  let v2603 : BitVec 1 := Scalar.cmpi .eq c32_i32_1669 c0_i32_1670
  let c1_i32_1671 : BitVec 32 := 1#32
  let v2604 : BitVec 32 := Scalar.select v2603 c1_i32_1671 c32_i32_1669
  let v2605 : BitVec 32 := Scalar.remsi v2602 v2604
  let c0_i32_1673 : BitVec 32 := 0#32
  let v2607 : BitVec 1 := Scalar.cmpi .slt v2605 c0_i32_1673
  let c0_i32_1674 : BitVec 32 := 0#32
  let v2608 : BitVec 1 := Scalar.cmpi .slt v2604 c0_i32_1674
  let v2609 : BitVec 1 := Scalar.xori v2607 v2608
  let c0_i32_1672 : BitVec 32 := 0#32
  let v2606 : BitVec 1 := Scalar.cmpi .ne v2605 c0_i32_1672
  let v2610 : BitVec 1 := Scalar.andi v2609 v2606
  let v2611 : BitVec 32 := Scalar.addi v2605 v2604
  let v2612 : BitVec 32 := Scalar.select v2610 v2611 v2605
  let c16_i32_1675 : BitVec 32 := 16#32
  let v2613 : BitVec 32 := Scalar.muli v2612 c16_i32_1675
  v2613
def k0_mult68 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1681 : BitVec 32 := 5#32
  let v2621 : BitVec 32 := Scalar.addi v2 c5_i32_1681
  let c32_i32_1682 : BitVec 32 := 32#32
  let c0_i32_1683 : BitVec 32 := 0#32
  let v2622 : BitVec 1 := Scalar.cmpi .eq c32_i32_1682 c0_i32_1683
  let c1_i32_1684 : BitVec 32 := 1#32
  let v2623 : BitVec 32 := Scalar.select v2622 c1_i32_1684 c32_i32_1682
  let v2624 : BitVec 32 := Scalar.remsi v2621 v2623
  let c0_i32_1686 : BitVec 32 := 0#32
  let v2626 : BitVec 1 := Scalar.cmpi .slt v2624 c0_i32_1686
  let c0_i32_1687 : BitVec 32 := 0#32
  let v2627 : BitVec 1 := Scalar.cmpi .slt v2623 c0_i32_1687
  let v2628 : BitVec 1 := Scalar.xori v2626 v2627
  let c0_i32_1685 : BitVec 32 := 0#32
  let v2625 : BitVec 1 := Scalar.cmpi .ne v2624 c0_i32_1685
  let v2629 : BitVec 1 := Scalar.andi v2628 v2625
  let v2630 : BitVec 32 := Scalar.addi v2624 v2623
  let v2631 : BitVec 32 := Scalar.select v2629 v2630 v2624
  let c16_i32_1688 : BitVec 32 := 16#32
  let v2632 : BitVec 32 := Scalar.muli v2631 c16_i32_1688
  v2632
def k0_mult69 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1694 : BitVec 32 := 6#32
  let v2640 : BitVec 32 := Scalar.addi v2 c6_i32_1694
  let c32_i32_1695 : BitVec 32 := 32#32
  let c0_i32_1696 : BitVec 32 := 0#32
  let v2641 : BitVec 1 := Scalar.cmpi .eq c32_i32_1695 c0_i32_1696
  let c1_i32_1697 : BitVec 32 := 1#32
  let v2642 : BitVec 32 := Scalar.select v2641 c1_i32_1697 c32_i32_1695
  let v2643 : BitVec 32 := Scalar.remsi v2640 v2642
  let c0_i32_1699 : BitVec 32 := 0#32
  let v2645 : BitVec 1 := Scalar.cmpi .slt v2643 c0_i32_1699
  let c0_i32_1700 : BitVec 32 := 0#32
  let v2646 : BitVec 1 := Scalar.cmpi .slt v2642 c0_i32_1700
  let v2647 : BitVec 1 := Scalar.xori v2645 v2646
  let c0_i32_1698 : BitVec 32 := 0#32
  let v2644 : BitVec 1 := Scalar.cmpi .ne v2643 c0_i32_1698
  let v2648 : BitVec 1 := Scalar.andi v2647 v2644
  let v2649 : BitVec 32 := Scalar.addi v2643 v2642
  let v2650 : BitVec 32 := Scalar.select v2648 v2649 v2643
  let c16_i32_1701 : BitVec 32 := 16#32
  let v2651 : BitVec 32 := Scalar.muli v2650 c16_i32_1701
  v2651
def k0_mult70 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1707 : BitVec 32 := 7#32
  let v2659 : BitVec 32 := Scalar.addi v2 c7_i32_1707
  let c32_i32_1708 : BitVec 32 := 32#32
  let c0_i32_1709 : BitVec 32 := 0#32
  let v2660 : BitVec 1 := Scalar.cmpi .eq c32_i32_1708 c0_i32_1709
  let c1_i32_1710 : BitVec 32 := 1#32
  let v2661 : BitVec 32 := Scalar.select v2660 c1_i32_1710 c32_i32_1708
  let v2662 : BitVec 32 := Scalar.remsi v2659 v2661
  let c0_i32_1712 : BitVec 32 := 0#32
  let v2664 : BitVec 1 := Scalar.cmpi .slt v2662 c0_i32_1712
  let c0_i32_1713 : BitVec 32 := 0#32
  let v2665 : BitVec 1 := Scalar.cmpi .slt v2661 c0_i32_1713
  let v2666 : BitVec 1 := Scalar.xori v2664 v2665
  let c0_i32_1711 : BitVec 32 := 0#32
  let v2663 : BitVec 1 := Scalar.cmpi .ne v2662 c0_i32_1711
  let v2667 : BitVec 1 := Scalar.andi v2666 v2663
  let v2668 : BitVec 32 := Scalar.addi v2662 v2661
  let v2669 : BitVec 32 := Scalar.select v2667 v2668 v2662
  let c16_i32_1714 : BitVec 32 := 16#32
  let v2670 : BitVec 32 := Scalar.muli v2669 c16_i32_1714
  v2670
def k0_mult71 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1720 : BitVec 32 := 8#32
  let v2678 : BitVec 32 := Scalar.addi v2 c8_i32_1720
  let c32_i32_1721 : BitVec 32 := 32#32
  let c0_i32_1722 : BitVec 32 := 0#32
  let v2679 : BitVec 1 := Scalar.cmpi .eq c32_i32_1721 c0_i32_1722
  let c1_i32_1723 : BitVec 32 := 1#32
  let v2680 : BitVec 32 := Scalar.select v2679 c1_i32_1723 c32_i32_1721
  let v2681 : BitVec 32 := Scalar.remsi v2678 v2680
  let c0_i32_1725 : BitVec 32 := 0#32
  let v2683 : BitVec 1 := Scalar.cmpi .slt v2681 c0_i32_1725
  let c0_i32_1726 : BitVec 32 := 0#32
  let v2684 : BitVec 1 := Scalar.cmpi .slt v2680 c0_i32_1726
  let v2685 : BitVec 1 := Scalar.xori v2683 v2684
  let c0_i32_1724 : BitVec 32 := 0#32
  let v2682 : BitVec 1 := Scalar.cmpi .ne v2681 c0_i32_1724
  let v2686 : BitVec 1 := Scalar.andi v2685 v2682
  let v2687 : BitVec 32 := Scalar.addi v2681 v2680
  let v2688 : BitVec 32 := Scalar.select v2686 v2687 v2681
  let c16_i32_1727 : BitVec 32 := 16#32
  let v2689 : BitVec 32 := Scalar.muli v2688 c16_i32_1727
  v2689
def k0_mult72 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1733 : BitVec 32 := 9#32
  let v2697 : BitVec 32 := Scalar.addi v2 c9_i32_1733
  let c32_i32_1734 : BitVec 32 := 32#32
  let c0_i32_1735 : BitVec 32 := 0#32
  let v2698 : BitVec 1 := Scalar.cmpi .eq c32_i32_1734 c0_i32_1735
  let c1_i32_1736 : BitVec 32 := 1#32
  let v2699 : BitVec 32 := Scalar.select v2698 c1_i32_1736 c32_i32_1734
  let v2700 : BitVec 32 := Scalar.remsi v2697 v2699
  let c0_i32_1738 : BitVec 32 := 0#32
  let v2702 : BitVec 1 := Scalar.cmpi .slt v2700 c0_i32_1738
  let c0_i32_1739 : BitVec 32 := 0#32
  let v2703 : BitVec 1 := Scalar.cmpi .slt v2699 c0_i32_1739
  let v2704 : BitVec 1 := Scalar.xori v2702 v2703
  let c0_i32_1737 : BitVec 32 := 0#32
  let v2701 : BitVec 1 := Scalar.cmpi .ne v2700 c0_i32_1737
  let v2705 : BitVec 1 := Scalar.andi v2704 v2701
  let v2706 : BitVec 32 := Scalar.addi v2700 v2699
  let v2707 : BitVec 32 := Scalar.select v2705 v2706 v2700
  let c16_i32_1740 : BitVec 32 := 16#32
  let v2708 : BitVec 32 := Scalar.muli v2707 c16_i32_1740
  v2708
def k0_mult73 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1746 : BitVec 32 := 10#32
  let v2716 : BitVec 32 := Scalar.addi v2 c10_i32_1746
  let c32_i32_1747 : BitVec 32 := 32#32
  let c0_i32_1748 : BitVec 32 := 0#32
  let v2717 : BitVec 1 := Scalar.cmpi .eq c32_i32_1747 c0_i32_1748
  let c1_i32_1749 : BitVec 32 := 1#32
  let v2718 : BitVec 32 := Scalar.select v2717 c1_i32_1749 c32_i32_1747
  let v2719 : BitVec 32 := Scalar.remsi v2716 v2718
  let c0_i32_1751 : BitVec 32 := 0#32
  let v2721 : BitVec 1 := Scalar.cmpi .slt v2719 c0_i32_1751
  let c0_i32_1752 : BitVec 32 := 0#32
  let v2722 : BitVec 1 := Scalar.cmpi .slt v2718 c0_i32_1752
  let v2723 : BitVec 1 := Scalar.xori v2721 v2722
  let c0_i32_1750 : BitVec 32 := 0#32
  let v2720 : BitVec 1 := Scalar.cmpi .ne v2719 c0_i32_1750
  let v2724 : BitVec 1 := Scalar.andi v2723 v2720
  let v2725 : BitVec 32 := Scalar.addi v2719 v2718
  let v2726 : BitVec 32 := Scalar.select v2724 v2725 v2719
  let c16_i32_1753 : BitVec 32 := 16#32
  let v2727 : BitVec 32 := Scalar.muli v2726 c16_i32_1753
  v2727
def k0_mult74 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1759 : BitVec 32 := 11#32
  let v2735 : BitVec 32 := Scalar.addi v2 c11_i32_1759
  let c32_i32_1760 : BitVec 32 := 32#32
  let c0_i32_1761 : BitVec 32 := 0#32
  let v2736 : BitVec 1 := Scalar.cmpi .eq c32_i32_1760 c0_i32_1761
  let c1_i32_1762 : BitVec 32 := 1#32
  let v2737 : BitVec 32 := Scalar.select v2736 c1_i32_1762 c32_i32_1760
  let v2738 : BitVec 32 := Scalar.remsi v2735 v2737
  let c0_i32_1764 : BitVec 32 := 0#32
  let v2740 : BitVec 1 := Scalar.cmpi .slt v2738 c0_i32_1764
  let c0_i32_1765 : BitVec 32 := 0#32
  let v2741 : BitVec 1 := Scalar.cmpi .slt v2737 c0_i32_1765
  let v2742 : BitVec 1 := Scalar.xori v2740 v2741
  let c0_i32_1763 : BitVec 32 := 0#32
  let v2739 : BitVec 1 := Scalar.cmpi .ne v2738 c0_i32_1763
  let v2743 : BitVec 1 := Scalar.andi v2742 v2739
  let v2744 : BitVec 32 := Scalar.addi v2738 v2737
  let v2745 : BitVec 32 := Scalar.select v2743 v2744 v2738
  let c16_i32_1766 : BitVec 32 := 16#32
  let v2746 : BitVec 32 := Scalar.muli v2745 c16_i32_1766
  v2746
def k0_mult75 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1772 : BitVec 32 := 12#32
  let v2754 : BitVec 32 := Scalar.addi v2 c12_i32_1772
  let c32_i32_1773 : BitVec 32 := 32#32
  let c0_i32_1774 : BitVec 32 := 0#32
  let v2755 : BitVec 1 := Scalar.cmpi .eq c32_i32_1773 c0_i32_1774
  let c1_i32_1775 : BitVec 32 := 1#32
  let v2756 : BitVec 32 := Scalar.select v2755 c1_i32_1775 c32_i32_1773
  let v2757 : BitVec 32 := Scalar.remsi v2754 v2756
  let c0_i32_1777 : BitVec 32 := 0#32
  let v2759 : BitVec 1 := Scalar.cmpi .slt v2757 c0_i32_1777
  let c0_i32_1778 : BitVec 32 := 0#32
  let v2760 : BitVec 1 := Scalar.cmpi .slt v2756 c0_i32_1778
  let v2761 : BitVec 1 := Scalar.xori v2759 v2760
  let c0_i32_1776 : BitVec 32 := 0#32
  let v2758 : BitVec 1 := Scalar.cmpi .ne v2757 c0_i32_1776
  let v2762 : BitVec 1 := Scalar.andi v2761 v2758
  let v2763 : BitVec 32 := Scalar.addi v2757 v2756
  let v2764 : BitVec 32 := Scalar.select v2762 v2763 v2757
  let c16_i32_1779 : BitVec 32 := 16#32
  let v2765 : BitVec 32 := Scalar.muli v2764 c16_i32_1779
  v2765
def k0_mult76 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1785 : BitVec 32 := 13#32
  let v2773 : BitVec 32 := Scalar.addi v2 c13_i32_1785
  let c32_i32_1786 : BitVec 32 := 32#32
  let c0_i32_1787 : BitVec 32 := 0#32
  let v2774 : BitVec 1 := Scalar.cmpi .eq c32_i32_1786 c0_i32_1787
  let c1_i32_1788 : BitVec 32 := 1#32
  let v2775 : BitVec 32 := Scalar.select v2774 c1_i32_1788 c32_i32_1786
  let v2776 : BitVec 32 := Scalar.remsi v2773 v2775
  let c0_i32_1790 : BitVec 32 := 0#32
  let v2778 : BitVec 1 := Scalar.cmpi .slt v2776 c0_i32_1790
  let c0_i32_1791 : BitVec 32 := 0#32
  let v2779 : BitVec 1 := Scalar.cmpi .slt v2775 c0_i32_1791
  let v2780 : BitVec 1 := Scalar.xori v2778 v2779
  let c0_i32_1789 : BitVec 32 := 0#32
  let v2777 : BitVec 1 := Scalar.cmpi .ne v2776 c0_i32_1789
  let v2781 : BitVec 1 := Scalar.andi v2780 v2777
  let v2782 : BitVec 32 := Scalar.addi v2776 v2775
  let v2783 : BitVec 32 := Scalar.select v2781 v2782 v2776
  let c16_i32_1792 : BitVec 32 := 16#32
  let v2784 : BitVec 32 := Scalar.muli v2783 c16_i32_1792
  v2784
def k0_mult77 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1798 : BitVec 32 := 14#32
  let v2792 : BitVec 32 := Scalar.addi v2 c14_i32_1798
  let c32_i32_1799 : BitVec 32 := 32#32
  let c0_i32_1800 : BitVec 32 := 0#32
  let v2793 : BitVec 1 := Scalar.cmpi .eq c32_i32_1799 c0_i32_1800
  let c1_i32_1801 : BitVec 32 := 1#32
  let v2794 : BitVec 32 := Scalar.select v2793 c1_i32_1801 c32_i32_1799
  let v2795 : BitVec 32 := Scalar.remsi v2792 v2794
  let c0_i32_1803 : BitVec 32 := 0#32
  let v2797 : BitVec 1 := Scalar.cmpi .slt v2795 c0_i32_1803
  let c0_i32_1804 : BitVec 32 := 0#32
  let v2798 : BitVec 1 := Scalar.cmpi .slt v2794 c0_i32_1804
  let v2799 : BitVec 1 := Scalar.xori v2797 v2798
  let c0_i32_1802 : BitVec 32 := 0#32
  let v2796 : BitVec 1 := Scalar.cmpi .ne v2795 c0_i32_1802
  let v2800 : BitVec 1 := Scalar.andi v2799 v2796
  let v2801 : BitVec 32 := Scalar.addi v2795 v2794
  let v2802 : BitVec 32 := Scalar.select v2800 v2801 v2795
  let c16_i32_1805 : BitVec 32 := 16#32
  let v2803 : BitVec 32 := Scalar.muli v2802 c16_i32_1805
  v2803
def k0_mult78 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1811 : BitVec 32 := 15#32
  let v2811 : BitVec 32 := Scalar.addi v2 c15_i32_1811
  let c32_i32_1812 : BitVec 32 := 32#32
  let c0_i32_1813 : BitVec 32 := 0#32
  let v2812 : BitVec 1 := Scalar.cmpi .eq c32_i32_1812 c0_i32_1813
  let c1_i32_1814 : BitVec 32 := 1#32
  let v2813 : BitVec 32 := Scalar.select v2812 c1_i32_1814 c32_i32_1812
  let v2814 : BitVec 32 := Scalar.remsi v2811 v2813
  let c0_i32_1816 : BitVec 32 := 0#32
  let v2816 : BitVec 1 := Scalar.cmpi .slt v2814 c0_i32_1816
  let c0_i32_1817 : BitVec 32 := 0#32
  let v2817 : BitVec 1 := Scalar.cmpi .slt v2813 c0_i32_1817
  let v2818 : BitVec 1 := Scalar.xori v2816 v2817
  let c0_i32_1815 : BitVec 32 := 0#32
  let v2815 : BitVec 1 := Scalar.cmpi .ne v2814 c0_i32_1815
  let v2819 : BitVec 1 := Scalar.andi v2818 v2815
  let v2820 : BitVec 32 := Scalar.addi v2814 v2813
  let v2821 : BitVec 32 := Scalar.select v2819 v2820 v2814
  let c16_i32_1818 : BitVec 32 := 16#32
  let v2822 : BitVec 32 := Scalar.muli v2821 c16_i32_1818
  v2822
def k0_mult79 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1824 : BitVec 32 := 16#32
  let v2830 : BitVec 32 := Scalar.addi v2 c16_i32_1824
  let c32_i32_1825 : BitVec 32 := 32#32
  let c0_i32_1826 : BitVec 32 := 0#32
  let v2831 : BitVec 1 := Scalar.cmpi .eq c32_i32_1825 c0_i32_1826
  let c1_i32_1827 : BitVec 32 := 1#32
  let v2832 : BitVec 32 := Scalar.select v2831 c1_i32_1827 c32_i32_1825
  let v2833 : BitVec 32 := Scalar.remsi v2830 v2832
  let c0_i32_1829 : BitVec 32 := 0#32
  let v2835 : BitVec 1 := Scalar.cmpi .slt v2833 c0_i32_1829
  let c0_i32_1830 : BitVec 32 := 0#32
  let v2836 : BitVec 1 := Scalar.cmpi .slt v2832 c0_i32_1830
  let v2837 : BitVec 1 := Scalar.xori v2835 v2836
  let c0_i32_1828 : BitVec 32 := 0#32
  let v2834 : BitVec 1 := Scalar.cmpi .ne v2833 c0_i32_1828
  let v2838 : BitVec 1 := Scalar.andi v2837 v2834
  let v2839 : BitVec 32 := Scalar.addi v2833 v2832
  let v2840 : BitVec 32 := Scalar.select v2838 v2839 v2833
  let c16_i32_1831 : BitVec 32 := 16#32
  let v2841 : BitVec 32 := Scalar.muli v2840 c16_i32_1831
  v2841
def k0_mult80 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1837 : BitVec 32 := 17#32
  let v2849 : BitVec 32 := Scalar.addi v2 c17_i32_1837
  let c32_i32_1838 : BitVec 32 := 32#32
  let c0_i32_1839 : BitVec 32 := 0#32
  let v2850 : BitVec 1 := Scalar.cmpi .eq c32_i32_1838 c0_i32_1839
  let c1_i32_1840 : BitVec 32 := 1#32
  let v2851 : BitVec 32 := Scalar.select v2850 c1_i32_1840 c32_i32_1838
  let v2852 : BitVec 32 := Scalar.remsi v2849 v2851
  let c0_i32_1842 : BitVec 32 := 0#32
  let v2854 : BitVec 1 := Scalar.cmpi .slt v2852 c0_i32_1842
  let c0_i32_1843 : BitVec 32 := 0#32
  let v2855 : BitVec 1 := Scalar.cmpi .slt v2851 c0_i32_1843
  let v2856 : BitVec 1 := Scalar.xori v2854 v2855
  let c0_i32_1841 : BitVec 32 := 0#32
  let v2853 : BitVec 1 := Scalar.cmpi .ne v2852 c0_i32_1841
  let v2857 : BitVec 1 := Scalar.andi v2856 v2853
  let v2858 : BitVec 32 := Scalar.addi v2852 v2851
  let v2859 : BitVec 32 := Scalar.select v2857 v2858 v2852
  let c16_i32_1844 : BitVec 32 := 16#32
  let v2860 : BitVec 32 := Scalar.muli v2859 c16_i32_1844
  v2860
def k0_mult81 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1850 : BitVec 32 := 18#32
  let v2868 : BitVec 32 := Scalar.addi v2 c18_i32_1850
  let c32_i32_1851 : BitVec 32 := 32#32
  let c0_i32_1852 : BitVec 32 := 0#32
  let v2869 : BitVec 1 := Scalar.cmpi .eq c32_i32_1851 c0_i32_1852
  let c1_i32_1853 : BitVec 32 := 1#32
  let v2870 : BitVec 32 := Scalar.select v2869 c1_i32_1853 c32_i32_1851
  let v2871 : BitVec 32 := Scalar.remsi v2868 v2870
  let c0_i32_1855 : BitVec 32 := 0#32
  let v2873 : BitVec 1 := Scalar.cmpi .slt v2871 c0_i32_1855
  let c0_i32_1856 : BitVec 32 := 0#32
  let v2874 : BitVec 1 := Scalar.cmpi .slt v2870 c0_i32_1856
  let v2875 : BitVec 1 := Scalar.xori v2873 v2874
  let c0_i32_1854 : BitVec 32 := 0#32
  let v2872 : BitVec 1 := Scalar.cmpi .ne v2871 c0_i32_1854
  let v2876 : BitVec 1 := Scalar.andi v2875 v2872
  let v2877 : BitVec 32 := Scalar.addi v2871 v2870
  let v2878 : BitVec 32 := Scalar.select v2876 v2877 v2871
  let c16_i32_1857 : BitVec 32 := 16#32
  let v2879 : BitVec 32 := Scalar.muli v2878 c16_i32_1857
  v2879
def k0_mult82 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1863 : BitVec 32 := 19#32
  let v2887 : BitVec 32 := Scalar.addi v2 c19_i32_1863
  let c32_i32_1864 : BitVec 32 := 32#32
  let c0_i32_1865 : BitVec 32 := 0#32
  let v2888 : BitVec 1 := Scalar.cmpi .eq c32_i32_1864 c0_i32_1865
  let c1_i32_1866 : BitVec 32 := 1#32
  let v2889 : BitVec 32 := Scalar.select v2888 c1_i32_1866 c32_i32_1864
  let v2890 : BitVec 32 := Scalar.remsi v2887 v2889
  let c0_i32_1868 : BitVec 32 := 0#32
  let v2892 : BitVec 1 := Scalar.cmpi .slt v2890 c0_i32_1868
  let c0_i32_1869 : BitVec 32 := 0#32
  let v2893 : BitVec 1 := Scalar.cmpi .slt v2889 c0_i32_1869
  let v2894 : BitVec 1 := Scalar.xori v2892 v2893
  let c0_i32_1867 : BitVec 32 := 0#32
  let v2891 : BitVec 1 := Scalar.cmpi .ne v2890 c0_i32_1867
  let v2895 : BitVec 1 := Scalar.andi v2894 v2891
  let v2896 : BitVec 32 := Scalar.addi v2890 v2889
  let v2897 : BitVec 32 := Scalar.select v2895 v2896 v2890
  let c16_i32_1870 : BitVec 32 := 16#32
  let v2898 : BitVec 32 := Scalar.muli v2897 c16_i32_1870
  v2898
def k0_mult83 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1876 : BitVec 32 := 20#32
  let v2906 : BitVec 32 := Scalar.addi v2 c20_i32_1876
  let c32_i32_1877 : BitVec 32 := 32#32
  let c0_i32_1878 : BitVec 32 := 0#32
  let v2907 : BitVec 1 := Scalar.cmpi .eq c32_i32_1877 c0_i32_1878
  let c1_i32_1879 : BitVec 32 := 1#32
  let v2908 : BitVec 32 := Scalar.select v2907 c1_i32_1879 c32_i32_1877
  let v2909 : BitVec 32 := Scalar.remsi v2906 v2908
  let c0_i32_1881 : BitVec 32 := 0#32
  let v2911 : BitVec 1 := Scalar.cmpi .slt v2909 c0_i32_1881
  let c0_i32_1882 : BitVec 32 := 0#32
  let v2912 : BitVec 1 := Scalar.cmpi .slt v2908 c0_i32_1882
  let v2913 : BitVec 1 := Scalar.xori v2911 v2912
  let c0_i32_1880 : BitVec 32 := 0#32
  let v2910 : BitVec 1 := Scalar.cmpi .ne v2909 c0_i32_1880
  let v2914 : BitVec 1 := Scalar.andi v2913 v2910
  let v2915 : BitVec 32 := Scalar.addi v2909 v2908
  let v2916 : BitVec 32 := Scalar.select v2914 v2915 v2909
  let c16_i32_1883 : BitVec 32 := 16#32
  let v2917 : BitVec 32 := Scalar.muli v2916 c16_i32_1883
  v2917
def k0_mult84 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1889 : BitVec 32 := 21#32
  let v2925 : BitVec 32 := Scalar.addi v2 c21_i32_1889
  let c32_i32_1890 : BitVec 32 := 32#32
  let c0_i32_1891 : BitVec 32 := 0#32
  let v2926 : BitVec 1 := Scalar.cmpi .eq c32_i32_1890 c0_i32_1891
  let c1_i32_1892 : BitVec 32 := 1#32
  let v2927 : BitVec 32 := Scalar.select v2926 c1_i32_1892 c32_i32_1890
  let v2928 : BitVec 32 := Scalar.remsi v2925 v2927
  let c0_i32_1894 : BitVec 32 := 0#32
  let v2930 : BitVec 1 := Scalar.cmpi .slt v2928 c0_i32_1894
  let c0_i32_1895 : BitVec 32 := 0#32
  let v2931 : BitVec 1 := Scalar.cmpi .slt v2927 c0_i32_1895
  let v2932 : BitVec 1 := Scalar.xori v2930 v2931
  let c0_i32_1893 : BitVec 32 := 0#32
  let v2929 : BitVec 1 := Scalar.cmpi .ne v2928 c0_i32_1893
  let v2933 : BitVec 1 := Scalar.andi v2932 v2929
  let v2934 : BitVec 32 := Scalar.addi v2928 v2927
  let v2935 : BitVec 32 := Scalar.select v2933 v2934 v2928
  let c16_i32_1896 : BitVec 32 := 16#32
  let v2936 : BitVec 32 := Scalar.muli v2935 c16_i32_1896
  v2936
def k0_mult85 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1902 : BitVec 32 := 22#32
  let v2944 : BitVec 32 := Scalar.addi v2 c22_i32_1902
  let c32_i32_1903 : BitVec 32 := 32#32
  let c0_i32_1904 : BitVec 32 := 0#32
  let v2945 : BitVec 1 := Scalar.cmpi .eq c32_i32_1903 c0_i32_1904
  let c1_i32_1905 : BitVec 32 := 1#32
  let v2946 : BitVec 32 := Scalar.select v2945 c1_i32_1905 c32_i32_1903
  let v2947 : BitVec 32 := Scalar.remsi v2944 v2946
  let c0_i32_1907 : BitVec 32 := 0#32
  let v2949 : BitVec 1 := Scalar.cmpi .slt v2947 c0_i32_1907
  let c0_i32_1908 : BitVec 32 := 0#32
  let v2950 : BitVec 1 := Scalar.cmpi .slt v2946 c0_i32_1908
  let v2951 : BitVec 1 := Scalar.xori v2949 v2950
  let c0_i32_1906 : BitVec 32 := 0#32
  let v2948 : BitVec 1 := Scalar.cmpi .ne v2947 c0_i32_1906
  let v2952 : BitVec 1 := Scalar.andi v2951 v2948
  let v2953 : BitVec 32 := Scalar.addi v2947 v2946
  let v2954 : BitVec 32 := Scalar.select v2952 v2953 v2947
  let c16_i32_1909 : BitVec 32 := 16#32
  let v2955 : BitVec 32 := Scalar.muli v2954 c16_i32_1909
  v2955
def k0_mult86 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1915 : BitVec 32 := 23#32
  let v2963 : BitVec 32 := Scalar.addi v2 c23_i32_1915
  let c32_i32_1916 : BitVec 32 := 32#32
  let c0_i32_1917 : BitVec 32 := 0#32
  let v2964 : BitVec 1 := Scalar.cmpi .eq c32_i32_1916 c0_i32_1917
  let c1_i32_1918 : BitVec 32 := 1#32
  let v2965 : BitVec 32 := Scalar.select v2964 c1_i32_1918 c32_i32_1916
  let v2966 : BitVec 32 := Scalar.remsi v2963 v2965
  let c0_i32_1920 : BitVec 32 := 0#32
  let v2968 : BitVec 1 := Scalar.cmpi .slt v2966 c0_i32_1920
  let c0_i32_1921 : BitVec 32 := 0#32
  let v2969 : BitVec 1 := Scalar.cmpi .slt v2965 c0_i32_1921
  let v2970 : BitVec 1 := Scalar.xori v2968 v2969
  let c0_i32_1919 : BitVec 32 := 0#32
  let v2967 : BitVec 1 := Scalar.cmpi .ne v2966 c0_i32_1919
  let v2971 : BitVec 1 := Scalar.andi v2970 v2967
  let v2972 : BitVec 32 := Scalar.addi v2966 v2965
  let v2973 : BitVec 32 := Scalar.select v2971 v2972 v2966
  let c16_i32_1922 : BitVec 32 := 16#32
  let v2974 : BitVec 32 := Scalar.muli v2973 c16_i32_1922
  v2974
def k0_mult87 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1928 : BitVec 32 := 24#32
  let v2982 : BitVec 32 := Scalar.addi v2 c24_i32_1928
  let c32_i32_1929 : BitVec 32 := 32#32
  let c0_i32_1930 : BitVec 32 := 0#32
  let v2983 : BitVec 1 := Scalar.cmpi .eq c32_i32_1929 c0_i32_1930
  let c1_i32_1931 : BitVec 32 := 1#32
  let v2984 : BitVec 32 := Scalar.select v2983 c1_i32_1931 c32_i32_1929
  let v2985 : BitVec 32 := Scalar.remsi v2982 v2984
  let c0_i32_1933 : BitVec 32 := 0#32
  let v2987 : BitVec 1 := Scalar.cmpi .slt v2985 c0_i32_1933
  let c0_i32_1934 : BitVec 32 := 0#32
  let v2988 : BitVec 1 := Scalar.cmpi .slt v2984 c0_i32_1934
  let v2989 : BitVec 1 := Scalar.xori v2987 v2988
  let c0_i32_1932 : BitVec 32 := 0#32
  let v2986 : BitVec 1 := Scalar.cmpi .ne v2985 c0_i32_1932
  let v2990 : BitVec 1 := Scalar.andi v2989 v2986
  let v2991 : BitVec 32 := Scalar.addi v2985 v2984
  let v2992 : BitVec 32 := Scalar.select v2990 v2991 v2985
  let c16_i32_1935 : BitVec 32 := 16#32
  let v2993 : BitVec 32 := Scalar.muli v2992 c16_i32_1935
  v2993
def k0_mult88 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1941 : BitVec 32 := 25#32
  let v3001 : BitVec 32 := Scalar.addi v2 c25_i32_1941
  let c32_i32_1942 : BitVec 32 := 32#32
  let c0_i32_1943 : BitVec 32 := 0#32
  let v3002 : BitVec 1 := Scalar.cmpi .eq c32_i32_1942 c0_i32_1943
  let c1_i32_1944 : BitVec 32 := 1#32
  let v3003 : BitVec 32 := Scalar.select v3002 c1_i32_1944 c32_i32_1942
  let v3004 : BitVec 32 := Scalar.remsi v3001 v3003
  let c0_i32_1946 : BitVec 32 := 0#32
  let v3006 : BitVec 1 := Scalar.cmpi .slt v3004 c0_i32_1946
  let c0_i32_1947 : BitVec 32 := 0#32
  let v3007 : BitVec 1 := Scalar.cmpi .slt v3003 c0_i32_1947
  let v3008 : BitVec 1 := Scalar.xori v3006 v3007
  let c0_i32_1945 : BitVec 32 := 0#32
  let v3005 : BitVec 1 := Scalar.cmpi .ne v3004 c0_i32_1945
  let v3009 : BitVec 1 := Scalar.andi v3008 v3005
  let v3010 : BitVec 32 := Scalar.addi v3004 v3003
  let v3011 : BitVec 32 := Scalar.select v3009 v3010 v3004
  let c16_i32_1948 : BitVec 32 := 16#32
  let v3012 : BitVec 32 := Scalar.muli v3011 c16_i32_1948
  v3012
def k0_mult89 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1954 : BitVec 32 := 26#32
  let v3020 : BitVec 32 := Scalar.addi v2 c26_i32_1954
  let c32_i32_1955 : BitVec 32 := 32#32
  let c0_i32_1956 : BitVec 32 := 0#32
  let v3021 : BitVec 1 := Scalar.cmpi .eq c32_i32_1955 c0_i32_1956
  let c1_i32_1957 : BitVec 32 := 1#32
  let v3022 : BitVec 32 := Scalar.select v3021 c1_i32_1957 c32_i32_1955
  let v3023 : BitVec 32 := Scalar.remsi v3020 v3022
  let c0_i32_1959 : BitVec 32 := 0#32
  let v3025 : BitVec 1 := Scalar.cmpi .slt v3023 c0_i32_1959
  let c0_i32_1960 : BitVec 32 := 0#32
  let v3026 : BitVec 1 := Scalar.cmpi .slt v3022 c0_i32_1960
  let v3027 : BitVec 1 := Scalar.xori v3025 v3026
  let c0_i32_1958 : BitVec 32 := 0#32
  let v3024 : BitVec 1 := Scalar.cmpi .ne v3023 c0_i32_1958
  let v3028 : BitVec 1 := Scalar.andi v3027 v3024
  let v3029 : BitVec 32 := Scalar.addi v3023 v3022
  let v3030 : BitVec 32 := Scalar.select v3028 v3029 v3023
  let c16_i32_1961 : BitVec 32 := 16#32
  let v3031 : BitVec 32 := Scalar.muli v3030 c16_i32_1961
  v3031
def k0_mult90 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1967 : BitVec 32 := 27#32
  let v3039 : BitVec 32 := Scalar.addi v2 c27_i32_1967
  let c32_i32_1968 : BitVec 32 := 32#32
  let c0_i32_1969 : BitVec 32 := 0#32
  let v3040 : BitVec 1 := Scalar.cmpi .eq c32_i32_1968 c0_i32_1969
  let c1_i32_1970 : BitVec 32 := 1#32
  let v3041 : BitVec 32 := Scalar.select v3040 c1_i32_1970 c32_i32_1968
  let v3042 : BitVec 32 := Scalar.remsi v3039 v3041
  let c0_i32_1972 : BitVec 32 := 0#32
  let v3044 : BitVec 1 := Scalar.cmpi .slt v3042 c0_i32_1972
  let c0_i32_1973 : BitVec 32 := 0#32
  let v3045 : BitVec 1 := Scalar.cmpi .slt v3041 c0_i32_1973
  let v3046 : BitVec 1 := Scalar.xori v3044 v3045
  let c0_i32_1971 : BitVec 32 := 0#32
  let v3043 : BitVec 1 := Scalar.cmpi .ne v3042 c0_i32_1971
  let v3047 : BitVec 1 := Scalar.andi v3046 v3043
  let v3048 : BitVec 32 := Scalar.addi v3042 v3041
  let v3049 : BitVec 32 := Scalar.select v3047 v3048 v3042
  let c16_i32_1974 : BitVec 32 := 16#32
  let v3050 : BitVec 32 := Scalar.muli v3049 c16_i32_1974
  v3050
def k0_mult91 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1980 : BitVec 32 := 28#32
  let v3058 : BitVec 32 := Scalar.addi v2 c28_i32_1980
  let c32_i32_1981 : BitVec 32 := 32#32
  let c0_i32_1982 : BitVec 32 := 0#32
  let v3059 : BitVec 1 := Scalar.cmpi .eq c32_i32_1981 c0_i32_1982
  let c1_i32_1983 : BitVec 32 := 1#32
  let v3060 : BitVec 32 := Scalar.select v3059 c1_i32_1983 c32_i32_1981
  let v3061 : BitVec 32 := Scalar.remsi v3058 v3060
  let c0_i32_1985 : BitVec 32 := 0#32
  let v3063 : BitVec 1 := Scalar.cmpi .slt v3061 c0_i32_1985
  let c0_i32_1986 : BitVec 32 := 0#32
  let v3064 : BitVec 1 := Scalar.cmpi .slt v3060 c0_i32_1986
  let v3065 : BitVec 1 := Scalar.xori v3063 v3064
  let c0_i32_1984 : BitVec 32 := 0#32
  let v3062 : BitVec 1 := Scalar.cmpi .ne v3061 c0_i32_1984
  let v3066 : BitVec 1 := Scalar.andi v3065 v3062
  let v3067 : BitVec 32 := Scalar.addi v3061 v3060
  let v3068 : BitVec 32 := Scalar.select v3066 v3067 v3061
  let c16_i32_1987 : BitVec 32 := 16#32
  let v3069 : BitVec 32 := Scalar.muli v3068 c16_i32_1987
  v3069
def k0_mult92 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1993 : BitVec 32 := 29#32
  let v3077 : BitVec 32 := Scalar.addi v2 c29_i32_1993
  let c32_i32_1994 : BitVec 32 := 32#32
  let c0_i32_1995 : BitVec 32 := 0#32
  let v3078 : BitVec 1 := Scalar.cmpi .eq c32_i32_1994 c0_i32_1995
  let c1_i32_1996 : BitVec 32 := 1#32
  let v3079 : BitVec 32 := Scalar.select v3078 c1_i32_1996 c32_i32_1994
  let v3080 : BitVec 32 := Scalar.remsi v3077 v3079
  let c0_i32_1998 : BitVec 32 := 0#32
  let v3082 : BitVec 1 := Scalar.cmpi .slt v3080 c0_i32_1998
  let c0_i32_1999 : BitVec 32 := 0#32
  let v3083 : BitVec 1 := Scalar.cmpi .slt v3079 c0_i32_1999
  let v3084 : BitVec 1 := Scalar.xori v3082 v3083
  let c0_i32_1997 : BitVec 32 := 0#32
  let v3081 : BitVec 1 := Scalar.cmpi .ne v3080 c0_i32_1997
  let v3085 : BitVec 1 := Scalar.andi v3084 v3081
  let v3086 : BitVec 32 := Scalar.addi v3080 v3079
  let v3087 : BitVec 32 := Scalar.select v3085 v3086 v3080
  let c16_i32_2000 : BitVec 32 := 16#32
  let v3088 : BitVec 32 := Scalar.muli v3087 c16_i32_2000
  v3088
def k0_mult93 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2006 : BitVec 32 := 30#32
  let v3096 : BitVec 32 := Scalar.addi v2 c30_i32_2006
  let c32_i32_2007 : BitVec 32 := 32#32
  let c0_i32_2008 : BitVec 32 := 0#32
  let v3097 : BitVec 1 := Scalar.cmpi .eq c32_i32_2007 c0_i32_2008
  let c1_i32_2009 : BitVec 32 := 1#32
  let v3098 : BitVec 32 := Scalar.select v3097 c1_i32_2009 c32_i32_2007
  let v3099 : BitVec 32 := Scalar.remsi v3096 v3098
  let c0_i32_2011 : BitVec 32 := 0#32
  let v3101 : BitVec 1 := Scalar.cmpi .slt v3099 c0_i32_2011
  let c0_i32_2012 : BitVec 32 := 0#32
  let v3102 : BitVec 1 := Scalar.cmpi .slt v3098 c0_i32_2012
  let v3103 : BitVec 1 := Scalar.xori v3101 v3102
  let c0_i32_2010 : BitVec 32 := 0#32
  let v3100 : BitVec 1 := Scalar.cmpi .ne v3099 c0_i32_2010
  let v3104 : BitVec 1 := Scalar.andi v3103 v3100
  let v3105 : BitVec 32 := Scalar.addi v3099 v3098
  let v3106 : BitVec 32 := Scalar.select v3104 v3105 v3099
  let c16_i32_2013 : BitVec 32 := 16#32
  let v3107 : BitVec 32 := Scalar.muli v3106 c16_i32_2013
  v3107
def k0_mult94 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2019 : BitVec 32 := 31#32
  let v3115 : BitVec 32 := Scalar.addi v2 c31_i32_2019
  let c32_i32_2020 : BitVec 32 := 32#32
  let c0_i32_2021 : BitVec 32 := 0#32
  let v3116 : BitVec 1 := Scalar.cmpi .eq c32_i32_2020 c0_i32_2021
  let c1_i32_2022 : BitVec 32 := 1#32
  let v3117 : BitVec 32 := Scalar.select v3116 c1_i32_2022 c32_i32_2020
  let v3118 : BitVec 32 := Scalar.remsi v3115 v3117
  let c0_i32_2024 : BitVec 32 := 0#32
  let v3120 : BitVec 1 := Scalar.cmpi .slt v3118 c0_i32_2024
  let c0_i32_2025 : BitVec 32 := 0#32
  let v3121 : BitVec 1 := Scalar.cmpi .slt v3117 c0_i32_2025
  let v3122 : BitVec 1 := Scalar.xori v3120 v3121
  let c0_i32_2023 : BitVec 32 := 0#32
  let v3119 : BitVec 1 := Scalar.cmpi .ne v3118 c0_i32_2023
  let v3123 : BitVec 1 := Scalar.andi v3122 v3119
  let v3124 : BitVec 32 := Scalar.addi v3118 v3117
  let v3125 : BitVec 32 := Scalar.select v3123 v3124 v3118
  let c16_i32_2026 : BitVec 32 := 16#32
  let v3126 : BitVec 32 := Scalar.muli v3125 c16_i32_2026
  v3126
def k0_mult95 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2041 : BitVec 32 := 1#32
  let v3142 : BitVec 32 := Scalar.addi v2 c1_i32_2041
  let c32_i32_2042 : BitVec 32 := 32#32
  let c0_i32_2043 : BitVec 32 := 0#32
  let v3143 : BitVec 1 := Scalar.cmpi .eq c32_i32_2042 c0_i32_2043
  let c1_i32_2044 : BitVec 32 := 1#32
  let v3144 : BitVec 32 := Scalar.select v3143 c1_i32_2044 c32_i32_2042
  let v3145 : BitVec 32 := Scalar.remsi v3142 v3144
  let c0_i32_2046 : BitVec 32 := 0#32
  let v3147 : BitVec 1 := Scalar.cmpi .slt v3145 c0_i32_2046
  let c0_i32_2047 : BitVec 32 := 0#32
  let v3148 : BitVec 1 := Scalar.cmpi .slt v3144 c0_i32_2047
  let v3149 : BitVec 1 := Scalar.xori v3147 v3148
  let c0_i32_2045 : BitVec 32 := 0#32
  let v3146 : BitVec 1 := Scalar.cmpi .ne v3145 c0_i32_2045
  let v3150 : BitVec 1 := Scalar.andi v3149 v3146
  let v3151 : BitVec 32 := Scalar.addi v3145 v3144
  let v3152 : BitVec 32 := Scalar.select v3150 v3151 v3145
  let c16_i32_2048 : BitVec 32 := 16#32
  let v3153 : BitVec 32 := Scalar.muli v3152 c16_i32_2048
  v3153
def k0_mult96 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2057 : BitVec 32 := 2#32
  let v3163 : BitVec 32 := Scalar.addi v2 c2_i32_2057
  let c32_i32_2058 : BitVec 32 := 32#32
  let c0_i32_2059 : BitVec 32 := 0#32
  let v3164 : BitVec 1 := Scalar.cmpi .eq c32_i32_2058 c0_i32_2059
  let c1_i32_2060 : BitVec 32 := 1#32
  let v3165 : BitVec 32 := Scalar.select v3164 c1_i32_2060 c32_i32_2058
  let v3166 : BitVec 32 := Scalar.remsi v3163 v3165
  let c0_i32_2062 : BitVec 32 := 0#32
  let v3168 : BitVec 1 := Scalar.cmpi .slt v3166 c0_i32_2062
  let c0_i32_2063 : BitVec 32 := 0#32
  let v3169 : BitVec 1 := Scalar.cmpi .slt v3165 c0_i32_2063
  let v3170 : BitVec 1 := Scalar.xori v3168 v3169
  let c0_i32_2061 : BitVec 32 := 0#32
  let v3167 : BitVec 1 := Scalar.cmpi .ne v3166 c0_i32_2061
  let v3171 : BitVec 1 := Scalar.andi v3170 v3167
  let v3172 : BitVec 32 := Scalar.addi v3166 v3165
  let v3173 : BitVec 32 := Scalar.select v3171 v3172 v3166
  let c16_i32_2064 : BitVec 32 := 16#32
  let v3174 : BitVec 32 := Scalar.muli v3173 c16_i32_2064
  v3174
def k0_mult97 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_2073 : BitVec 32 := 3#32
  let v3184 : BitVec 32 := Scalar.addi v2 c3_i32_2073
  let c32_i32_2074 : BitVec 32 := 32#32
  let c0_i32_2075 : BitVec 32 := 0#32
  let v3185 : BitVec 1 := Scalar.cmpi .eq c32_i32_2074 c0_i32_2075
  let c1_i32_2076 : BitVec 32 := 1#32
  let v3186 : BitVec 32 := Scalar.select v3185 c1_i32_2076 c32_i32_2074
  let v3187 : BitVec 32 := Scalar.remsi v3184 v3186
  let c0_i32_2078 : BitVec 32 := 0#32
  let v3189 : BitVec 1 := Scalar.cmpi .slt v3187 c0_i32_2078
  let c0_i32_2079 : BitVec 32 := 0#32
  let v3190 : BitVec 1 := Scalar.cmpi .slt v3186 c0_i32_2079
  let v3191 : BitVec 1 := Scalar.xori v3189 v3190
  let c0_i32_2077 : BitVec 32 := 0#32
  let v3188 : BitVec 1 := Scalar.cmpi .ne v3187 c0_i32_2077
  let v3192 : BitVec 1 := Scalar.andi v3191 v3188
  let v3193 : BitVec 32 := Scalar.addi v3187 v3186
  let v3194 : BitVec 32 := Scalar.select v3192 v3193 v3187
  let c16_i32_2080 : BitVec 32 := 16#32
  let v3195 : BitVec 32 := Scalar.muli v3194 c16_i32_2080
  v3195
def k0_mult98 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2089 : BitVec 32 := 4#32
  let v3205 : BitVec 32 := Scalar.addi v2 c4_i32_2089
  let c32_i32_2090 : BitVec 32 := 32#32
  let c0_i32_2091 : BitVec 32 := 0#32
  let v3206 : BitVec 1 := Scalar.cmpi .eq c32_i32_2090 c0_i32_2091
  let c1_i32_2092 : BitVec 32 := 1#32
  let v3207 : BitVec 32 := Scalar.select v3206 c1_i32_2092 c32_i32_2090
  let v3208 : BitVec 32 := Scalar.remsi v3205 v3207
  let c0_i32_2094 : BitVec 32 := 0#32
  let v3210 : BitVec 1 := Scalar.cmpi .slt v3208 c0_i32_2094
  let c0_i32_2095 : BitVec 32 := 0#32
  let v3211 : BitVec 1 := Scalar.cmpi .slt v3207 c0_i32_2095
  let v3212 : BitVec 1 := Scalar.xori v3210 v3211
  let c0_i32_2093 : BitVec 32 := 0#32
  let v3209 : BitVec 1 := Scalar.cmpi .ne v3208 c0_i32_2093
  let v3213 : BitVec 1 := Scalar.andi v3212 v3209
  let v3214 : BitVec 32 := Scalar.addi v3208 v3207
  let v3215 : BitVec 32 := Scalar.select v3213 v3214 v3208
  let c16_i32_2096 : BitVec 32 := 16#32
  let v3216 : BitVec 32 := Scalar.muli v3215 c16_i32_2096
  v3216
def k0_mult99 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_2105 : BitVec 32 := 5#32
  let v3226 : BitVec 32 := Scalar.addi v2 c5_i32_2105
  let c32_i32_2106 : BitVec 32 := 32#32
  let c0_i32_2107 : BitVec 32 := 0#32
  let v3227 : BitVec 1 := Scalar.cmpi .eq c32_i32_2106 c0_i32_2107
  let c1_i32_2108 : BitVec 32 := 1#32
  let v3228 : BitVec 32 := Scalar.select v3227 c1_i32_2108 c32_i32_2106
  let v3229 : BitVec 32 := Scalar.remsi v3226 v3228
  let c0_i32_2110 : BitVec 32 := 0#32
  let v3231 : BitVec 1 := Scalar.cmpi .slt v3229 c0_i32_2110
  let c0_i32_2111 : BitVec 32 := 0#32
  let v3232 : BitVec 1 := Scalar.cmpi .slt v3228 c0_i32_2111
  let v3233 : BitVec 1 := Scalar.xori v3231 v3232
  let c0_i32_2109 : BitVec 32 := 0#32
  let v3230 : BitVec 1 := Scalar.cmpi .ne v3229 c0_i32_2109
  let v3234 : BitVec 1 := Scalar.andi v3233 v3230
  let v3235 : BitVec 32 := Scalar.addi v3229 v3228
  let v3236 : BitVec 32 := Scalar.select v3234 v3235 v3229
  let c16_i32_2112 : BitVec 32 := 16#32
  let v3237 : BitVec 32 := Scalar.muli v3236 c16_i32_2112
  v3237
def k0_mult100 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2121 : BitVec 32 := 6#32
  let v3247 : BitVec 32 := Scalar.addi v2 c6_i32_2121
  let c32_i32_2122 : BitVec 32 := 32#32
  let c0_i32_2123 : BitVec 32 := 0#32
  let v3248 : BitVec 1 := Scalar.cmpi .eq c32_i32_2122 c0_i32_2123
  let c1_i32_2124 : BitVec 32 := 1#32
  let v3249 : BitVec 32 := Scalar.select v3248 c1_i32_2124 c32_i32_2122
  let v3250 : BitVec 32 := Scalar.remsi v3247 v3249
  let c0_i32_2126 : BitVec 32 := 0#32
  let v3252 : BitVec 1 := Scalar.cmpi .slt v3250 c0_i32_2126
  let c0_i32_2127 : BitVec 32 := 0#32
  let v3253 : BitVec 1 := Scalar.cmpi .slt v3249 c0_i32_2127
  let v3254 : BitVec 1 := Scalar.xori v3252 v3253
  let c0_i32_2125 : BitVec 32 := 0#32
  let v3251 : BitVec 1 := Scalar.cmpi .ne v3250 c0_i32_2125
  let v3255 : BitVec 1 := Scalar.andi v3254 v3251
  let v3256 : BitVec 32 := Scalar.addi v3250 v3249
  let v3257 : BitVec 32 := Scalar.select v3255 v3256 v3250
  let c16_i32_2128 : BitVec 32 := 16#32
  let v3258 : BitVec 32 := Scalar.muli v3257 c16_i32_2128
  v3258
def k0_mult101 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_2137 : BitVec 32 := 7#32
  let v3268 : BitVec 32 := Scalar.addi v2 c7_i32_2137
  let c32_i32_2138 : BitVec 32 := 32#32
  let c0_i32_2139 : BitVec 32 := 0#32
  let v3269 : BitVec 1 := Scalar.cmpi .eq c32_i32_2138 c0_i32_2139
  let c1_i32_2140 : BitVec 32 := 1#32
  let v3270 : BitVec 32 := Scalar.select v3269 c1_i32_2140 c32_i32_2138
  let v3271 : BitVec 32 := Scalar.remsi v3268 v3270
  let c0_i32_2142 : BitVec 32 := 0#32
  let v3273 : BitVec 1 := Scalar.cmpi .slt v3271 c0_i32_2142
  let c0_i32_2143 : BitVec 32 := 0#32
  let v3274 : BitVec 1 := Scalar.cmpi .slt v3270 c0_i32_2143
  let v3275 : BitVec 1 := Scalar.xori v3273 v3274
  let c0_i32_2141 : BitVec 32 := 0#32
  let v3272 : BitVec 1 := Scalar.cmpi .ne v3271 c0_i32_2141
  let v3276 : BitVec 1 := Scalar.andi v3275 v3272
  let v3277 : BitVec 32 := Scalar.addi v3271 v3270
  let v3278 : BitVec 32 := Scalar.select v3276 v3277 v3271
  let c16_i32_2144 : BitVec 32 := 16#32
  let v3279 : BitVec 32 := Scalar.muli v3278 c16_i32_2144
  v3279
def k0_mult102 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2153 : BitVec 32 := 8#32
  let v3289 : BitVec 32 := Scalar.addi v2 c8_i32_2153
  let c32_i32_2154 : BitVec 32 := 32#32
  let c0_i32_2155 : BitVec 32 := 0#32
  let v3290 : BitVec 1 := Scalar.cmpi .eq c32_i32_2154 c0_i32_2155
  let c1_i32_2156 : BitVec 32 := 1#32
  let v3291 : BitVec 32 := Scalar.select v3290 c1_i32_2156 c32_i32_2154
  let v3292 : BitVec 32 := Scalar.remsi v3289 v3291
  let c0_i32_2158 : BitVec 32 := 0#32
  let v3294 : BitVec 1 := Scalar.cmpi .slt v3292 c0_i32_2158
  let c0_i32_2159 : BitVec 32 := 0#32
  let v3295 : BitVec 1 := Scalar.cmpi .slt v3291 c0_i32_2159
  let v3296 : BitVec 1 := Scalar.xori v3294 v3295
  let c0_i32_2157 : BitVec 32 := 0#32
  let v3293 : BitVec 1 := Scalar.cmpi .ne v3292 c0_i32_2157
  let v3297 : BitVec 1 := Scalar.andi v3296 v3293
  let v3298 : BitVec 32 := Scalar.addi v3292 v3291
  let v3299 : BitVec 32 := Scalar.select v3297 v3298 v3292
  let c16_i32_2160 : BitVec 32 := 16#32
  let v3300 : BitVec 32 := Scalar.muli v3299 c16_i32_2160
  v3300
def k0_mult103 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_2169 : BitVec 32 := 9#32
  let v3310 : BitVec 32 := Scalar.addi v2 c9_i32_2169
  let c32_i32_2170 : BitVec 32 := 32#32
  let c0_i32_2171 : BitVec 32 := 0#32
  let v3311 : BitVec 1 := Scalar.cmpi .eq c32_i32_2170 c0_i32_2171
  let c1_i32_2172 : BitVec 32 := 1#32
  let v3312 : BitVec 32 := Scalar.select v3311 c1_i32_2172 c32_i32_2170
  let v3313 : BitVec 32 := Scalar.remsi v3310 v3312
  let c0_i32_2174 : BitVec 32 := 0#32
  let v3315 : BitVec 1 := Scalar.cmpi .slt v3313 c0_i32_2174
  let c0_i32_2175 : BitVec 32 := 0#32
  let v3316 : BitVec 1 := Scalar.cmpi .slt v3312 c0_i32_2175
  let v3317 : BitVec 1 := Scalar.xori v3315 v3316
  let c0_i32_2173 : BitVec 32 := 0#32
  let v3314 : BitVec 1 := Scalar.cmpi .ne v3313 c0_i32_2173
  let v3318 : BitVec 1 := Scalar.andi v3317 v3314
  let v3319 : BitVec 32 := Scalar.addi v3313 v3312
  let v3320 : BitVec 32 := Scalar.select v3318 v3319 v3313
  let c16_i32_2176 : BitVec 32 := 16#32
  let v3321 : BitVec 32 := Scalar.muli v3320 c16_i32_2176
  v3321
def k0_mult104 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2185 : BitVec 32 := 10#32
  let v3331 : BitVec 32 := Scalar.addi v2 c10_i32_2185
  let c32_i32_2186 : BitVec 32 := 32#32
  let c0_i32_2187 : BitVec 32 := 0#32
  let v3332 : BitVec 1 := Scalar.cmpi .eq c32_i32_2186 c0_i32_2187
  let c1_i32_2188 : BitVec 32 := 1#32
  let v3333 : BitVec 32 := Scalar.select v3332 c1_i32_2188 c32_i32_2186
  let v3334 : BitVec 32 := Scalar.remsi v3331 v3333
  let c0_i32_2190 : BitVec 32 := 0#32
  let v3336 : BitVec 1 := Scalar.cmpi .slt v3334 c0_i32_2190
  let c0_i32_2191 : BitVec 32 := 0#32
  let v3337 : BitVec 1 := Scalar.cmpi .slt v3333 c0_i32_2191
  let v3338 : BitVec 1 := Scalar.xori v3336 v3337
  let c0_i32_2189 : BitVec 32 := 0#32
  let v3335 : BitVec 1 := Scalar.cmpi .ne v3334 c0_i32_2189
  let v3339 : BitVec 1 := Scalar.andi v3338 v3335
  let v3340 : BitVec 32 := Scalar.addi v3334 v3333
  let v3341 : BitVec 32 := Scalar.select v3339 v3340 v3334
  let c16_i32_2192 : BitVec 32 := 16#32
  let v3342 : BitVec 32 := Scalar.muli v3341 c16_i32_2192
  v3342
def k0_mult105 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2201 : BitVec 32 := 11#32
  let v3352 : BitVec 32 := Scalar.addi v2 c11_i32_2201
  let c32_i32_2202 : BitVec 32 := 32#32
  let c0_i32_2203 : BitVec 32 := 0#32
  let v3353 : BitVec 1 := Scalar.cmpi .eq c32_i32_2202 c0_i32_2203
  let c1_i32_2204 : BitVec 32 := 1#32
  let v3354 : BitVec 32 := Scalar.select v3353 c1_i32_2204 c32_i32_2202
  let v3355 : BitVec 32 := Scalar.remsi v3352 v3354
  let c0_i32_2206 : BitVec 32 := 0#32
  let v3357 : BitVec 1 := Scalar.cmpi .slt v3355 c0_i32_2206
  let c0_i32_2207 : BitVec 32 := 0#32
  let v3358 : BitVec 1 := Scalar.cmpi .slt v3354 c0_i32_2207
  let v3359 : BitVec 1 := Scalar.xori v3357 v3358
  let c0_i32_2205 : BitVec 32 := 0#32
  let v3356 : BitVec 1 := Scalar.cmpi .ne v3355 c0_i32_2205
  let v3360 : BitVec 1 := Scalar.andi v3359 v3356
  let v3361 : BitVec 32 := Scalar.addi v3355 v3354
  let v3362 : BitVec 32 := Scalar.select v3360 v3361 v3355
  let c16_i32_2208 : BitVec 32 := 16#32
  let v3363 : BitVec 32 := Scalar.muli v3362 c16_i32_2208
  v3363
def k0_mult106 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2217 : BitVec 32 := 12#32
  let v3373 : BitVec 32 := Scalar.addi v2 c12_i32_2217
  let c32_i32_2218 : BitVec 32 := 32#32
  let c0_i32_2219 : BitVec 32 := 0#32
  let v3374 : BitVec 1 := Scalar.cmpi .eq c32_i32_2218 c0_i32_2219
  let c1_i32_2220 : BitVec 32 := 1#32
  let v3375 : BitVec 32 := Scalar.select v3374 c1_i32_2220 c32_i32_2218
  let v3376 : BitVec 32 := Scalar.remsi v3373 v3375
  let c0_i32_2222 : BitVec 32 := 0#32
  let v3378 : BitVec 1 := Scalar.cmpi .slt v3376 c0_i32_2222
  let c0_i32_2223 : BitVec 32 := 0#32
  let v3379 : BitVec 1 := Scalar.cmpi .slt v3375 c0_i32_2223
  let v3380 : BitVec 1 := Scalar.xori v3378 v3379
  let c0_i32_2221 : BitVec 32 := 0#32
  let v3377 : BitVec 1 := Scalar.cmpi .ne v3376 c0_i32_2221
  let v3381 : BitVec 1 := Scalar.andi v3380 v3377
  let v3382 : BitVec 32 := Scalar.addi v3376 v3375
  let v3383 : BitVec 32 := Scalar.select v3381 v3382 v3376
  let c16_i32_2224 : BitVec 32 := 16#32
  let v3384 : BitVec 32 := Scalar.muli v3383 c16_i32_2224
  v3384
def k0_mult107 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2233 : BitVec 32 := 13#32
  let v3394 : BitVec 32 := Scalar.addi v2 c13_i32_2233
  let c32_i32_2234 : BitVec 32 := 32#32
  let c0_i32_2235 : BitVec 32 := 0#32
  let v3395 : BitVec 1 := Scalar.cmpi .eq c32_i32_2234 c0_i32_2235
  let c1_i32_2236 : BitVec 32 := 1#32
  let v3396 : BitVec 32 := Scalar.select v3395 c1_i32_2236 c32_i32_2234
  let v3397 : BitVec 32 := Scalar.remsi v3394 v3396
  let c0_i32_2238 : BitVec 32 := 0#32
  let v3399 : BitVec 1 := Scalar.cmpi .slt v3397 c0_i32_2238
  let c0_i32_2239 : BitVec 32 := 0#32
  let v3400 : BitVec 1 := Scalar.cmpi .slt v3396 c0_i32_2239
  let v3401 : BitVec 1 := Scalar.xori v3399 v3400
  let c0_i32_2237 : BitVec 32 := 0#32
  let v3398 : BitVec 1 := Scalar.cmpi .ne v3397 c0_i32_2237
  let v3402 : BitVec 1 := Scalar.andi v3401 v3398
  let v3403 : BitVec 32 := Scalar.addi v3397 v3396
  let v3404 : BitVec 32 := Scalar.select v3402 v3403 v3397
  let c16_i32_2240 : BitVec 32 := 16#32
  let v3405 : BitVec 32 := Scalar.muli v3404 c16_i32_2240
  v3405
def k0_mult108 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2249 : BitVec 32 := 14#32
  let v3415 : BitVec 32 := Scalar.addi v2 c14_i32_2249
  let c32_i32_2250 : BitVec 32 := 32#32
  let c0_i32_2251 : BitVec 32 := 0#32
  let v3416 : BitVec 1 := Scalar.cmpi .eq c32_i32_2250 c0_i32_2251
  let c1_i32_2252 : BitVec 32 := 1#32
  let v3417 : BitVec 32 := Scalar.select v3416 c1_i32_2252 c32_i32_2250
  let v3418 : BitVec 32 := Scalar.remsi v3415 v3417
  let c0_i32_2254 : BitVec 32 := 0#32
  let v3420 : BitVec 1 := Scalar.cmpi .slt v3418 c0_i32_2254
  let c0_i32_2255 : BitVec 32 := 0#32
  let v3421 : BitVec 1 := Scalar.cmpi .slt v3417 c0_i32_2255
  let v3422 : BitVec 1 := Scalar.xori v3420 v3421
  let c0_i32_2253 : BitVec 32 := 0#32
  let v3419 : BitVec 1 := Scalar.cmpi .ne v3418 c0_i32_2253
  let v3423 : BitVec 1 := Scalar.andi v3422 v3419
  let v3424 : BitVec 32 := Scalar.addi v3418 v3417
  let v3425 : BitVec 32 := Scalar.select v3423 v3424 v3418
  let c16_i32_2256 : BitVec 32 := 16#32
  let v3426 : BitVec 32 := Scalar.muli v3425 c16_i32_2256
  v3426
def k0_mult109 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2265 : BitVec 32 := 15#32
  let v3436 : BitVec 32 := Scalar.addi v2 c15_i32_2265
  let c32_i32_2266 : BitVec 32 := 32#32
  let c0_i32_2267 : BitVec 32 := 0#32
  let v3437 : BitVec 1 := Scalar.cmpi .eq c32_i32_2266 c0_i32_2267
  let c1_i32_2268 : BitVec 32 := 1#32
  let v3438 : BitVec 32 := Scalar.select v3437 c1_i32_2268 c32_i32_2266
  let v3439 : BitVec 32 := Scalar.remsi v3436 v3438
  let c0_i32_2270 : BitVec 32 := 0#32
  let v3441 : BitVec 1 := Scalar.cmpi .slt v3439 c0_i32_2270
  let c0_i32_2271 : BitVec 32 := 0#32
  let v3442 : BitVec 1 := Scalar.cmpi .slt v3438 c0_i32_2271
  let v3443 : BitVec 1 := Scalar.xori v3441 v3442
  let c0_i32_2269 : BitVec 32 := 0#32
  let v3440 : BitVec 1 := Scalar.cmpi .ne v3439 c0_i32_2269
  let v3444 : BitVec 1 := Scalar.andi v3443 v3440
  let v3445 : BitVec 32 := Scalar.addi v3439 v3438
  let v3446 : BitVec 32 := Scalar.select v3444 v3445 v3439
  let c16_i32_2272 : BitVec 32 := 16#32
  let v3447 : BitVec 32 := Scalar.muli v3446 c16_i32_2272
  v3447
def k0_mult110 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2281 : BitVec 32 := 16#32
  let v3457 : BitVec 32 := Scalar.addi v2 c16_i32_2281
  let c32_i32_2282 : BitVec 32 := 32#32
  let c0_i32_2283 : BitVec 32 := 0#32
  let v3458 : BitVec 1 := Scalar.cmpi .eq c32_i32_2282 c0_i32_2283
  let c1_i32_2284 : BitVec 32 := 1#32
  let v3459 : BitVec 32 := Scalar.select v3458 c1_i32_2284 c32_i32_2282
  let v3460 : BitVec 32 := Scalar.remsi v3457 v3459
  let c0_i32_2286 : BitVec 32 := 0#32
  let v3462 : BitVec 1 := Scalar.cmpi .slt v3460 c0_i32_2286
  let c0_i32_2287 : BitVec 32 := 0#32
  let v3463 : BitVec 1 := Scalar.cmpi .slt v3459 c0_i32_2287
  let v3464 : BitVec 1 := Scalar.xori v3462 v3463
  let c0_i32_2285 : BitVec 32 := 0#32
  let v3461 : BitVec 1 := Scalar.cmpi .ne v3460 c0_i32_2285
  let v3465 : BitVec 1 := Scalar.andi v3464 v3461
  let v3466 : BitVec 32 := Scalar.addi v3460 v3459
  let v3467 : BitVec 32 := Scalar.select v3465 v3466 v3460
  let c16_i32_2288 : BitVec 32 := 16#32
  let v3468 : BitVec 32 := Scalar.muli v3467 c16_i32_2288
  v3468
def k0_mult111 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2297 : BitVec 32 := 17#32
  let v3478 : BitVec 32 := Scalar.addi v2 c17_i32_2297
  let c32_i32_2298 : BitVec 32 := 32#32
  let c0_i32_2299 : BitVec 32 := 0#32
  let v3479 : BitVec 1 := Scalar.cmpi .eq c32_i32_2298 c0_i32_2299
  let c1_i32_2300 : BitVec 32 := 1#32
  let v3480 : BitVec 32 := Scalar.select v3479 c1_i32_2300 c32_i32_2298
  let v3481 : BitVec 32 := Scalar.remsi v3478 v3480
  let c0_i32_2302 : BitVec 32 := 0#32
  let v3483 : BitVec 1 := Scalar.cmpi .slt v3481 c0_i32_2302
  let c0_i32_2303 : BitVec 32 := 0#32
  let v3484 : BitVec 1 := Scalar.cmpi .slt v3480 c0_i32_2303
  let v3485 : BitVec 1 := Scalar.xori v3483 v3484
  let c0_i32_2301 : BitVec 32 := 0#32
  let v3482 : BitVec 1 := Scalar.cmpi .ne v3481 c0_i32_2301
  let v3486 : BitVec 1 := Scalar.andi v3485 v3482
  let v3487 : BitVec 32 := Scalar.addi v3481 v3480
  let v3488 : BitVec 32 := Scalar.select v3486 v3487 v3481
  let c16_i32_2304 : BitVec 32 := 16#32
  let v3489 : BitVec 32 := Scalar.muli v3488 c16_i32_2304
  v3489
def k0_mult112 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2313 : BitVec 32 := 18#32
  let v3499 : BitVec 32 := Scalar.addi v2 c18_i32_2313
  let c32_i32_2314 : BitVec 32 := 32#32
  let c0_i32_2315 : BitVec 32 := 0#32
  let v3500 : BitVec 1 := Scalar.cmpi .eq c32_i32_2314 c0_i32_2315
  let c1_i32_2316 : BitVec 32 := 1#32
  let v3501 : BitVec 32 := Scalar.select v3500 c1_i32_2316 c32_i32_2314
  let v3502 : BitVec 32 := Scalar.remsi v3499 v3501
  let c0_i32_2318 : BitVec 32 := 0#32
  let v3504 : BitVec 1 := Scalar.cmpi .slt v3502 c0_i32_2318
  let c0_i32_2319 : BitVec 32 := 0#32
  let v3505 : BitVec 1 := Scalar.cmpi .slt v3501 c0_i32_2319
  let v3506 : BitVec 1 := Scalar.xori v3504 v3505
  let c0_i32_2317 : BitVec 32 := 0#32
  let v3503 : BitVec 1 := Scalar.cmpi .ne v3502 c0_i32_2317
  let v3507 : BitVec 1 := Scalar.andi v3506 v3503
  let v3508 : BitVec 32 := Scalar.addi v3502 v3501
  let v3509 : BitVec 32 := Scalar.select v3507 v3508 v3502
  let c16_i32_2320 : BitVec 32 := 16#32
  let v3510 : BitVec 32 := Scalar.muli v3509 c16_i32_2320
  v3510
def k0_mult113 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2329 : BitVec 32 := 19#32
  let v3520 : BitVec 32 := Scalar.addi v2 c19_i32_2329
  let c32_i32_2330 : BitVec 32 := 32#32
  let c0_i32_2331 : BitVec 32 := 0#32
  let v3521 : BitVec 1 := Scalar.cmpi .eq c32_i32_2330 c0_i32_2331
  let c1_i32_2332 : BitVec 32 := 1#32
  let v3522 : BitVec 32 := Scalar.select v3521 c1_i32_2332 c32_i32_2330
  let v3523 : BitVec 32 := Scalar.remsi v3520 v3522
  let c0_i32_2334 : BitVec 32 := 0#32
  let v3525 : BitVec 1 := Scalar.cmpi .slt v3523 c0_i32_2334
  let c0_i32_2335 : BitVec 32 := 0#32
  let v3526 : BitVec 1 := Scalar.cmpi .slt v3522 c0_i32_2335
  let v3527 : BitVec 1 := Scalar.xori v3525 v3526
  let c0_i32_2333 : BitVec 32 := 0#32
  let v3524 : BitVec 1 := Scalar.cmpi .ne v3523 c0_i32_2333
  let v3528 : BitVec 1 := Scalar.andi v3527 v3524
  let v3529 : BitVec 32 := Scalar.addi v3523 v3522
  let v3530 : BitVec 32 := Scalar.select v3528 v3529 v3523
  let c16_i32_2336 : BitVec 32 := 16#32
  let v3531 : BitVec 32 := Scalar.muli v3530 c16_i32_2336
  v3531
def k0_mult114 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2345 : BitVec 32 := 20#32
  let v3541 : BitVec 32 := Scalar.addi v2 c20_i32_2345
  let c32_i32_2346 : BitVec 32 := 32#32
  let c0_i32_2347 : BitVec 32 := 0#32
  let v3542 : BitVec 1 := Scalar.cmpi .eq c32_i32_2346 c0_i32_2347
  let c1_i32_2348 : BitVec 32 := 1#32
  let v3543 : BitVec 32 := Scalar.select v3542 c1_i32_2348 c32_i32_2346
  let v3544 : BitVec 32 := Scalar.remsi v3541 v3543
  let c0_i32_2350 : BitVec 32 := 0#32
  let v3546 : BitVec 1 := Scalar.cmpi .slt v3544 c0_i32_2350
  let c0_i32_2351 : BitVec 32 := 0#32
  let v3547 : BitVec 1 := Scalar.cmpi .slt v3543 c0_i32_2351
  let v3548 : BitVec 1 := Scalar.xori v3546 v3547
  let c0_i32_2349 : BitVec 32 := 0#32
  let v3545 : BitVec 1 := Scalar.cmpi .ne v3544 c0_i32_2349
  let v3549 : BitVec 1 := Scalar.andi v3548 v3545
  let v3550 : BitVec 32 := Scalar.addi v3544 v3543
  let v3551 : BitVec 32 := Scalar.select v3549 v3550 v3544
  let c16_i32_2352 : BitVec 32 := 16#32
  let v3552 : BitVec 32 := Scalar.muli v3551 c16_i32_2352
  v3552
def k0_mult115 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2361 : BitVec 32 := 21#32
  let v3562 : BitVec 32 := Scalar.addi v2 c21_i32_2361
  let c32_i32_2362 : BitVec 32 := 32#32
  let c0_i32_2363 : BitVec 32 := 0#32
  let v3563 : BitVec 1 := Scalar.cmpi .eq c32_i32_2362 c0_i32_2363
  let c1_i32_2364 : BitVec 32 := 1#32
  let v3564 : BitVec 32 := Scalar.select v3563 c1_i32_2364 c32_i32_2362
  let v3565 : BitVec 32 := Scalar.remsi v3562 v3564
  let c0_i32_2366 : BitVec 32 := 0#32
  let v3567 : BitVec 1 := Scalar.cmpi .slt v3565 c0_i32_2366
  let c0_i32_2367 : BitVec 32 := 0#32
  let v3568 : BitVec 1 := Scalar.cmpi .slt v3564 c0_i32_2367
  let v3569 : BitVec 1 := Scalar.xori v3567 v3568
  let c0_i32_2365 : BitVec 32 := 0#32
  let v3566 : BitVec 1 := Scalar.cmpi .ne v3565 c0_i32_2365
  let v3570 : BitVec 1 := Scalar.andi v3569 v3566
  let v3571 : BitVec 32 := Scalar.addi v3565 v3564
  let v3572 : BitVec 32 := Scalar.select v3570 v3571 v3565
  let c16_i32_2368 : BitVec 32 := 16#32
  let v3573 : BitVec 32 := Scalar.muli v3572 c16_i32_2368
  v3573
def k0_mult116 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2377 : BitVec 32 := 22#32
  let v3583 : BitVec 32 := Scalar.addi v2 c22_i32_2377
  let c32_i32_2378 : BitVec 32 := 32#32
  let c0_i32_2379 : BitVec 32 := 0#32
  let v3584 : BitVec 1 := Scalar.cmpi .eq c32_i32_2378 c0_i32_2379
  let c1_i32_2380 : BitVec 32 := 1#32
  let v3585 : BitVec 32 := Scalar.select v3584 c1_i32_2380 c32_i32_2378
  let v3586 : BitVec 32 := Scalar.remsi v3583 v3585
  let c0_i32_2382 : BitVec 32 := 0#32
  let v3588 : BitVec 1 := Scalar.cmpi .slt v3586 c0_i32_2382
  let c0_i32_2383 : BitVec 32 := 0#32
  let v3589 : BitVec 1 := Scalar.cmpi .slt v3585 c0_i32_2383
  let v3590 : BitVec 1 := Scalar.xori v3588 v3589
  let c0_i32_2381 : BitVec 32 := 0#32
  let v3587 : BitVec 1 := Scalar.cmpi .ne v3586 c0_i32_2381
  let v3591 : BitVec 1 := Scalar.andi v3590 v3587
  let v3592 : BitVec 32 := Scalar.addi v3586 v3585
  let v3593 : BitVec 32 := Scalar.select v3591 v3592 v3586
  let c16_i32_2384 : BitVec 32 := 16#32
  let v3594 : BitVec 32 := Scalar.muli v3593 c16_i32_2384
  v3594
def k0_mult117 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2393 : BitVec 32 := 23#32
  let v3604 : BitVec 32 := Scalar.addi v2 c23_i32_2393
  let c32_i32_2394 : BitVec 32 := 32#32
  let c0_i32_2395 : BitVec 32 := 0#32
  let v3605 : BitVec 1 := Scalar.cmpi .eq c32_i32_2394 c0_i32_2395
  let c1_i32_2396 : BitVec 32 := 1#32
  let v3606 : BitVec 32 := Scalar.select v3605 c1_i32_2396 c32_i32_2394
  let v3607 : BitVec 32 := Scalar.remsi v3604 v3606
  let c0_i32_2398 : BitVec 32 := 0#32
  let v3609 : BitVec 1 := Scalar.cmpi .slt v3607 c0_i32_2398
  let c0_i32_2399 : BitVec 32 := 0#32
  let v3610 : BitVec 1 := Scalar.cmpi .slt v3606 c0_i32_2399
  let v3611 : BitVec 1 := Scalar.xori v3609 v3610
  let c0_i32_2397 : BitVec 32 := 0#32
  let v3608 : BitVec 1 := Scalar.cmpi .ne v3607 c0_i32_2397
  let v3612 : BitVec 1 := Scalar.andi v3611 v3608
  let v3613 : BitVec 32 := Scalar.addi v3607 v3606
  let v3614 : BitVec 32 := Scalar.select v3612 v3613 v3607
  let c16_i32_2400 : BitVec 32 := 16#32
  let v3615 : BitVec 32 := Scalar.muli v3614 c16_i32_2400
  v3615
def k0_mult118 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2409 : BitVec 32 := 24#32
  let v3625 : BitVec 32 := Scalar.addi v2 c24_i32_2409
  let c32_i32_2410 : BitVec 32 := 32#32
  let c0_i32_2411 : BitVec 32 := 0#32
  let v3626 : BitVec 1 := Scalar.cmpi .eq c32_i32_2410 c0_i32_2411
  let c1_i32_2412 : BitVec 32 := 1#32
  let v3627 : BitVec 32 := Scalar.select v3626 c1_i32_2412 c32_i32_2410
  let v3628 : BitVec 32 := Scalar.remsi v3625 v3627
  let c0_i32_2414 : BitVec 32 := 0#32
  let v3630 : BitVec 1 := Scalar.cmpi .slt v3628 c0_i32_2414
  let c0_i32_2415 : BitVec 32 := 0#32
  let v3631 : BitVec 1 := Scalar.cmpi .slt v3627 c0_i32_2415
  let v3632 : BitVec 1 := Scalar.xori v3630 v3631
  let c0_i32_2413 : BitVec 32 := 0#32
  let v3629 : BitVec 1 := Scalar.cmpi .ne v3628 c0_i32_2413
  let v3633 : BitVec 1 := Scalar.andi v3632 v3629
  let v3634 : BitVec 32 := Scalar.addi v3628 v3627
  let v3635 : BitVec 32 := Scalar.select v3633 v3634 v3628
  let c16_i32_2416 : BitVec 32 := 16#32
  let v3636 : BitVec 32 := Scalar.muli v3635 c16_i32_2416
  v3636
def k0_mult119 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2425 : BitVec 32 := 25#32
  let v3646 : BitVec 32 := Scalar.addi v2 c25_i32_2425
  let c32_i32_2426 : BitVec 32 := 32#32
  let c0_i32_2427 : BitVec 32 := 0#32
  let v3647 : BitVec 1 := Scalar.cmpi .eq c32_i32_2426 c0_i32_2427
  let c1_i32_2428 : BitVec 32 := 1#32
  let v3648 : BitVec 32 := Scalar.select v3647 c1_i32_2428 c32_i32_2426
  let v3649 : BitVec 32 := Scalar.remsi v3646 v3648
  let c0_i32_2430 : BitVec 32 := 0#32
  let v3651 : BitVec 1 := Scalar.cmpi .slt v3649 c0_i32_2430
  let c0_i32_2431 : BitVec 32 := 0#32
  let v3652 : BitVec 1 := Scalar.cmpi .slt v3648 c0_i32_2431
  let v3653 : BitVec 1 := Scalar.xori v3651 v3652
  let c0_i32_2429 : BitVec 32 := 0#32
  let v3650 : BitVec 1 := Scalar.cmpi .ne v3649 c0_i32_2429
  let v3654 : BitVec 1 := Scalar.andi v3653 v3650
  let v3655 : BitVec 32 := Scalar.addi v3649 v3648
  let v3656 : BitVec 32 := Scalar.select v3654 v3655 v3649
  let c16_i32_2432 : BitVec 32 := 16#32
  let v3657 : BitVec 32 := Scalar.muli v3656 c16_i32_2432
  v3657
def k0_mult120 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2441 : BitVec 32 := 26#32
  let v3667 : BitVec 32 := Scalar.addi v2 c26_i32_2441
  let c32_i32_2442 : BitVec 32 := 32#32
  let c0_i32_2443 : BitVec 32 := 0#32
  let v3668 : BitVec 1 := Scalar.cmpi .eq c32_i32_2442 c0_i32_2443
  let c1_i32_2444 : BitVec 32 := 1#32
  let v3669 : BitVec 32 := Scalar.select v3668 c1_i32_2444 c32_i32_2442
  let v3670 : BitVec 32 := Scalar.remsi v3667 v3669
  let c0_i32_2446 : BitVec 32 := 0#32
  let v3672 : BitVec 1 := Scalar.cmpi .slt v3670 c0_i32_2446
  let c0_i32_2447 : BitVec 32 := 0#32
  let v3673 : BitVec 1 := Scalar.cmpi .slt v3669 c0_i32_2447
  let v3674 : BitVec 1 := Scalar.xori v3672 v3673
  let c0_i32_2445 : BitVec 32 := 0#32
  let v3671 : BitVec 1 := Scalar.cmpi .ne v3670 c0_i32_2445
  let v3675 : BitVec 1 := Scalar.andi v3674 v3671
  let v3676 : BitVec 32 := Scalar.addi v3670 v3669
  let v3677 : BitVec 32 := Scalar.select v3675 v3676 v3670
  let c16_i32_2448 : BitVec 32 := 16#32
  let v3678 : BitVec 32 := Scalar.muli v3677 c16_i32_2448
  v3678
def k0_mult121 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2457 : BitVec 32 := 27#32
  let v3688 : BitVec 32 := Scalar.addi v2 c27_i32_2457
  let c32_i32_2458 : BitVec 32 := 32#32
  let c0_i32_2459 : BitVec 32 := 0#32
  let v3689 : BitVec 1 := Scalar.cmpi .eq c32_i32_2458 c0_i32_2459
  let c1_i32_2460 : BitVec 32 := 1#32
  let v3690 : BitVec 32 := Scalar.select v3689 c1_i32_2460 c32_i32_2458
  let v3691 : BitVec 32 := Scalar.remsi v3688 v3690
  let c0_i32_2462 : BitVec 32 := 0#32
  let v3693 : BitVec 1 := Scalar.cmpi .slt v3691 c0_i32_2462
  let c0_i32_2463 : BitVec 32 := 0#32
  let v3694 : BitVec 1 := Scalar.cmpi .slt v3690 c0_i32_2463
  let v3695 : BitVec 1 := Scalar.xori v3693 v3694
  let c0_i32_2461 : BitVec 32 := 0#32
  let v3692 : BitVec 1 := Scalar.cmpi .ne v3691 c0_i32_2461
  let v3696 : BitVec 1 := Scalar.andi v3695 v3692
  let v3697 : BitVec 32 := Scalar.addi v3691 v3690
  let v3698 : BitVec 32 := Scalar.select v3696 v3697 v3691
  let c16_i32_2464 : BitVec 32 := 16#32
  let v3699 : BitVec 32 := Scalar.muli v3698 c16_i32_2464
  v3699
def k0_mult122 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2473 : BitVec 32 := 28#32
  let v3709 : BitVec 32 := Scalar.addi v2 c28_i32_2473
  let c32_i32_2474 : BitVec 32 := 32#32
  let c0_i32_2475 : BitVec 32 := 0#32
  let v3710 : BitVec 1 := Scalar.cmpi .eq c32_i32_2474 c0_i32_2475
  let c1_i32_2476 : BitVec 32 := 1#32
  let v3711 : BitVec 32 := Scalar.select v3710 c1_i32_2476 c32_i32_2474
  let v3712 : BitVec 32 := Scalar.remsi v3709 v3711
  let c0_i32_2478 : BitVec 32 := 0#32
  let v3714 : BitVec 1 := Scalar.cmpi .slt v3712 c0_i32_2478
  let c0_i32_2479 : BitVec 32 := 0#32
  let v3715 : BitVec 1 := Scalar.cmpi .slt v3711 c0_i32_2479
  let v3716 : BitVec 1 := Scalar.xori v3714 v3715
  let c0_i32_2477 : BitVec 32 := 0#32
  let v3713 : BitVec 1 := Scalar.cmpi .ne v3712 c0_i32_2477
  let v3717 : BitVec 1 := Scalar.andi v3716 v3713
  let v3718 : BitVec 32 := Scalar.addi v3712 v3711
  let v3719 : BitVec 32 := Scalar.select v3717 v3718 v3712
  let c16_i32_2480 : BitVec 32 := 16#32
  let v3720 : BitVec 32 := Scalar.muli v3719 c16_i32_2480
  v3720
def k0_mult123 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2489 : BitVec 32 := 29#32
  let v3730 : BitVec 32 := Scalar.addi v2 c29_i32_2489
  let c32_i32_2490 : BitVec 32 := 32#32
  let c0_i32_2491 : BitVec 32 := 0#32
  let v3731 : BitVec 1 := Scalar.cmpi .eq c32_i32_2490 c0_i32_2491
  let c1_i32_2492 : BitVec 32 := 1#32
  let v3732 : BitVec 32 := Scalar.select v3731 c1_i32_2492 c32_i32_2490
  let v3733 : BitVec 32 := Scalar.remsi v3730 v3732
  let c0_i32_2494 : BitVec 32 := 0#32
  let v3735 : BitVec 1 := Scalar.cmpi .slt v3733 c0_i32_2494
  let c0_i32_2495 : BitVec 32 := 0#32
  let v3736 : BitVec 1 := Scalar.cmpi .slt v3732 c0_i32_2495
  let v3737 : BitVec 1 := Scalar.xori v3735 v3736
  let c0_i32_2493 : BitVec 32 := 0#32
  let v3734 : BitVec 1 := Scalar.cmpi .ne v3733 c0_i32_2493
  let v3738 : BitVec 1 := Scalar.andi v3737 v3734
  let v3739 : BitVec 32 := Scalar.addi v3733 v3732
  let v3740 : BitVec 32 := Scalar.select v3738 v3739 v3733
  let c16_i32_2496 : BitVec 32 := 16#32
  let v3741 : BitVec 32 := Scalar.muli v3740 c16_i32_2496
  v3741
def k0_mult124 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2505 : BitVec 32 := 30#32
  let v3751 : BitVec 32 := Scalar.addi v2 c30_i32_2505
  let c32_i32_2506 : BitVec 32 := 32#32
  let c0_i32_2507 : BitVec 32 := 0#32
  let v3752 : BitVec 1 := Scalar.cmpi .eq c32_i32_2506 c0_i32_2507
  let c1_i32_2508 : BitVec 32 := 1#32
  let v3753 : BitVec 32 := Scalar.select v3752 c1_i32_2508 c32_i32_2506
  let v3754 : BitVec 32 := Scalar.remsi v3751 v3753
  let c0_i32_2510 : BitVec 32 := 0#32
  let v3756 : BitVec 1 := Scalar.cmpi .slt v3754 c0_i32_2510
  let c0_i32_2511 : BitVec 32 := 0#32
  let v3757 : BitVec 1 := Scalar.cmpi .slt v3753 c0_i32_2511
  let v3758 : BitVec 1 := Scalar.xori v3756 v3757
  let c0_i32_2509 : BitVec 32 := 0#32
  let v3755 : BitVec 1 := Scalar.cmpi .ne v3754 c0_i32_2509
  let v3759 : BitVec 1 := Scalar.andi v3758 v3755
  let v3760 : BitVec 32 := Scalar.addi v3754 v3753
  let v3761 : BitVec 32 := Scalar.select v3759 v3760 v3754
  let c16_i32_2512 : BitVec 32 := 16#32
  let v3762 : BitVec 32 := Scalar.muli v3761 c16_i32_2512
  v3762
def k0_mult125 (d0 : Dev nD) : BitVec 32 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2521 : BitVec 32 := 31#32
  let v3772 : BitVec 32 := Scalar.addi v2 c31_i32_2521
  let c32_i32_2522 : BitVec 32 := 32#32
  let c0_i32_2523 : BitVec 32 := 0#32
  let v3773 : BitVec 1 := Scalar.cmpi .eq c32_i32_2522 c0_i32_2523
  let c1_i32_2524 : BitVec 32 := 1#32
  let v3774 : BitVec 32 := Scalar.select v3773 c1_i32_2524 c32_i32_2522
  let v3775 : BitVec 32 := Scalar.remsi v3772 v3774
  let c0_i32_2526 : BitVec 32 := 0#32
  let v3777 : BitVec 1 := Scalar.cmpi .slt v3775 c0_i32_2526
  let c0_i32_2527 : BitVec 32 := 0#32
  let v3778 : BitVec 1 := Scalar.cmpi .slt v3774 c0_i32_2527
  let v3779 : BitVec 1 := Scalar.xori v3777 v3778
  let c0_i32_2525 : BitVec 32 := 0#32
  let v3776 : BitVec 1 := Scalar.cmpi .ne v3775 c0_i32_2525
  let v3780 : BitVec 1 := Scalar.andi v3779 v3776
  let v3781 : BitVec 32 := Scalar.addi v3775 v3774
  let v3782 : BitVec 32 := Scalar.select v3780 v3781 v3775
  let c16_i32_2528 : BitVec 32 := 16#32
  let v3783 : BitVec 32 := Scalar.muli v3782 c16_i32_2528
  v3783
abbrev stage0_0 : Fin 1 → Memref sig .tc .vmem S2x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x256x512 : Shape := ⟨3, ![2, 256, 512]⟩
abbrev S512x8192 : Shape := ⟨2, ![512, 8192]⟩
abbrev S2x256x128x64 : Shape := ⟨4, ![2, 256, 128, 64]⟩
abbrev S8192x512 : Shape := ⟨2, ![8192, 512]⟩
abbrev S2x256x8192 : Shape := ⟨3, ![2, 256, 8192]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S2x128x256x256 : Shape := ⟨4, ![2, 128, 256, 256]⟩
abbrev S1x1x256x256 : Shape := ⟨4, ![1, 1, 256, 256]⟩
abbrev S2x128x256 : Shape := ⟨3, ![2, 128, 256]⟩
abbrev S2x128x256x1 : Shape := ⟨4, ![2, 128, 256, 1]⟩
abbrev S1x1x256x1 : Shape := ⟨4, ![1, 1, 256, 1]⟩
abbrev S2x128x64x256 : Shape := ⟨4, ![2, 128, 64, 256]⟩

abbrev nBuf : Space → Nat
  | .hbm => 67
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S512x8192, .f32⟩
  | .hbm, ⟨2, _⟩ => ⟨S2x256x128x64, .f32⟩
  | .hbm, ⟨3, _⟩ => ⟨S2x256x128x64, .f32⟩
  | .hbm, ⟨4, _⟩ => ⟨S8192x512, .f32⟩
  | .hbm, ⟨5, _⟩ => ⟨S2x256x8192, .f32⟩
  | .hbm, ⟨6, _⟩ => ⟨S2x256x128x64, .f32⟩
  | .hbm, ⟨7, _⟩ => ⟨S256, .i32⟩
  | .hbm, ⟨8, _⟩ => ⟨S256x1, .i32⟩
  | .hbm, ⟨9, _⟩ => ⟨S256, .i32⟩
  | .hbm, ⟨10, _⟩ => ⟨S1x256, .i32⟩
  | .hbm, ⟨11, _⟩ => ⟨S256x256, .i32⟩
  | .hbm, ⟨12, _⟩ => ⟨S256x256, .i32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i1⟩
  | .hbm, ⟨18, _⟩ => ⟨S_, .i32⟩
  | .hbm, ⟨19, _⟩ => ⟨S1x256, .i32⟩
  | .hbm, ⟨20, _⟩ => ⟨S1x256, .i1⟩
  | .hbm, ⟨21, _⟩ => ⟨S_, .i32⟩
  | .hbm, ⟨22, _⟩ => ⟨S256x1, .i32⟩
  | .hbm, ⟨23, _⟩ => ⟨S256x1, .i1⟩
  | .hbm, ⟨24, _⟩ => ⟨S256x256, .i1⟩
  | .hbm, ⟨25, _⟩ => ⟨S256x256, .i1⟩
  | .hbm, ⟨26, _⟩ => ⟨S256x256, .i1⟩
  | .hbm, ⟨27, _⟩ => ⟨S256x256, .i1⟩
  | .hbm, ⟨28, _⟩ => ⟨S2x128x256x256, .f32⟩
  | .hbm, ⟨29, _⟩ => ⟨S_, .f32⟩
  | .hbm, ⟨30, _⟩ => ⟨S2x128x256x256, .f32⟩
  | .hbm, ⟨31, _⟩ => ⟨S2x128x256x256, .f32⟩
  | .hbm, ⟨32, _⟩ => ⟨S1x1x256x256, .i1⟩
  | .hbm, ⟨33, _⟩ => ⟨S_, .f32⟩
  | .hbm, ⟨34, _⟩ => ⟨S_, .f32⟩
  | .hbm, ⟨35, _⟩ => ⟨S2x128x256x256, .i1⟩
  | .hbm, ⟨36, _⟩ => ⟨S2x128x256x256, .f32⟩
  | .hbm, ⟨37, _⟩ => ⟨S2x128x256x256, .f32⟩
  | .hbm, ⟨38, _⟩ => ⟨S_, .f32⟩
  | .hbm, ⟨39, _⟩ => ⟨S2x128x256, .f32⟩
  | .hbm, ⟨40, _⟩ => ⟨S2x128x256x1, .f32⟩
  | .hbm, ⟨41, _⟩ => ⟨S2x128x256x256, .f32⟩
  | .hbm, ⟨42, _⟩ => ⟨S2x128x256x256, .f32⟩
  | .hbm, ⟨43, _⟩ => ⟨S2x128x256x256, .f32⟩
  | .hbm, ⟨44, _⟩ => ⟨S_, .i1⟩
  | .hbm, ⟨45, _⟩ => ⟨S256, .i1⟩
  | .hbm, ⟨46, _⟩ => ⟨S1x1x256x1, .i1⟩
  | .hbm, ⟨47, _⟩ => ⟨S_, .f32⟩
  | .hbm, ⟨48, _⟩ => ⟨S2x128x256, .f32⟩
  | .hbm, ⟨49, _⟩ => ⟨S2x128x256x1, .f32⟩
  | .hbm, ⟨50, _⟩ => ⟨S_, .f32⟩
  | .hbm, ⟨51, _⟩ => ⟨S_, .f32⟩
  | .hbm, ⟨52, _⟩ => ⟨S2x128x256x1, .i1⟩
  | .hbm, ⟨53, _⟩ => ⟨S2x128x256x1, .f32⟩
  | .hbm, ⟨54, _⟩ => ⟨S2x128x256x1, .f32⟩
  | .hbm, ⟨55, _⟩ => ⟨S2x128x256x256, .f32⟩
  | .hbm, ⟨56, _⟩ => ⟨S2x128x256x256, .f32⟩
  | .hbm, ⟨57, _⟩ => ⟨S1x1x256x1, .i1⟩
  | .hbm, ⟨58, _⟩ => ⟨S_, .f32⟩
  | .hbm, ⟨59, _⟩ => ⟨S_, .f32⟩
  | .hbm, ⟨60, _⟩ => ⟨S2x128x256x256, .i1⟩
  | .hbm, ⟨61, _⟩ => ⟨S2x128x256x256, .f32⟩
  | .hbm, ⟨62, _⟩ => ⟨S2x128x256x256, .f32⟩
  | .hbm, ⟨63, _⟩ => ⟨S2x128x64x256, .f32⟩
  | .hbm, ⟨64, _⟩ => ⟨S2x256x128x64, .f32⟩
  | .hbm, ⟨65, _⟩ => ⟨S2x256x8192, .f32⟩
  | .hbm, ⟨66, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.Body.lean ====
/- The kernel's body, written as the loops the source has.

   The printed body is one straight line of some four hundred operations: the source's five Python loops over the
   31 other devices are unrolled in it. This file writes the same operations with each loop as a fold over the list
   of hops, and proves that the printed body is that program. Everything after this file reasons about the folds. -/
module

public import proofs.«01_k».proof.Proof.Gen.KernelIdeal
public import proofs.«01_k».proof.Proof.Gen.KernelIdeal.Skeleton
public import proofs.«01_k».proof.Proof.Gen.KernelIdeal.Points
public import Idealize.ShloMosaic.Lib.Pipeline.Regions

@[expose] public section

noncomputable section

namespace Cert.Proof

open Cert.KernelIdeal Cert.KernelIdeal.Gen
open Idealize.ShloMosaic Idealize.ShloMosaic.TcCoe
open Idealize.SL Idealize.SL.Sem

/-- The hops of every loop, in order: hop `r` is the source's `d = r + 1`. -/
def hops : List (Fin 31) :=
  [0, 1, 2, 3, 4, 5, 6, 7, 8, 9, 10, 11, 12, 13, 14, 15, 16, 17, 18, 19, 20, 21, 22, 23, 24, 25, 26, 27, 28, 29, 30]

/-- Hop `r`'s distance as the machine word the kernel computes with. -/
abbrev hopW (r : Fin 31) : BitVec 32 := BitVec.ofNat 32 (1 + r.val)

/-- The device at distance `w` after `d0`, as the kernel computes it. -/
def devAt (d0 : Dev nD) (w : BitVec 32) : Nat :=
  (Scalar.addi (0#32 : BitVec 32)
    (Scalar.muli
      (Scalar.select
        (Scalar.andi
          (Scalar.xori
            (Scalar.cmpi .slt
              (Scalar.remsi (Scalar.addi (Scalar.remsi (Scalar.divsi (Dev.word d0) 1#32) 32#32) w)
                (Scalar.select (Scalar.cmpi .eq (32#32 : BitVec 32) 0#32) 1#32 32#32)) 0#32)
            (Scalar.cmpi .slt (Scalar.select (Scalar.cmpi .eq (32#32 : BitVec 32) 0#32) (1#32 : BitVec 32) 32#32) 0#32))
          (Scalar.cmpi .ne
            (Scalar.remsi (Scalar.addi (Scalar.remsi (Scalar.divsi (Dev.word d0) 1#32) 32#32) w)
              (Scalar.select (Scalar.cmpi .eq (32#32 : BitVec 32) 0#32) 1#32 32#32)) 0#32))
        (Scalar.addi
          (Scalar.remsi (Scalar.addi (Scalar.remsi (Scalar.divsi (Dev.word d0) 1#32) 32#32) w)
            (Scalar.select (Scalar.cmpi .eq (32#32 : BitVec 32) 0#32) 1#32 32#32))
          (Scalar.select (Scalar.cmpi .eq (32#32 : BitVec 32) 0#32) 1#32 32#32))
        (Scalar.remsi (Scalar.addi (Scalar.remsi (Scalar.divsi (Dev.word d0) 1#32) 32#32) w)
          (Scalar.select (Scalar.cmpi .eq (32#32 : BitVec 32) 0#32) 1#32 32#32)))
      1#32)).toNat

/-- Hop `r` of device `d0` is device `(d0 + r + 1) mod 32`. -/
theorem devAt_eq : ∀ (d0 : Dev nD) (r : Fin 31), devAt d0 (hopW r) = (d0.val + 1 + r.val) % 32 := by
  decide +kernel

theorem devAt_lt (d0 : Dev nD) (r : Fin 31) : devAt d0 (hopW r) < nD := by
  rw [devAt_eq]; exact Nat.mod_lt _ (by decide)

/-- A hop's semaphore index lies in its array of 32. -/
theorem hop_inb (r : Fin 31) : ∀ a, (![1 + r.val] : Fin 1 → Nat) a + S1.size a ≤ S32.size a := by
  intro a; have := r.isLt; fin_cases a; simp [S1, S32]; omega

/-- The barrier's semaphore. -/
abbrev barSem : Sem sig := (SemArray.scalar (sig.barrier 0 rfl) : Sems sig S_).sem

section Body

variable {F : FTy → Type} [FloatOps F]

/-- A program of one TensorCore of the kernel. -/
abbrev Pgm (F : FTy → Type) := Prog (TpuEff nD τ sig (Elt F) Λ₀ .tc) PUnit

variable (arg0 : Memref sig .tc .vmem S2x256x512 .f32) (arg1 : Memref sig .tc .vmem S512x256 .f32)
  (arg2 arg3 : Memref sig .tc .hbm S2x256x128x64 .f32) (arg4 : Memref sig .tc .vmem S256x512 .f32)
  (arg5 : Memref sig .tc .vmem S2x256x512 .f32) (arg6 arg7 : Memref sig .tc .vmem S512x512 .f32)
  (arg8 : Memref sig .tc .vmem S2x256x4x64 .f32) (harg8 : arg8.IsWhole)
  (arg9 : Memref sig .tc .vmem S2x256x4x64 .f32) (harg9 : arg9.IsWhole)
  (arg10 : DmaSems sig S2) (arg11 arg12 arg13 arg14 : DmaSems sig S32) (d0 : Dev nD)

/-- The device of hop `r`. -/
abbrev devOf (r : Fin 31) : Dev nD := ⟨devAt d0 (hopW r), devAt_lt d0 r⟩

/-- The row block of a 512×512 buffer that device `d0` owns. -/
abbrev mineView (m : Memref sig .tc .vmem S512x512 .f32) : Memref sig .tc .vmem S16x512 .f32 :=
  m.slice (Rect.unit (s := S512x512) (k0_off3 d0) S16x512.size (k0_off3_inb d0)) (fun _ => rfl)

/-- The row block of a 512×512 buffer that hop `r`'s device owns. -/
abbrev hopView (m : Memref sig .tc .vmem S512x512 .f32) (r : Fin 31) : Memref sig .tc .vmem S16x512 .f32 :=
  m.slice (Rect.unit (s := S512x512) (k0_off4 d0 (hopW r)) S16x512.size (k0_off4_inb d0 r)) (fun _ => rfl)

/-- The semaphore of hop `r` in an array indexed by distance. -/
abbrev distSem (a : DmaSems sig S32) (r : Fin 31) : DmaSem sig :=
  ((a.slice (Rect.unit (s := S32) ![1 + r.val] S1.size (hop_inb r))).squeeze S_ squeezes_S1_S_).sem

/-- The semaphore of device `d0` in an array indexed by device. -/
abbrev mineSem (a : DmaSems sig S32) : DmaSem sig :=
  ((a.slice (Rect.unit (s := S32) (k0_off2 d0) S1.size (k0_off2_inb d0))).squeeze S_ squeezes_S1_S_).sem

/-- The semaphore of hop `r`'s device in an array indexed by device. -/
abbrev hopSem (a : DmaSems sig S32) (r : Fin 31) : DmaSem sig :=
  ((a.slice (Rect.unit (s := S32) (k0_off6 d0 (hopW r)) S1.size (k0_off6_inb d0 r))).squeeze S_ squeezes_S1_S_).sem

/-- Signal hop `r`'s barrier. -/
def sigStep (r : Fin 31) (k : Pgm F) : Pgm F :=
  .op (.semSignal (devOf d0 r, .tc) barSem 1) fun _ => k

/-- Send hop `r`'s block of the partial products to hop `r`'s device. -/
def rsStep (r : Fin 31) (k : Pgm F) : Pgm F :=
  .op (.enqueueDma (hopView d0 arg6 r)
    (.remote (Dev.tc (devOf d0 r)) (mineView d0 arg7) (.dma (distSem arg11 r)))
    (.dma (mineSem d0 arg12)) (View.wordExact_bits rfl) (View.wordExact_bits rfl) ⟨⟨rfl, Or.inl rfl⟩, trivial⟩) fun _ => k

/-- Wait for hop `r`'s partial products, read them and add them to the accumulated block. -/
def redStep (r : Fin 31) (k : FVec F S16x512 .f32 → Pgm F) (acc : FVec F S16x512 .f32) : Pgm F :=
  .op (.waitDma2 (hopSem d0 arg12 r) (hopView d0 arg7 r) (hopView d0 arg7 r) (View.wordExact_bits rfl) (View.wordExact_bits rfl)) fun _ =>
  .op (.load arg7 (Rect.unit (s := S512x512) (k0_off7 d0 (hopW r)) S16x512.size (k0_off7_inb d0 r)).toLoadRect (View.loadsAt_vmem h_S16x512)) fun (x : Vec F S16x512 .f32) =>
    k (addf acc x)

/-- Send the reduced block to hop `r`'s device. -/
def agStep (r : Fin 31) (k : Pgm F) : Pgm F :=
  .op (.enqueueDma (mineView d0 arg6)
    (.remote (Dev.tc (devOf d0 r)) (mineView d0 arg6) (.dma (distSem arg13 r)))
    (.dma (mineSem d0 arg14)) (View.wordExact_bits rfl) (View.wordExact_bits rfl) ⟨⟨rfl, Or.inl rfl⟩, trivial⟩) fun _ => k

/-- Wait for hop `r`'s reduced block. -/
def agWaitStep (r : Fin 31) (k : Pgm F) : Pgm F :=
  .op (.waitDma2 (hopSem d0 arg14 r) (hopView d0 arg6 r) (hopView d0 arg6 r) (View.wordExact_bits rfl) (View.wordExact_bits rfl)) fun _ => k

/-- Wait until both of the sends to hop `r` have left. -/
def doneStep (r : Fin 31) (k : Pgm F) : Pgm F :=
  .op (.waitDma2 (distSem arg11 r) (mineView d0 arg7) (hopView d0 arg6 r) (View.wordExact_bits rfl) (View.wordExact_bits rfl)) fun _ =>
  .op (.waitDma2 (distSem arg13 r) (mineView d0 arg6) (mineView d0 arg6) (View.wordExact_bits rfl) (View.wordExact_bits rfl)) fun _ => k

/-- The barrier: a signal to each hop's device, then the wait for theirs. -/
def barrierPart (k : Pgm F) : Pgm F :=
  hops.foldr (sigStep d0) (.op (.semWait barSem 31) fun _ => k)

/-- The device's own heads of one of the key and value arrays. -/
abbrev headView (m : Memref sig .tc .hbm S2x256x128x64 .f32) : Memref sig .tc .hbm S2x256x4x64 .f32 :=
  m.slice (Rect.unit (s := S2x256x128x64) (k0_off1 d0) S2x256x4x64.size (k0_off1_inb d0)) (fun _ => rfl)

/-- The first of the two semaphores of the local copies. -/
abbrev kSem : DmaSem sig := ((arg10.slice (Rect.unit (s := S2) ![0] S1.size inb_S2_S1_0)).squeeze S_ squeezes_S1_S_).sem
/-- The second of the two semaphores of the local copies. -/
abbrev vSem : DmaSem sig := ((arg10.slice (Rect.unit (s := S2) ![1] S1.size inb_S2_S1_1)).squeeze S_ squeezes_S1_S_).sem

/-- One (batch, head) block of the copied keys or values. -/
abbrev headAt (m : Memref sig .tc .vmem S2x256x4x64 .f32) (o : Fin 4 → Nat)
    (h : ∀ a, o a + S1x256x1x64.size a ≤ S2x256x4x64.size a)
    (k : Vec F S1x256x1x64 .f32 → Pgm F) : Pgm F :=
  .op (.load m (Rect.unit (s := S2x256x4x64) o S1x256x1x64.size h).toLoadRect (View.loadsAt_vmem h_S1x256x1x64)) k

/-- The device's partial product, from what it loads: the input, its query weights, its eight blocks of keys and
    of values (batch by batch, head by head), and its output weights. -/
def partOf (x : Vec F S2x256x512 .f32) (wq : Vec F S512x256 .f32)
    (k0 v0 k1 v1 k2 v2 k3 v3 k4 v4 k5 v5 k6 v6 k7 v7 : Vec F S1x256x1x64 .f32) (wo : Vec F S256x512 .f32) :
    FVec F S512x512 .f32 :=
  let q := k0_pay2 (k0_pay1 x) wq
  let mask := k0_pay3
  k0_pay21 mask
    (k0_pay12 q mask (k0_pay7 (k0_pay4 v0) (k0_pay5 (k0_pay1 x) wq k0) (k0_pay6 (k0_pay1 x) wq k0)) (k0_pay8 q mask k1 v1)
      (k0_pay9 q) (k0_pay10 v2) (k0_pay11 k2) (constant S256x256 .f32 0x00000000#32) k3 v3)
    (k0_pay14 mask (k0_pay13 q) k4 v4)
    (k0_pay17 (k0_pay15 v5) (k0_pay16 q mask k5))
    (k0_pay18 q mask k6 v6) (k0_pay19 v7) (k0_pay20 q k7) wo

/-- The attention of the device's own heads, to its partial product in the accumulator. -/
def attnPart (k : Pgm F) : Pgm F :=
  .op (.enqueueDma (headView d0 arg2) (.here arg8) (.dma (kSem arg10)) (View.wordExact_bits rfl) harg8.wordExact ⟨Or.inl rfl, trivial⟩) fun _ =>
  .op (.enqueueDma (headView d0 arg3) (.here arg9) (.dma (vSem arg10)) (View.wordExact_bits rfl) harg9.wordExact ⟨Or.inl rfl, trivial⟩) fun _ =>
  .op (.load arg0 (Rect.unit (s := S2x256x512) ![0, 0, 0] S2x256x512.size inb_S2x256x512_S2x256x512_0_0_0).toLoadRect (View.loadsAt_vmem h_S2x256x512)) fun (x : Vec F S2x256x512 .f32) =>
  .op (.load arg1 (Rect.unit (s := S512x256) ![0, 0] S512x256.size inb_S512x256_S512x256_0_0).toLoadRect (View.loadsAt_vmem h_S512x256)) fun wq =>
  .op (.waitDma2 (kSem arg10) (headView d0 arg2) arg8 (View.wordExact_bits rfl) harg8.wordExact) fun _ =>
  .op (.waitDma2 (vSem arg10) (headView d0 arg3) arg9 (View.wordExact_bits rfl) harg9.wordExact) fun _ =>
  headAt arg8 ![0, 0, 0, 0] inb_S2x256x4x64_S1x256x1x64_0_0_0_0 fun k0 =>
  headAt arg9 ![0, 0, 0, 0] inb_S2x256x4x64_S1x256x1x64_0_0_0_0 fun v0 =>
  headAt arg8 ![0, 0, 1, 0] inb_S2x256x4x64_S1x256x1x64_0_0_1_0 fun k1 =>
  headAt arg9 ![0, 0, 1, 0] inb_S2x256x4x64_S1x256x1x64_0_0_1_0 fun v1 =>
  headAt arg8 ![0, 0, 2, 0] inb_S2x256x4x64_S1x256x1x64_0_0_2_0 fun k2 =>
  headAt arg9 ![0, 0, 2, 0] inb_S2x256x4x64_S1x256x1x64_0_0_2_0 fun v2 =>
  headAt arg8 ![0, 0, 3, 0] inb_S2x256x4x64_S1x256x1x64_0_0_3_0 fun k3 =>
  headAt arg9 ![0, 0, 3, 0] inb_S2x256x4x64_S1x256x1x64_0_0_3_0 fun v3 =>
  headAt arg8 ![1, 0, 0, 0] inb_S2x256x4x64_S1x256x1x64_1_0_0_0 fun k4 =>
  headAt arg9 ![1, 0, 0, 0] inb_S2x256x4x64_S1x256x1x64_1_0_0_0 fun v4 =>
  headAt arg8 ![1, 0, 1, 0] inb_S2x256x4x64_S1x256x1x64_1_0_1_0 fun k5 =>
  headAt arg9 ![1, 0, 1, 0] inb_S2x256x4x64_S1x256x1x64_1_0_1_0 fun v5 =>
  headAt arg8 ![1, 0, 2, 0] inb_S2x256x4x64_S1x256x1x64_1_0_2_0 fun k6 =>
  headAt arg9 ![1, 0, 2, 0] inb_S2x256x4x64_S1x256x1x64_1_0_2_0 fun v6 =>
  headAt arg8 ![1, 0, 3, 0] inb_S2x256x4x64_S1x256x1x64_1_0_3_0 fun k7 =>
  headAt arg9 ![1, 0, 3, 0] inb_S2x256x4x64_S1x256x1x64_1_0_3_0 fun v7 =>
  .op (.load arg4 (Rect.unit (s := S256x512) ![0, 0] S256x512.size inb_S256x512_S256x512_0_0).toLoadRect (View.loadsAt_vmem h_S256x512)) fun wo =>
  .op (.load arg6 (Rect.unit (s := S512x512) ![0, 0] S512x512.size inb_S512x512_S512x512_0_0).toLoadRect (View.loadsAt_vmem h_S512x512)) fun _ =>
  .op (.store arg6 (Rect.unit (s := S512x512) ![0, 0] S512x512.size inb_S512x512_S512x512_0_0)
    (partOf x wq k0 v0 k1 v1 k2 v2 k3 v3 k4 v4 k5 v5 k6 v6 k7 v7 wo) Finset.univ
    (View.stores_vmem_bits_univ h_S512x512 rfl) (.inl rfl)) fun _ => k

/-- The reduction of the device's own block, stored back into the accumulator. -/
def reducePart (k : Pgm F) : Pgm F :=
  .op (.load arg6 (Rect.unit (s := S512x512) (k0_off5 d0) S16x512.size (k0_off5_inb d0)).toLoadRect (View.loadsAt_vmem h_S16x512)) fun (x : Vec F S16x512 .f32) =>
  hops.foldr (redStep arg7 arg12 d0)
    (fun acc =>
      .op (.load arg6 (Rect.unit (s := S512x512) (k0_off5 d0) S16x512.size (k0_off5_inb d0)).toLoadRect (View.loadsAt_vmem h_S16x512)) fun _ =>
      .op (.store arg6 (Rect.unit (s := S512x512) (k0_off5 d0) S16x512.size (k0_off5_inb d0)) (shapeCast S16x512 acc shapeCasts_S16x512_S16x512) Finset.univ
        (View.stores_vmem_bits_univ h_S16x512 rfl) (.inl rfl)) fun _ => k) x

/-- The gathered accumulator, copied to the output one half at a time. -/
def outPart (k : Pgm F) : Pgm F :=
  .op (.load arg6 (Rect.unit (s := S512x512) ![0, 0] S256x512.size inb_S512x512_S256x512_0_0).toLoadRect (View.loadsAt_vmem h_S256x512)) fun (x : Vec F S256x512 .f32) =>
  .op (.load arg5 (Rect.unit (s := S2x256x512) ![0, 0, 0] S1x256x512.size inb_S2x256x512_S1x256x512_0_0_0).toLoadRect (View.loadsAt_vmem h_S1x256x512)) fun _ =>
  .op (.store arg5 (Rect.unit (s := S2x256x512) ![0, 0, 0] S1x256x512.size inb_S2x256x512_S1x256x512_0_0_0) (k0_pay41 x) Finset.univ
    (View.stores_vmem_bits_univ h_S1x256x512 rfl) (.inl rfl)) fun _ =>
  .op (.load arg6 (Rect.unit (s := S512x512) ![256, 0] S256x512.size inb_S512x512_S256x512_256_0).toLoadRect (View.loadsAt_vmem h_S256x512)) fun y =>
  .op (.load arg5 (Rect.unit (s := S2x256x512) ![1, 0, 0] S1x256x512.size inb_S2x256x512_S1x256x512_1_0_0).toLoadRect (View.loadsAt_vmem h_S1x256x512)) fun _ =>
  .op (.store arg5 (Rect.unit (s := S2x256x512) ![1, 0, 0] S1x256x512.size inb_S2x256x512_S1x256x512_1_0_0) (k0_pay42 y) Finset.univ
    (View.stores_vmem_bits_univ h_S1x256x512 rfl) (.inl rfl)) fun _ => k

/-- The whole body of device `d0`. -/
def devBody : Pgm F :=
  barrierPart d0 <|
  attnPart arg0 arg1 arg2 arg3 arg4 arg6 arg8 harg8 arg9 harg9 arg10 d0 <|
  hops.foldr (rsStep arg6 arg7 arg11 arg12 d0) <|
  reducePart arg6 arg7 arg12 d0 <|
  hops.foldr (agStep arg6 arg13 arg14 d0) <|
  hops.foldr (agWaitStep arg6 arg14 d0) <|
  outPart arg5 arg6 <|
  hops.foldr (doneStep arg6 arg7 arg11 arg13 d0) <|
  .ret ⟨⟩

set_option maxRecDepth 65536 in
/-- The printed body reads the device's number and then runs the looped body. -/
theorem cc0_body_eq (harg0 : arg0.IsWhole) (harg1 : arg1.IsWhole) (harg2 : arg2.IsWhole) (harg3 : arg3.IsWhole)
    (harg4 : arg4.IsWhole) (harg5 : arg5.IsWhole) (harg6 : arg6.IsWhole) (harg7 : arg7.IsWhole) :
    cc0_body (F := F) arg0 harg0 arg1 harg1 arg2 harg2 arg3 harg3 arg4 harg4 arg5 harg5 arg6 harg6 arg7 harg7
      arg8 harg8 arg9 harg9 arg10 arg11 arg12 arg13 arg14
    = .op .deviceId fun d0 => devBody arg0 arg1 arg2 arg3 arg4 arg5 arg6 arg7 arg8 harg8 arg9 harg9 arg10 arg11 arg12 arg13 arg14 d0 := by
  chain_rfl

end Body

end Cert.Proof

end
-- ==== Proof.Blocks.lean ====
/- Where the kernel's transfers read and write.

   The two 512×512 scratch buffers are cut into 32 blocks of 16 rows, one per device. This file says which elements
   the kernel's slices hold, which semaphores its indexed semaphores are, and what a copied block contains. -/
module

public import proofs.«01_k».proof.Proof.Body

@[expose] public section

noncomputable section

namespace Cert.Proof

open Cert.KernelIdeal Cert.KernelIdeal.Gen
open Idealize.ShloMosaic Idealize.ShloMosaic.TcCoe
open Idealize.SL Idealize.SL.Sem

/-! ## Hops -/

/-- The hops are all of the 31 numbers, each once. -/
theorem hops_univ : (Finset.univ : Finset (Fin 31)) = hops.toFinset := by decide
theorem hops_nodup : hops.Nodup := by decide

theorem devOf_val (c : Dev nD) (r : Fin 31) : (devOf c r).val = (c.val + 1 + r.val) % 32 := devAt_eq c r

/-- No hop leads back to the device itself. -/
theorem devOf_ne (c : Dev nD) (r : Fin 31) : devOf c r ≠ c := fun h => by
  have h := congrArg Fin.val h
  rw [devOf_val] at h
  have := r.isLt; have := c.isLt; dsimp only [nD] at *; omega

theorem devOf_inj (c : Dev nD) : Function.Injective (devOf c) := fun a b h => by
  have h := congrArg Fin.val h
  rw [devOf_val, devOf_val] at h
  have := a.isLt; have := b.isLt; have := c.isLt; dsimp only [nD] at *; exact Fin.ext (by omega)

/-- Every other device is at some hop. -/
theorem exists_hop {c s : Dev nD} (h : s ≠ c) : ∃ r, devOf c r = s := by
  have h : s.val ≠ c.val := fun e => h (Fin.ext e)
  have := c.isLt; have := s.isLt; dsimp only [nD] at *
  refine ⟨⟨(s.val + 31 - c.val) % 32, by omega⟩, Fin.ext ?_⟩
  rw [devOf_val]; dsimp only; omega

/-! ## Offsets -/

theorem off4_eq : ∀ (d0 : Dev nD) (r : Fin 31), k0_off4 d0 (hopW r) = ![16 * (devOf d0 r).val, 0] := by decide +kernel
theorem off6_eq : ∀ (d0 : Dev nD) (r : Fin 31), k0_off6 d0 (hopW r) = ![(devOf d0 r).val] := by decide +kernel
theorem off7_eq : ∀ (d0 : Dev nD) (r : Fin 31), k0_off7 d0 (hopW r) = ![16 * (devOf d0 r).val, 0] := by decide +kernel

/-! ## Semaphores -/

/-- The two semaphores of the local copies. -/
abbrev kvSem (j : Fin 2) : DmaSem sig := (⟨4 + j.val, by have := j.isLt; omega⟩ : Fin 134)

/-- The semaphores of the remote copies, four arrays of 32: the sends and the arrivals of the partial products, then
    the sends and the arrivals of the reduced blocks. -/
abbrev xSem (a : Fin 4) (i : Fin 32) : DmaSem sig :=
  (⟨6 + 32 * a.val + i.val, by have := a.isLt; have := i.isLt; omega⟩ : Fin 134)

/-- Hop `r`'s place in an array indexed by distance. -/
abbrev dist (r : Fin 31) : Fin 32 := ⟨1 + r.val, by have := r.isLt; omega⟩

theorem kSem_eq : kSem cc0_scratch4 = kvSem 0 := by decide +kernel
theorem vSem_eq : vSem cc0_scratch4 = kvSem 1 := by decide +kernel
theorem distSem5 : ∀ r, distSem cc0_scratch5 r = xSem 0 (dist r) := by decide +kernel
theorem distSem7 : ∀ r, distSem cc0_scratch7 r = xSem 2 (dist r) := by decide +kernel
theorem mineSem6 : ∀ d0, mineSem d0 cc0_scratch6 = xSem 1 d0 := by decide +kernel
theorem mineSem8 : ∀ d0, mineSem d0 cc0_scratch8 = xSem 3 d0 := by decide +kernel
theorem hopSem6 : ∀ d0 r, hopSem d0 cc0_scratch6 r = xSem 1 (devOf d0 r) := by decide +kernel
theorem hopSem8 : ∀ d0 r, hopSem d0 cc0_scratch8 r = xSem 3 (devOf d0 r) := by decide +kernel

/-! ## The blocks of the scratch buffers -/

/-- The accumulator and the landing buffer. -/
abbrev accM : Memref sig .tc .vmem S512x512 .f32 := Memref.whole cc0_scratch0
abbrev slotM : Memref sig .tc .vmem S512x512 .f32 := Memref.whole cc0_scratch1

/-- The elements of device `p`'s block. -/
def blk (p : Dev nD) : Finset S512x512.Idx := Finset.univ.filter fun i => (i 0).val / 16 = p.val

theorem mem_blk {p : Dev nD} {i : S512x512.Idx} : i ∈ blk p ↔ (i 0).val / 16 = p.val := by
  unfold blk; rw [Finset.mem_filter]; exact ⟨fun h => h.2, fun h => ⟨Finset.mem_univ _, h⟩⟩

theorem blk_disjoint : ∀ p q : Dev nD, p ≠ q → Disjoint (blk p) (blk q) := fun p q h =>
  Finset.disjoint_left.mpr fun _ h₁ h₂ => h (Fin.ext ((mem_blk.mp h₁).symm.trans (mem_blk.mp h₂)))

/-- Every element lies in the block of some device. -/
theorem exists_blk (i : S512x512.Idx) : ∃ p, i ∈ blk p :=
  ⟨⟨(i 0).val / 16, by have : (i 0).val < 512 := (i 0).isLt; dsimp only [nD]; omega⟩, mem_blk.mpr rfl⟩

/-- Sixteen whole rows from row `16 * p` are the block of device `p`. -/
theorem rect_set (p : Dev nD) {off : Fin 2 → ℕ} (h : off = ![16 * p.val, 0])
    (inb : ∀ a, off a + S16x512.size a ≤ S512x512.size a) :
    (Rect.unit (s := S512x512) off S16x512.size inb).set = blk p := by
  subst h
  ext i
  rw [Rect.mem_set_unit, mem_blk]
  have h1 : (i 1).val < 512 := (i 1).isLt
  constructor
  · intro h
    have := h 0
    simp [S16x512] at this
    omega
  · intro h a
    fin_cases a <;> simp [S16x512] <;> omega

theorem mine_set_acc (c : Dev nD) : (mineView c accM).view.set = blk c :=
  (View.set_slice_whole _ _).trans (rect_set c (k0_off3_eq c) _)
theorem mine_set_slot (c : Dev nD) : (mineView c slotM).view.set = blk c :=
  (View.set_slice_whole _ _).trans (rect_set c (k0_off3_eq c) _)
theorem hop_set_acc (c : Dev nD) (r : Fin 31) : (hopView c accM r).view.set = blk (devOf c r) :=
  (View.set_slice_whole _ _).trans (rect_set _ (off4_eq c r) _)

/-! ## What a copied block contains -/

section Contents

variable {F : FTy → Type}

/-- The contents of a 512×512 scratch buffer. -/
abbrev Sq (F : FTy → Type) : Type := (cc0_scratch0 : Ref sig .tc).ty.Contents (Elt F)

/-- Row `r` of device `p`'s block, column `j`. -/
abbrev rowAt (p : Dev nD) (r : Fin 16) (j : Fin 512) : S512x512.Idx :=
  Fin.cons (⟨16 * p.val + r.val, by have := p.isLt; have := r.isLt; dsimp only [nD] at *; show _ < 512; omega⟩ : Fin 512)
    (Fin.cons j (fun a => a.elim0))

/-- The device whose block holds `i`. -/
def owner (i : S512x512.Idx) : Dev nD :=
  ⟨(i 0).val / 16, by have : (i 0).val < 512 := (i 0).isLt; dsimp only [nD]; omega⟩

/-- `i`'s row within its block. -/
abbrev rowOf (i : S512x512.Idx) : Fin 16 := ⟨(i 0).val % 16, Nat.mod_lt _ (by decide)⟩

theorem owner_of_mem {p : Dev nD} {i : S512x512.Idx} (h : i ∈ blk p) : owner i = p := Fin.ext (mem_blk.mp h)

theorem owner_rowAt (p : Dev nD) (r : Fin 16) (j : Fin 512) : owner (rowAt p r j) = p := Fin.ext (by
  have := r.isLt
  show (16 * p.val + r.val) / 16 = p.val
  omega)

theorem rowOf_rowAt (p : Dev nD) (r : Fin 16) (j : Fin 512) : rowOf (rowAt p r j) = r := Fin.ext (by
  have := r.isLt
  show (16 * p.val + r.val) % 16 = r.val
  omega)

theorem rowAt_owner (i : S512x512.Idx) : rowAt (owner i) (rowOf i) (i 1) = i := by
  funext a
  fin_cases a
  · exact Fin.ext (show 16 * ((i 0).val / 16) + (i 0).val % 16 = (i 0).val by omega)
  · rfl

theorem rowAt_of_mem {p : Dev nD} {i : S512x512.Idx} (h : i ∈ blk p) : i = rowAt p (rowOf i) (i 1) := by
  rw [← owner_of_mem h, rowAt_owner]

/-- The element a sixteen-row slice shows at `x`. -/
theorem rect_emb (p : Dev nD) {off : Fin 2 → ℕ} (h : off = ![16 * p.val, 0])
    (inb : ∀ a, off a + S16x512.size a ≤ S512x512.size a) (x : S16x512.Idx) :
    (Rect.unit (s := S512x512) off S16x512.size inb).emb x = rowAt p (x 0) (x 1) := by
  subst h
  funext a
  refine Fin.ext ?_
  rw [Rect.emb_apply]
  fin_cases a
  · show 16 * p.val + 1 * (x 0).val = 16 * p.val + (x 0).val
    omega
  · show 0 + 1 * (x 1).val = (x 1).val
    omega

/-- A multi-index of a block. -/
abbrev at16 (r : Fin 16) (j : Fin 512) : S16x512.Idx := Fin.cons r (Fin.cons j (fun a => a.elim0))

/-- The block of hop `r`'s device, copied from the accumulator into device `c`'s block of the landing buffer. -/
theorem copied_slot (c : Dev nD) (r : Fin 31) (fd fs : Sq F) {i : S512x512.Idx} (h : i ∈ blk c) :
    (mineView c slotM).view.write (Elt F) fd ((hopView c accM r).view.read (Elt F) fs) Finset.univ i
      = fs (rowAt (devOf c r) (rowOf i) (i 1)) := by
  have e : (mineView c slotM).view.emb (at16 (rowOf i) (i 1)) = i :=
    (rect_emb c (k0_off3_eq c) _ _).trans (rowAt_of_mem h).symm
  have e' : (hopView c accM r).view.emb (at16 (rowOf i) (i 1)) = rowAt (devOf c r) (rowOf i) (i 1) :=
    rect_emb _ (off4_eq c r) _ _
  have := View.write_emb_of_mem (v := (mineView c slotM).view) (Val := Elt F) fd ((hopView c accM r).view.read (Elt F) fs)
    (Finset.mem_univ (at16 (rowOf i) (i 1)))
  rw [e] at this
  refine this.trans ?_
  show fs ((hopView c accM r).view.emb (at16 (rowOf i) (i 1))) = _
  rw [e']

/-- Device `c`'s block, copied from one accumulator into another, is as it was. -/
theorem copied_acc (c : Dev nD) (fd fs : Sq F) {i : S512x512.Idx} (h : i ∈ blk c) :
    (mineView c accM).view.write (Elt F) fd ((mineView c accM).view.read (Elt F) fs) Finset.univ i = fs i := by
  have e : (mineView c accM).view.emb (at16 (rowOf i) (i 1)) = i :=
    (rect_emb c (k0_off3_eq c) _ _).trans (rowAt_of_mem h).symm
  have := View.write_emb_of_mem (v := (mineView c accM).view) (Val := Elt F) fd ((mineView c accM).view.read (Elt F) fs)
    (Finset.mem_univ (at16 (rowOf i) (i 1)))
  rw [e] at this
  refine this.trans ?_
  show fs ((mineView c accM).view.emb (at16 (rowOf i) (i 1))) = _
  rw [e]

/-- Device `p`'s block of a whole buffer, as a vector. -/
def blockOf (p : Dev nD) (f : Sq F) : Vec F S16x512 .f32 := fun x => f (rowAt p (x 0) (x 1))

/-- A load of sixteen rows of the accumulator, -/
theorem read_acc (p : Dev nD) {off : Fin 2 → ℕ} (h : off = ![16 * p.val, 0])
    (inb : ∀ a, off a + S16x512.size a ≤ S512x512.size a) (f : Sq F) :
    accM.view.readAt (Elt F) (Rect.unit (s := S512x512) off S16x512.size inb).toLoadRect f = blockOf p f :=
  funext fun x => congrArg f (rect_emb p h inb x)
/-- or of the landing buffer, is the block there. -/
theorem read_slot (p : Dev nD) {off : Fin 2 → ℕ} (h : off = ![16 * p.val, 0])
    (inb : ∀ a, off a + S16x512.size a ≤ S512x512.size a) (f : Sq F) :
    slotM.view.readAt (Elt F) (Rect.unit (s := S512x512) off S16x512.size inb).toLoadRect f = blockOf p f :=
  funext fun x => congrArg f (rect_emb p h inb x)

/-- A store of sixteen rows of the accumulator puts the vector's elements in the block. -/
theorem stored_acc (p : Dev nD) {off : Fin 2 → ℕ} (h : off = ![16 * p.val, 0])
    (inb : ∀ a, off a + S16x512.size a ≤ S512x512.size a) (f : Sq F) (w : Vec F S16x512 .f32) {i : S512x512.Idx} (hi : i ∈ blk p) :
    (accM.access (Rect.unit (s := S512x512) off S16x512.size inb)).write (Elt F) f w Finset.univ i = w (at16 (rowOf i) (i 1)) := by
  have e : (accM.access (Rect.unit (s := S512x512) off S16x512.size inb)).emb (at16 (rowOf i) (i 1)) = i :=
    (rect_emb p h _ _).trans (rowAt_of_mem hi).symm
  have := View.write_emb_of_mem (v := accM.access (Rect.unit (s := S512x512) off S16x512.size inb)) (Val := Elt F) f w
    (Finset.mem_univ (at16 (rowOf i) (i 1)))
  rw [e] at this
  exact this

/-! ## The contents of the scratch buffers, from the devices' partial products -/

variable [FloatOps F] (A : Dev nD → Sq F)

/-- Device `c`'s landing buffer when every partial product has arrived: in device `s`'s block, `s`'s product of
    `c`'s rows. -/
def slotC (c : Dev nD) : Sq F := fun i => A (owner i) (rowAt c (rowOf i) (i 1))

theorem blockOf_slotC (c s : Dev nD) : blockOf s (slotC A c) = blockOf c (A s) := by
  funext x
  exact congrArg₂ (fun a b => A a (rowAt c b (x 1))) (owner_rowAt s (x 0) (x 1)) (rowOf_rowAt s (x 0) (x 1))

/-- Device `c`'s reduced block: its own rows of the products of all devices, added in the order of the hops. -/
def redC (c : Dev nD) : Vec F S16x512 .f32 :=
  hops.foldl (fun acc r => addf acc (blockOf c (A (devOf c r)))) (blockOf c (A c))

/-- The gathered result, the same on every device: each device's reduced block in its rows. -/
def finC : Sq F := fun i => redC A (owner i) (at16 (rowOf i) (i 1))

end Contents

end Cert.Proof

end
-- ==== Proof.Cells.lean ====
/- The protocol on the kernel's semaphores.

   Every semaphore of the kernel runs one round. At a device's barrier cell each other device pays one unit, and hands
   over its landing buffer's block for the device's products. At a transfer's cell the transfer pays its bytes, and
   hands over what it leaves behind: the arrival of a partial product gives the landed block and, with it, the block of
   the sender's accumulator it was read from, which is the very block the receiver will later send its reduced rows to. -/
module

public import proofs.«01_k».proof.Proof.Blocks
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Rounds
public import Idealize.ShloMosaic.Lib.ShareLeaves
public import Idealize.ShloMosaic.Lib.Tactic

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the protocol's, whose duties are named by the devices that pay them -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

abbrev barC (c : Dev nD) : GSem nD τ sig := ((c : Thread nD τ), .reg barSem)
abbrev kvC (c : Dev nD) (j : Fin 2) : GSem nD τ sig := ((c : Thread nD τ), .dma (kvSem j))
abbrev xC (c : Dev nD) (a : Fin 4) (i : Fin 32) : GSem nD τ sig := ((c : Thread nD τ), .dma (xSem a i))

/-- The bytes of a 16×512 block, and of the copied heads. -/
abbrev N16 : ℕ := (mineView 0 accM).view.dmaCredit
abbrev NKV : ℕ := (Memref.whole cc0_scratch2 : Memref sig .tc .vmem S2x256x4x64 .f32).view.dmaCredit

theorem N16_pos : 0 < N16 := View.dmaCredit_pos _ (by decide)
theorem NKV_pos : 0 < NKV := View.dmaCredit_pos _ (by decide)

/-! ## What the cells hand over -/

/-- What the devices hold: their partial products and their copies of the key and value arrays. -/
structure Held (F : FTy → Type) where
  /-- each device's partial product -/
  part : Dev nD → Sq F
  /-- each device's keys -/
  keys : Dev nD → (main_arg2 : Ref sig .tc).ty.Contents (Elt F)
  /-- each device's values -/
  vals : Dev nD → (main_arg3 : Ref sig .tc).ty.Contents (Elt F)

abbrev keysM : Memref sig .tc .hbm S2x256x128x64 .f32 := Memref.whole main_arg2
abbrev valsM : Memref sig .tc .hbm S2x256x128x64 .f32 := Memref.whole main_arg3
abbrev kM : Memref sig .tc .vmem S2x256x4x64 .f32 := Memref.whole cc0_scratch2
abbrev vM : Memref sig .tc .vmem S2x256x4x64 .f32 := Memref.whole cc0_scratch3

/-- Device `c`'s block `p` of the accumulator at contents `f`, at share `q`. -/
def accPts (c p : Dev nD) (q : PosShare TreeShare) (f : Sq F) : sProp 𝕄 := (c : Thread nD τ).loc cc0_scratch0 ↦[blk p]{q} f
/-- Device `c`'s block `p` of the landing buffer. -/
def slotPts (c p : Dev nD) (f : Sq F) : sProp 𝕄 := (c : Thread nD τ).loc cc0_scratch1 ↦[blk p]{fullShare} f

/-- One of 32 shares of the reduced block: the first stays with the device, the others go with its sends. -/
def sh (i : Fin 32) : PosShare TreeShare := ShareLeaves.leaf 5 fullShare i

variable (H : Held F)

/-- The device's heads of its keys and of its values. -/
def kBuf (c : Dev nD) : (cc0_scratch2 : Ref sig .tc).ty.Contents (Elt F) := (headView c keysM).view.read (Elt F) (H.keys c)
def vBuf (c : Dev nD) : (cc0_scratch3 : Ref sig .tc).ty.Contents (Elt F) := (headView c valsM).view.read (Elt F) (H.vals c)

/-- The copy of the keys leaves the copied heads and the heads it read. -/
def kPay (c : Dev nD) : sProp 𝕄 :=
  iprop(((c : Thread nD τ).loc cc0_scratch2 ↦{fullShare} kBuf H c)
    ∗ ((headView c keysM).view.loc (c : Thread nD τ) ↦[(headView c keysM).view.set]{fullShare} H.keys c))
/-- So does that of the values. -/
def vPay (c : Dev nD) : sProp 𝕄 :=
  iprop(((c : Thread nD τ).loc cc0_scratch3 ↦{fullShare} vBuf H c)
    ∗ ((headView c valsM).view.loc (c : Thread nD τ) ↦[(headView c valsM).view.set]{fullShare} H.vals c))

/-- What a transfer on semaphore `n` of device `c`, issued by device `d`, hands over. -/
def dmaPay (c : Dev nD) (n : ℕ) (d : Dev nD) : sProp 𝕄 :=
  if n = 4 then kPay H c
  else if n = 5 then vPay H c
  else if (n - 6) / 32 = 1 then iprop(slotPts c d (slotC H.part c) ∗ accPts d c fullShare (H.part d))
  else if (n - 6) / 32 = 2 then accPts c c (sh ⟨(n - 6) % 32, Nat.mod_lt _ (by decide)⟩) (finC H.part)
  else if (n - 6) / 32 = 3 then accPts c d fullShare (finC H.part)
  else iprop(emp)

/-- What device `d` hands device `c` at `c`'s barrier: its landing block for `c`'s products. -/
def barPay (c d : Dev nD) : sProp 𝕄 := iprop(∃ f, slotPts d c f)

/-- Who pays semaphore `n` of device `c`: the device itself its copies and sends, the device of the index an arrival. -/
def payer (c : Dev nD) (n : ℕ) : Finset (Dev nD) :=
  if n < 4 then ∅
  else if n < 6 then {c}
  else if (n - 6) / 32 % 2 = 0 then (if (n - 6) % 32 = 0 then ∅ else {c})
  else if (n - 6) % 32 = c.val then ∅ else {⟨(n - 6) % 32, Nat.mod_lt _ (by decide)⟩}

/-- The protocol: one round at every cell of a TensorCore. -/
def Rd : Rounds.Schedule (GSem nD τ sig) (Dev nD) 𝕄 where
  duties g r := if r = 0 ∧ g.1.2 = .tc then (match g.2 with | .reg _ => Finset.univ.erase g.1.1 | .dma n => payer g.1.1 n.val) else ∅
  unitless _ := False
  amount g _ _ := match g.2 with | .reg _ => 1 | .dma n => if n.val < 6 then NKV else N16
  payload g _ d := match g.2 with | .reg _ => barPay g.1.1 d | .dma n => dmaPay H g.1.1 n.val d
  amount_pos g _ _ _ := by
    rcases g with ⟨_, _ | n⟩
    · exact Nat.one_pos
    · dsimp only; split
      · exact NKV_pos
      · exact N16_pos

instance accPts_storable (c p : Dev nD) (q) (f : Sq F) : BI.Storable (upEmb : UEmb _ 𝕄) (accPts (F := F) c p q f) := by
  unfold accPts; infer_instance
instance slotPts_storable (c p : Dev nD) (f : Sq F) : BI.Storable (upEmb : UEmb _ 𝕄) (slotPts (F := F) c p f) := by
  unfold slotPts; infer_instance

instance Rd_payload_storable (g : GSem nD τ sig) (r : ℕ) (d : Dev nD) :
    BI.Storable (upEmb : UEmb _ 𝕄) ((Rd (F := F) H).payload g r d) := by
  rcases g with ⟨t, _ | n⟩
  · show BI.Storable upEmb (barPay t.1 d)
    unfold barPay; infer_instance
  · show BI.Storable upEmb (dmaPay H t.1 n.val d)
    unfold dmaPay kPay vPay
    (repeat' split) <;> infer_instance

section Sched
variable (c : Dev nD)

theorem x_ge (a : Fin 4) (i : Fin 32) : ¬ (6 + 32 * a.val + i.val < 6) := by omega
theorem x_div (a : Fin 4) (i : Fin 32) : (6 + 32 * a.val + i.val - 6) / 32 = a.val := by have := i.isLt; omega
theorem x_mod (a : Fin 4) (i : Fin 32) : (6 + 32 * a.val + i.val - 6) % 32 = i.val := by have := i.isLt; omega

theorem payer_send (a : Fin 4) (ha : a.val % 2 = 0) (i : Fin 32) :
    payer c (6 + 32 * a.val + i.val) = if i = 0 then ∅ else {c} := by
  unfold payer
  rw [if_neg (by omega), if_neg (by omega), x_div, if_pos ha, x_mod]
  exact if_congr (Iff.intro (fun h => Fin.ext h) (fun h => congrArg Fin.val h)) rfl rfl

theorem payer_recv (a : Fin 4) (ha : a.val % 2 = 1) (i : Fin 32) :
    payer c (6 + 32 * a.val + i.val) = if i = c then ∅ else {i} := by
  unfold payer
  rw [if_neg (by omega), if_neg (by omega), x_div, if_neg (by omega)]
  have e : (⟨(6 + 32 * a.val + i.val - 6) % 32, Nat.mod_lt _ (by decide)⟩ : Dev nD) = i := Fin.ext (x_mod a i)
  rw [e, x_mod]
  exact if_congr (Iff.symm Fin.ext_iff) rfl rfl

theorem duties_bar : (Rd (F := F) H).duties (barC c) 0 = Finset.univ.erase c := by
  dsimp only [Rd]; exact if_pos ⟨rfl, rfl⟩
theorem duties_dma (n : DmaSem sig) : (Rd (F := F) H).duties ((c : Thread nD τ), .dma n) 0 = payer c n.val := by
  dsimp only [Rd]; exact if_pos ⟨rfl, rfl⟩
theorem duties_kv (j : Fin 2) : (Rd (F := F) H).duties (kvC c j) 0 = {c} := by
  rw [duties_dma]; unfold payer
  have := j.isLt
  rw [if_neg (show ¬ 4 + j.val < 4 by omega), if_pos (show 4 + j.val < 6 by omega)]
theorem duties_send (a : Fin 4) (ha : a.val % 2 = 0) (r : Fin 31) : (Rd (F := F) H).duties (xC c a (dist r)) 0 = {c} := by
  rw [duties_dma]
  exact (payer_send c a ha (dist r)).trans (if_neg fun h => by have := congrArg Fin.val h; simp at this)
theorem duties_recv (a : Fin 4) (ha : a.val % 2 = 1) {s : Dev nD} (hs : s ≠ c) : (Rd (F := F) H).duties (xC c a s) 0 = {s} := by
  rw [duties_dma]; exact (payer_recv c a ha s).trans (if_neg hs)
theorem duties_later (g : GSem nD τ sig) : ∀ r, 1 ≤ r → (Rd (F := F) H).duties g r = ∅ :=
  fun r hr => if_neg fun h => by omega
/-- The send semaphore at distance zero and the arrival semaphore of the device itself are never paid. -/
theorem duties_send_idle (a : Fin 4) (ha : a.val % 2 = 0) : ∀ r, 0 ≤ r → (Rd (F := F) H).duties (xC c a 0) r = ∅ := fun r _ => by
  rcases Nat.eq_zero_or_pos r with rfl | h
  · rw [duties_dma]; exact (payer_send c a ha 0).trans (if_pos rfl)
  · exact duties_later H _ r h
theorem duties_recv_idle (a : Fin 4) (ha : a.val % 2 = 1) : ∀ r, 0 ≤ r → (Rd (F := F) H).duties (xC c a c) r = ∅ := fun r _ => by
  rcases Nat.eq_zero_or_pos r with rfl | h
  · rw [duties_dma]; exact (payer_recv c a ha c).trans (if_pos rfl)
  · exact duties_later H _ r h

theorem amount_bar (d : Dev nD) : (Rd (F := F) H).amount (barC c) 0 d = 1 := rfl
theorem amount_kv (j : Fin 2) (d : Dev nD) : (Rd (F := F) H).amount (kvC c j) 0 d = NKV :=
  if_pos (show 4 + j.val < 6 by have := j.isLt; omega)
theorem amount_x (a : Fin 4) (i : Fin 32) (d : Dev nD) : (Rd (F := F) H).amount (xC c a i) 0 d = N16 := if_neg (x_ge a i)

theorem expect_bar : (Rd (F := F) H).expect (barC c) 0 = 31 := by
  unfold Schedule.expect Schedule.amountOf
  rw [duties_bar, Finset.sum_congr rfl fun d _ => amount_bar H c d, Finset.sum_const, Finset.card_erase_of_mem (Finset.mem_univ _),
    Finset.card_univ, Fintype.card_fin]
  rfl
theorem expect_kv (j : Fin 2) : (Rd (F := F) H).expect (kvC c j) 0 = NKV := by
  unfold Schedule.expect Schedule.amountOf; rw [duties_kv, Finset.sum_singleton, amount_kv]
theorem expect_send (a : Fin 4) (ha : a.val % 2 = 0) (r : Fin 31) : (Rd (F := F) H).expect (xC c a (dist r)) 0 = N16 := by
  unfold Schedule.expect Schedule.amountOf; rw [duties_send H c a ha, Finset.sum_singleton, amount_x]
theorem expect_recv (a : Fin 4) (ha : a.val % 2 = 1) {s : Dev nD} (hs : s ≠ c) : (Rd (F := F) H).expect (xC c a s) 0 = N16 := by
  unfold Schedule.expect Schedule.amountOf; rw [duties_recv H c a ha hs, Finset.sum_singleton, amount_x]

theorem payload_bar (d : Dev nD) : (Rd (F := F) H).payload (barC c) 0 d = barPay c d := rfl
theorem payload_k (d : Dev nD) : (Rd (F := F) H).payload (kvC c 0) 0 d = kPay H c := by
  show dmaPay H c 4 d = _
  unfold dmaPay; exact if_pos rfl
theorem payload_v (d : Dev nD) : (Rd (F := F) H).payload (kvC c 1) 0 d = vPay H c := by
  show dmaPay H c 5 d = _
  unfold dmaPay; rw [if_neg (by decide)]; exact if_pos rfl

theorem payload_x (a : Fin 4) (i : Fin 32) (d : Dev nD) : (Rd (F := F) H).payload (xC c a i) 0 d
    = (if a.val = 1 then iprop(slotPts c d (slotC H.part c) ∗ accPts d c fullShare (H.part d))
      else if a.val = 2 then accPts c c (sh i) (finC H.part)
      else if a.val = 3 then accPts c d fullShare (finC H.part)
      else iprop(emp) : sProp 𝕄) := by
  show dmaPay H c (6 + 32 * a.val + i.val) d = _
  unfold dmaPay
  have e : (⟨(6 + 32 * a.val + i.val - 6) % 32, Nat.mod_lt _ (by decide)⟩ : Fin 32) = i := Fin.ext (x_mod a i)
  rw [if_neg (by omega), if_neg (by omega), x_div, e]

theorem payload_rsSend (i : Fin 32) (d : Dev nD) : (Rd (F := F) H).payload (xC c 0 i) 0 d = iprop(emp) := payload_x H c 0 i d
theorem payload_rsRecv (i : Fin 32) (d : Dev nD) :
    (Rd (F := F) H).payload (xC c 1 i) 0 d = iprop(slotPts c d (slotC H.part c) ∗ accPts d c fullShare (H.part d)) := payload_x H c 1 i d
theorem payload_agSend (i : Fin 32) (d : Dev nD) : (Rd (F := F) H).payload (xC c 2 i) 0 d = accPts c c (sh i) (finC H.part) := payload_x H c 2 i d
theorem payload_agRecv (i : Fin 32) (d : Dev nD) : (Rd (F := F) H).payload (xC c 3 i) 0 d = accPts c d fullShare (finC H.part) := payload_x H c 3 i d

end Sched

/-! ## A family over the devices: the device itself and its hops -/

omit [FloatOps F] in
/-- Everything but one element, enumerated along the hops. -/
theorem bigSep_erase_hops {g : Fin 31 → Fin 32} (hg : Function.Injective g) {c : Fin 32} (hc : ∀ r, g r ≠ c) (Φ : Fin 32 → sProp 𝕄) :
    bigSep (Finset.univ.erase c) Φ = bigSepL hops fun r => Φ (g r) := by
  have e : Finset.univ.erase c = Finset.univ.map ⟨g, hg⟩ := by
    refine (Finset.eq_of_subset_of_card_le (fun x hx => ?_) ?_).symm
    · obtain ⟨r, -, rfl⟩ := Finset.mem_map.mp hx
      exact Finset.mem_erase.mpr ⟨hc r, Finset.mem_univ _⟩
    · rw [Finset.card_map, Finset.card_erase_of_mem (Finset.mem_univ _), Finset.card_univ, Finset.card_univ, Fintype.card_fin, Fintype.card_fin]
  rw [e, bigSep_map]
  exact bigSep_univ_eq_bigSepL hops hops_univ hops_nodup _

omit [FloatOps F] in
/-- A family over the devices is the device's own member and its hops'. -/
theorem bigSep_dev (c : Dev nD) (Φ : Dev nD → sProp 𝕄) :
    bigSep Finset.univ Φ = iprop(Φ c ∗ bigSepL hops fun r => Φ (devOf c r)) := by
  rw [bigSep_univ_at Φ c]
  exact congrArg (fun X => iprop(Φ c ∗ X)) (bigSep_erase_hops (devOf_inj c) (devOf_ne c) Φ)

theorem dist_inj : Function.Injective dist := fun a b h => Fin.ext (by have := congrArg Fin.val h; dsimp only at this; omega)
theorem dist_ne (r : Fin 31) : dist r ≠ 0 := fun h => by have := congrArg Fin.val h; simp at this

omit [FloatOps F] in
/-- A family over the distances is the member at zero and the hops'. -/
theorem bigSep_dist (Φ : Fin 32 → sProp 𝕄) :
    bigSep Finset.univ Φ = iprop(Φ 0 ∗ bigSepL hops fun r => Φ (dist r)) := by
  rw [bigSep_univ_at Φ 0]
  exact congrArg (fun X => iprop(Φ 0 ∗ X)) (bigSep_erase_hops dist_inj dist_ne Φ)

/-! ## What each core owes; the levels -/

/-- What device `c` owes at hop `r`: a unit of its barrier, the bytes of a partial product, those of a reduced block. -/
def dueBar (c : Dev nD) (r : Fin 31) : CellTallies nD τ sig Unit := tallyAt (barC (devOf c r)) () 1
def dueX (a : Fin 4) (c : Dev nD) (r : Fin 31) : CellTallies nD τ sig Unit := tallyAt (xC (devOf c r) a c) () N16

/-- The dues of a list of hops. -/
def due (f : Fin 31 → CellTallies nD τ sig Unit) (l : List (Fin 31)) : CellTallies nD τ sig Unit := (l.map f).sum

theorem due_nil (f : Fin 31 → CellTallies nD τ sig Unit) : due f [] = 0 := rfl
theorem due_cons (f : Fin 31 → CellTallies nD τ sig Unit) (r : Fin 31) (l : List (Fin 31)) (R : CellTallies nD τ sig Unit) :
    due f (r :: l) + R = (due f l + R) + f r := by
  unfold due; rw [List.map_cons, List.sum_cons, add_comm (f r), add_right_comm]

/-- At launch: every barrier unit, every partial product, every reduced block. -/
def owed₂ (c : Dev nD) : CellTallies nD τ sig Unit := due (dueX 3 c) hops
def owed₁ (c : Dev nD) : CellTallies nD τ sig Unit := due (dueX 1 c) hops + owed₂ c
def owed₀ (c : Dev nD) : CellTallies nD τ sig Unit := due (dueBar c) hops + owed₁ c

def L (g : GSem nD τ sig) : Finset Unit := if g.1.2 = .tc then {()} else ∅
/-- Barriers at 1, arrivals of partial products at 2, of reduced blocks at 3, everything else at 0. -/
def lv (g : GSem nD τ sig) (_ : Unit) : ℕ :=
  match g.2 with | .reg _ => 1 | .dma n => if n.val < 6 then 0 else if (n.val - 6) / 32 = 1 then 2 else if (n.val - 6) / 32 = 3 then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barC c) u = 1 := rfl
theorem lv_x (c : Dev nD) (a : Fin 4) (i : Fin 32) (u : Unit) : lv (xC c a i) u = if a.val = 1 then 2 else if a.val = 3 then 3 else 0 := by
  show (if 6 + 32 * a.val + i.val < 6 then 0 else if (6 + 32 * a.val + i.val - 6) / 32 = 1 then 2 else if (6 + 32 * a.val + i.val - 6) / 32 = 3 then 3 else 0) = _
  rw [if_neg (x_ge a i), x_div]

/-- Everything in `O` is owed to a TensorCore, at a level above `n`. -/
def Above (n : ℕ) (O : CellTallies nD τ sig Unit) : Prop := ∀ (g : GSem nD τ sig) (u : Unit), 0 < O g u → g.1.2 = .tc ∧ n < lv g u

theorem above_zero (n : ℕ) : Above n 0 := fun _ _ h => absurd h (Nat.lt_irrefl 0)
theorem above_add {n : ℕ} {O O' : CellTallies nD τ sig Unit} (h : Above n O) (h' : Above n O') : Above n (O + O') := fun g u hp => by
  rw [Pi.add_apply, Finsupp.add_apply] at hp
  rcases Nat.eq_zero_or_pos (O g u) with h0 | h0
  · exact h' g u (by omega)
  · exact h g u h0
theorem above_tally {n : ℕ} (c : Dev nD) (sm : SemLoc sig) (k : ℕ) (h : n < lv ((c : Thread nD τ), sm) ()) :
    Above n (tallyAt ((c : Thread nD τ), sm) () k) := fun g u hp => by
  rw [tallyAt_apply] at hp
  by_cases e : g = ((c : Thread nD τ), sm) ∧ u = ()
  · rw [e.1]; exact ⟨rfl, h⟩
  · rw [if_neg e] at hp; exact absurd hp (Nat.lt_irrefl 0)
theorem above_due {n : ℕ} {f : Fin 31 → CellTallies nD τ sig Unit} (h : ∀ r, Above n (f r)) : ∀ l, Above n (due f l)
  | [] => above_zero n
  | r :: l => by unfold due; rw [List.map_cons, List.sum_cons]; exact above_add (h r) (above_due h l)

theorem above_bar (c : Dev nD) (l) : Above 0 (due (dueBar c) l) := above_due (fun r => above_tally _ _ _ (by rw [lv_bar]; decide)) l
theorem above_rs (c : Dev nD) (l) : Above 1 (due (dueX 1 c) l) := above_due (fun r => above_tally _ _ _ (by rw [lv_x]; decide)) l
theorem above_ag (c : Dev nD) (l) : Above 2 (due (dueX 3 c) l) := above_due (fun r => above_tally _ _ _ (by rw [lv_x]; decide)) l
theorem above_mono {n n' : ℕ} (h : n ≤ n') {O : CellTallies nD τ sig Unit} (hO : Above n' O) : Above n O :=
  fun g u hp => ⟨(hO g u hp).1, lt_of_le_of_lt h (hO g u hp).2⟩
theorem above_owed₁ (c : Dev nD) : Above 1 (owed₁ c) := above_add (above_rs c _) (above_mono (by decide) (above_ag c _))
theorem above_owed₀ (c : Dev nD) : Above 0 (owed₀ c) := above_add (above_bar c _) (above_mono (by decide) (above_owed₁ c))

omit [FloatOps F] in
/-- A device may wait at a cell of level at most `n` while all it owes lies above `n`. -/
theorem mayWait {n : ℕ} (c : Dev nD) (sm : SemLoc sig) (h : lv ((c : Thread nD τ), sm) () ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact h)
    (fun g u hg => (hO g u hg).2)

end Cert.Proof

end
-- ==== Proof.Steps.lean ====
/- One step of each loop.

   For each of the kernel's loops: what a device holds before one step, what it holds after, and that the step takes
   it from the one to the other. The rule at the end runs a whole loop from its step. -/
module

public import proofs.«01_k».proof.Proof.Cells

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c`'s program `p` runs to `Q`. -/
abbrev Wp (c : Dev nD) (p : Pgm F) (Q : PUnit → sProp 𝕄) : sProp 𝕄 :=
  wp frame (wpE (defs₀ (F := F)) 𝒱₀ (c : Thread nD τ) none) Set.univ p Q

variable (H : Held F)

/-! ## What every device knows of the cells -/

/-- The indices of a device's cells: the barrier, the local copies, the four arrays. -/
abbrev CellIx : Type := Option (Fin 2 ⊕ Fin 4 × Fin 32)
abbrev osem : Fin 2 ⊕ Fin 4 × Fin 32 → SemLoc sig
  | .inl j => .dma (kvSem j)
  | .inr (a, i) => .dma (xSem a i)
abbrev csem : CellIx → SemLoc sig
  | none => .reg barSem
  | some k => osem k
abbrev kcell (ck : Dev nD × CellIx) : GSem nD τ sig := ((ck.1 : Thread nD τ), csem ck.2)

/-- A cell runs the protocol, and is open. -/
def known (g : GSem nD τ sig) : sProp 𝕄 := iprop((∃ κ : ℕ, cellInv ER (Rd H) κ g) ∗ reached ER g 0)
/-- All cells of all devices do. -/
def allKnown : sProp 𝕄 := bigSep Finset.univ fun ck : Dev nD × CellIx => known H (kcell ck)

instance known_persistent (g : GSem nD τ sig) : BI.Persistent (known H g) := by unfold known; infer_instance
instance allKnown_persistent : BI.Persistent (allKnown H) := by unfold allKnown; infer_instance

theorem known_at (ck : Dev nD × CellIx) : (allKnown H : sProp 𝕄) ⊢ known H (kcell ck) := by
  unfold allKnown; exact bigSep_elim (Finset.mem_univ ck)
theorem known_bar (c : Dev nD) : (allKnown H : sProp 𝕄) ⊢ known H (barC c) := known_at H (c, none)
theorem known_kv (c : Dev nD) (j : Fin 2) : (allKnown H : sProp 𝕄) ⊢ known H (kvC c j) := known_at H (c, some (.inl j))
theorem known_x (c : Dev nD) (a : Fin 4) (i : Fin 32) : (allKnown H : sProp 𝕄) ⊢ known H (xC c a i) := known_at H (c, some (.inr (a, i)))

/-- What device `c` owes, and what it knows. -/
def Owes (c : Dev nD) (O : CellTallies nD τ sig Unit) : sProp 𝕄 := iprop(allKnown H ∗ levAts L lv ∗ ∃ W, owes (c : Thread nD τ) O W)

/-- A cell of `c` before its round, and closed after it. -/
def fresh (g : GSem nD τ sig) : sProp 𝕄 := atPos ER g 0 ∅ 0
def done (g : GSem nD τ sig) : sProp 𝕄 := semVal g 0

/-! ## Waiting -/

/-- A wait for the one round of a cell gives what its payer handed over, and the cell back at zero. -/
theorem wp_wait_cell (c : Dev nD) {sm : SemLoc sig} {k' n : ℕ} {w : TpuEff nD τ sig (Elt F) Λ₀ .tc PUnit}
    (hw : ∀ K : PUnit → sProp 𝕄, wpE (defs₀ (F := F)) 𝒱₀ (c : Thread nD τ) none Set.univ w K = waitSpec (c : Thread nD τ) Set.univ sm k' K)
    (he : (Rd (F := F) H).expect ((c : Thread nD τ), sm) 0 = k') {O : CellTallies nD τ sig Unit}
    (hl : lv ((c : Thread nD τ), sm) () ≤ n) (hO : Above n O) (hk : (allKnown H : sProp 𝕄) ⊢ known H ((c : Thread nD τ), sm))
    {k : PUnit → Pgm F} {Q : PUnit → sProp 𝕄} :
    iprop(Owes H c O ∗ cred (tallyAt ((c : Thread nD τ), sm) () k') ∗ fresh ((c : Thread nD τ), sm))
      ⊢ iprop((Owes H c O ∗ done ((c : Thread nD τ), sm)
            ∗ bigSep ((Rd (F := F) H).duties ((c : Thread nD τ), sm) 0) (fun d => (Rd (F := F) H).payload ((c : Thread nD τ), sm) 0 d)
          -∗ Wp c (k ⟨⟩) Q) -∗ Wp c (.op w k) Q) := by
  unfold Owes fresh done
  iintro ⟨⟨#HK, #Hl, ⟨%W, HO⟩⟩, Hc, Hat⟩ Hk
  ihave #Hg := hk $$ HK
  unfold known
  icases Hg with ⟨⟨%κ, #Hi⟩, -⟩
  iapply (Rounds.wp_wait_rest_token 𝒱₀ ER (Rd H) (c : Thread nD τ) none (κ := κ) hw (Set.mem_univ _) () (O := O) (W := W)
    (R := 0) (m := 0) (T := ∅) (by rw [Nat.zero_add, he])) $$ [Hc HO Hat]
  · isplitr; · iexact Hi
    isplitl [Hc]; · iexact Hc
    isplitl [HO]; · iexact HO
    isplitr; · iapply (mayWait (F := F) c sm hl hO); iexact Hl
    iexact Hat
  iintro ⟨HO, Hat, -, Hp⟩
  imod (Rounds.cell_close ER (Rd H) (Set.mem_univ κ) (fun h => h) (R := 0 + 1) (duties_later H ((c : Thread nD τ), sm))) $$ [Hat] with Hz
  · isplitr; · iexact Hi
    iexact Hat
  iapply Hk
  isplitl [HO]
  · isplitr; · iexact HK
    isplitr; · iexact Hl
    iexists _; iexact HO
  isplitl [Hz]; · iexact Hz
  iapply (Entails.of_eq (by rw [Finset.sdiff_empty])) $$ Hp

/-- The same at a cell with one payer. -/
theorem wp_wait_one (c : Dev nD) {sm : SemLoc sig} {k' n : ℕ} {w : TpuEff nD τ sig (Elt F) Λ₀ .tc PUnit}
    (hw : ∀ K : PUnit → sProp 𝕄, wpE (defs₀ (F := F)) 𝒱₀ (c : Thread nD τ) none Set.univ w K = waitSpec (c : Thread nD τ) Set.univ sm k' K)
    (he : (Rd (F := F) H).expect ((c : Thread nD τ), sm) 0 = k') {O : CellTallies nD τ sig Unit}
    (hl : lv ((c : Thread nD τ), sm) () ≤ n) (hO : Above n O) (hk : (allKnown H : sProp 𝕄) ⊢ known H ((c : Thread nD τ), sm))
    {d : Dev nD} (hd : (Rd (F := F) H).duties ((c : Thread nD τ), sm) 0 = {d})
    {P : sProp 𝕄} (hP : (Rd (F := F) H).payload ((c : Thread nD τ), sm) 0 d = P)
    {k : PUnit → Pgm F} {Q : PUnit → sProp 𝕄} :
    iprop(Owes H c O ∗ cred (tallyAt ((c : Thread nD τ), sm) () k') ∗ fresh ((c : Thread nD τ), sm))
      ⊢ iprop((Owes H c O ∗ done ((c : Thread nD τ), sm) ∗ P -∗ Wp c (k ⟨⟩) Q) -∗ Wp c (.op w k) Q) := by
  have := wp_wait_cell (F := F) H c (k := k) (Q := Q) hw he hl hO hk
  rw [hd, bigSep_singleton, hP] at this
  exact this

/-! ## The barrier -/

/-- Before its signal to hop `r`: the right to pay it, and the landing block it hands over. -/
def sigPre (c : Dev nD) (r : Fin 31) : sProp 𝕄 := iprop(dutyTok ER (barC (devOf c r)) 0 c ∗ barPay (devOf c r) c)

theorem wp_sig (c : Dev nD) (r : Fin 31) (l : List (Fin 31)) (k : Pgm F) (Q : PUnit → sProp 𝕄) :
    iprop(sigPre c r ∗ Owes H c (due (dueBar c) (r :: l) + owed₁ c))
      ⊢ iprop((emp ∗ Owes H c (due (dueBar c) l + owed₁ c) -∗ Wp c k Q) -∗ Wp c (sigStep c r k) Q) := by
  unfold sigStep sigPre Owes
  iintro ⟨⟨Ht, Hp⟩, ⟨#HK, #Hl, ⟨%W, HO⟩⟩⟩ Hk
  ihave #Hg := (known_bar H (devOf c r)) $$ HK
  unfold known
  icases Hg with ⟨⟨%κ, #Hi⟩, #Hr⟩
  iapply (Rounds.wp_signal 𝒱₀ ER (Rd H) (c : Thread nD τ) none (dst := (devOf c r : Thread nD τ)) (κ := κ) (d := c)
      (by rw [duties_bar]; exact Finset.mem_erase.mpr ⟨(devOf_ne c r).symm, Finset.mem_univ _⟩)
      ((amount_bar H (devOf c r) c).trans (by decide)) () (due (dueBar c) l + owed₁ c) (due_cons (dueBar c) r l (owed₁ c))) $$ [Ht Hp HO]
  · isplitr; · iexact Hi
    isplitl [HO]; · iexact HO
    isplitl [Ht]; · iexact Ht
    isplitl [Hp]; · iapply (Entails.of_eq (payload_bar H (devOf c r) c).symm) $$ Hp
    iexact Hr
  iintro HO
  iapply Hk
  isplitr; · iempintro
  isplitr; · iexact HK
  isplitr; · iexact Hl
  iexists _; iexact HO

/-! ## The partial products -/

theorem acc_mine (c p : Dev nD) (q : PosShare TreeShare) (f : Sq F) :
    (accPts c p q f : sProp 𝕄) = ((mineView p accM).view.loc (c : Thread nD τ) ↦[(mineView p accM).view.set]{q} f) := by
  unfold accPts; rw [mine_set_acc]
theorem slot_mine (c p : Dev nD) (f : Sq F) :
    (slotPts c p f : sProp 𝕄) = ((mineView p slotM).view.loc (c : Thread nD τ) ↦[(mineView p slotM).view.set]{fullShare} f) := by
  unfold slotPts; rw [mine_set_slot]
theorem acc_hop (c p : Dev nD) (r : Fin 31) (q : PosShare TreeShare) (f : Sq F) :
    (accPts p (devOf c r) q f : sProp 𝕄) = ((hopView c accM r).view.loc (p : Thread nD τ) ↦[(hopView c accM r).view.set]{q} f) := by
  unfold accPts; rw [hop_set_acc]

theorem accPts_congr {c p : Dev nD} {q : PosShare TreeShare} {f g : Sq F} (h : ∀ i ∈ blk p, f i = g i) :
    (accPts c p q f : sProp 𝕄) = accPts c p q g := pointsTo_congr h
theorem slotPts_congr {c p : Dev nD} {f g : Sq F} (h : ∀ i ∈ blk p, f i = g i) :
    (slotPts c p f : sProp 𝕄) = slotPts c p g := pointsTo_congr h

/-- Before its send to hop `r`: the rights to pay both ends, the block to send and the landing block there. -/
def rsPre (c : Dev nD) (r : Fin 31) : sProp 𝕄 :=
  iprop((dutyTok ER (xC c 0 (dist r)) 0 c ∗ dutyTok ER (xC (devOf c r) 1 c) 0 c)
    ∗ accPts c (devOf c r) fullShare (H.part c) ∗ barPay c (devOf c r))

theorem rs_pay₂ (c : Dev nD) (r : Fin 31) (fd : Sq F) :
    iprop(((mineView c slotM).view.loc (devOf c r : Thread nD τ) ↦[(mineView c slotM).view.set]{fullShare}
        ((mineView c slotM).view.write (Elt F) fd ((hopView c accM r).view.read (Elt F) (H.part c)) Finset.univ))
      ∗ ((hopView c accM r).view.loc (c : Thread nD τ) ↦[(hopView c accM r).view.set]{fullShare} H.part c))
    ⊢ (Rd (F := F) H).payload (xC (devOf c r) 1 c) 0 c := by
  rw [payload_rsRecv, ← slot_mine, ← acc_hop]
  refine Entails.of_eq (congrArg (fun X => iprop(X ∗ accPts c (devOf c r) fullShare (H.part c))) (slotPts_congr fun i hi => ?_))
  rw [copied_slot c r fd (H.part c) hi]
  unfold slotC; rw [owner_of_mem hi]

/-- A transfer to device `p` whose arrival hands over the source as well as the landing block. -/
theorem wp_send_moved (c p : Dev nD) (src dst : Memref sig .tc .vmem S16x512 .f32) {a b : Fin 4} {i j : Fin 32}
    {O₀ O : CellTallies nD τ sig Unit} (hO : O₀ = O + tallyAt (xC p b j) () N16)
    {hsc : dst.view.ref.isScScratch = false} {hsrc : src.view.WordExact} {hdst : dst.view.WordExact}
    {hsem : DmaTarget.Typed .vmem (.dma (xSem b j)) (.remote (Dev.tc p : Thread nD τ) dst (.dma (xSem a i)) hsc)}
    (fs : Buf (Elt F) (src.view.loc (c : Thread nD τ))) (fd : Buf (Elt F) (dst.view.loc (p : Thread nD τ)))
    (hd₁ : (Rd (F := F) H).duties (xC c a i) 0 = {c}) (hd₂ : (Rd (F := F) H).duties (xC p b j) 0 = {c})
    (hN : dst.view.amount (.dma (xSem b j)) = N16)
    (hpay₁ : (emp : sProp 𝕄) ⊢ (Rd (F := F) H).payload (xC c a i) 0 c)
    (hpay₂ : iprop((dst.view.loc (p : Thread nD τ) ↦[dst.view.set]{fullShare} (dst.view.write (Elt F) fd (src.view.read (Elt F) fs) Finset.univ))
        ∗ (src.view.loc (c : Thread nD τ) ↦[src.view.set]{fullShare} fs))
      ⊢ (Rd (F := F) H).payload (xC p b j) 0 c)
    (k : Pgm F) (Q : PUnit → sProp 𝕄) :
    iprop(((dutyTok ER (xC c a i) 0 c ∗ dutyTok ER (xC p b j) 0 c)
        ∗ (src.view.loc (c : Thread nD τ) ↦[src.view.set]{fullShare} fs)
        ∗ (dst.view.loc (p : Thread nD τ) ↦[dst.view.set]{fullShare} fd)) ∗ Owes H c O₀)
      ⊢ iprop((cred (tallyAt (xC c a i) () N16) ∗ Owes H c O -∗ Wp c k Q)
        -∗ Wp c (.op (.enqueueDma src (.remote (Dev.tc p : Thread nD τ) dst (.dma (xSem a i)) hsc) (.dma (xSem b j)) hsrc hdst hsem) fun _ => k) Q) := by
  unfold Owes
  iintro ⟨⟨⟨Ht, Ht'⟩, Ha, Hs⟩, ⟨#HK, #Hl, ⟨%W, HO⟩⟩⟩ Hk
  ihave #Hg := (known_x H c a i) $$ HK
  ihave #Hg' := (known_x H p b j) $$ HK
  unfold known
  icases Hg with ⟨⟨%κ₁, #Hi⟩, #Hr⟩
  icases Hg' with ⟨⟨%κ₂, #Hi'⟩, #Hr'⟩
  iapply (Rounds.wp_send_landing_pointsTo 𝒱₀ ER (Rd H) (c : Thread nD τ) none (Γ := []) (defs := defs₀ (F := F)) (k := fun _ => k) (Q := Q)
    (Es := Set.univ) (hsc := hsc) (hsrc := hsrc) (hdst := hdst) (hsem := hsem) (κ₁ := κ₁) (κ₂ := κ₂) (r₁ := 0) (r₂ := 0) (d₁ := c) (d₂ := c) (fd := fd)
    (by rw [hd₁]; exact Finset.mem_singleton_self _) (by rw [hd₂]; exact Finset.mem_singleton_self _)
    () () N16 hN (amount_x H c a i c) (amount_x H p b j c) O hO (W := W) hpay₁ hpay₂) $$ [Ht Ht' Ha Hs HO]
  · isplitr; · iexact Hi
    isplitr; · iexact Hi'
    isplitl [Ha]; · iexact Ha
    isplitl [Hs]; · iexact Hs
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  isplitr; · iexact HK
  isplitr; · iexact Hl
  iexists _; iexact HO

/-- A transfer to device `p` whose departure hands the source back, and whose arrival hands over the landing block. -/
theorem wp_send_kept (c p : Dev nD) (src dst : Memref sig .tc .vmem S16x512 .f32) {a b : Fin 4} {i j : Fin 32}
    {O₀ O : CellTallies nD τ sig Unit} (hO : O₀ = O + tallyAt (xC p b j) () N16)
    {hsc : dst.view.ref.isScScratch = false} {hsrc : src.view.WordExact} {hdst : dst.view.WordExact}
    {hsem : DmaTarget.Typed .vmem (.dma (xSem b j)) (.remote (Dev.tc p : Thread nD τ) dst (.dma (xSem a i)) hsc)}
    {q : PosShare TreeShare} (fs : Buf (Elt F) (src.view.loc (c : Thread nD τ))) (fd : Buf (Elt F) (dst.view.loc (p : Thread nD τ)))
    (hd₁ : (Rd (F := F) H).duties (xC c a i) 0 = {c}) (hd₂ : (Rd (F := F) H).duties (xC p b j) 0 = {c})
    (hN : dst.view.amount (.dma (xSem b j)) = N16)
    (hpay₁ : (src.view.loc (c : Thread nD τ) ↦[src.view.set]{q} fs) ⊢ (Rd (F := F) H).payload (xC c a i) 0 c)
    (hpay₂ : (dst.view.loc (p : Thread nD τ) ↦[dst.view.set]{fullShare} (dst.view.write (Elt F) fd (src.view.read (Elt F) fs) Finset.univ))
      ⊢ (Rd (F := F) H).payload (xC p b j) 0 c)
    (k : Pgm F) (Q : PUnit → sProp 𝕄) :
    iprop(((dutyTok ER (xC c a i) 0 c ∗ dutyTok ER (xC p b j) 0 c)
        ∗ (src.view.loc (c : Thread nD τ) ↦[src.view.set]{q} fs)
        ∗ (dst.view.loc (p : Thread nD τ) ↦[dst.view.set]{fullShare} fd)) ∗ Owes H c O₀)
      ⊢ iprop((cred (tallyAt (xC c a i) () N16) ∗ Owes H c O -∗ Wp c k Q)
        -∗ Wp c (.op (.enqueueDma src (.remote (Dev.tc p : Thread nD τ) dst (.dma (xSem a i)) hsc) (.dma (xSem b j)) hsrc hdst hsem) fun _ => k) Q) := by
  unfold Owes
  iintro ⟨⟨⟨Ht, Ht'⟩, Ha, Hs⟩, ⟨#HK, #Hl, ⟨%W, HO⟩⟩⟩ Hk
  ihave #Hg := (known_x H c a i) $$ HK
  ihave #Hg' := (known_x H p b j) $$ HK
  unfold known
  icases Hg with ⟨⟨%κ₁, #Hi⟩, #Hr⟩
  icases Hg' with ⟨⟨%κ₂, #Hi'⟩, #Hr'⟩
  iapply (Rounds.wp_send_pointsTo 𝒱₀ ER (Rd H) (c : Thread nD τ) none (Γ := []) (defs := defs₀ (F := F)) (k := fun _ => k) (Q := Q)
    (Es := Set.univ) (hsc := hsc) (hsrc := hsrc) (hdst := hdst) (hsem := hsem) (κ₁ := κ₁) (κ₂ := κ₂) (r₁ := 0) (r₂ := 0) (d₁ := c) (d₂ := c) (fd := fd)
    (by rw [hd₁]; exact Finset.mem_singleton_self _) (by rw [hd₂]; exact Finset.mem_singleton_self _)
    () () N16 hN (amount_x H c a i c) (amount_x H p b j c) O hO (W := W) hpay₁ hpay₂) $$ [Ht Ht' Ha Hs HO]
  · isplitr; · iexact Hi
    isplitr; · iexact Hi'
    isplitl [Ha]; · iexact Ha
    isplitl [Hs]; · iexact Hs
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  isplitr; · iexact HK
  isplitr; · iexact Hl
  iexists _; iexact HO

/-- The send of a partial product, at semaphores that are the send's and the arrival's. -/
theorem wp_rs_op (c : Dev nD) (r : Fin 31) (l : List (Fin 31)) (R : CellTallies nD τ sig Unit) {sS sR : DmaSem sig}
    (hS : sS = xSem 0 (dist r)) (hR : sR = xSem 1 c)
    {hsc : (mineView c slotM).view.ref.isScScratch = false}
    {hsrc : (hopView c accM r).view.WordExact} {hdst : (mineView c slotM).view.WordExact}
    {hsem : DmaTarget.Typed .vmem (.dma sR) (.remote (Dev.tc (devOf c r) : Thread nD τ) (mineView c slotM) (.dma sS) hsc)}
    (k : Pgm F) (Q : PUnit → sProp 𝕄) :
    iprop(rsPre H c r ∗ Owes H c (due (dueX 1 c) (r :: l) + R))
      ⊢ iprop((cred (tallyAt (xC c 0 (dist r)) () N16) ∗ Owes H c (due (dueX 1 c) l + R) -∗ Wp c k Q)
        -∗ Wp c (.op (.enqueueDma (hopView c accM r) (.remote (Dev.tc (devOf c r) : Thread nD τ) (mineView c slotM) (.dma sS) hsc) (.dma sR) hsrc hdst hsem) fun _ => k) Q) := by
  subst hS hR
  unfold rsPre barPay
  iintro ⟨⟨Ht, Ha, ⟨%fd, Hs⟩⟩, HO⟩
  ihave Ha := (Entails.of_eq (acc_hop c c r fullShare (H.part c))) $$ Ha
  ihave Hs := (Entails.of_eq (slot_mine (devOf c r) c fd)) $$ Hs
  iapply (wp_send_moved H c (devOf c r) (hopView c accM r) (mineView c slotM) (due_cons (dueX 1 c) r l R) (H.part c) fd
    (duties_send H c 0 rfl r) (duties_recv H (devOf c r) 1 rfl (devOf_ne c r).symm) rfl (by rw [payload_rsSend]) (rs_pay₂ H c r fd) k Q)
  isplitl [Ht Ha Hs]
  · isplitl [Ht]; · iexact Ht
    isplitl [Ha]; · iexact Ha
    iexact Hs
  iexact HO

theorem wp_rs (c : Dev nD) (r : Fin 31) (l : List (Fin 31)) (k : Pgm F) (Q : PUnit → sProp 𝕄) :
    iprop(rsPre H c r ∗ Owes H c (due (dueX 1 c) (r :: l) + owed₂ c))
      ⊢ iprop((cred (tallyAt (xC c 0 (dist r)) () N16) ∗ Owes H c (due (dueX 1 c) l + owed₂ c) -∗ Wp c k Q)
        -∗ Wp c (rsStep accM slotM cc0_scratch5 cc0_scratch6 c r k) Q) :=
  wp_rs_op H c r l (owed₂ c) (distSem5 r) (mineSem6 c) k Q

/-! ## The reduced blocks -/

/-- Before its send to hop `r`: the rights to pay both ends, a share of the reduced block and the block it lands in. -/
def agPre (c : Dev nD) (r : Fin 31) : sProp 𝕄 :=
  iprop((dutyTok ER (xC c 2 (dist r)) 0 c ∗ dutyTok ER (xC (devOf c r) 3 c) 0 c)
    ∗ accPts c c (sh (dist r)) (finC H.part) ∗ accPts (devOf c r) c fullShare (H.part (devOf c r)))

/-- The send of a reduced block, at semaphores that are the send's and the arrival's. -/
theorem wp_ag_op (c : Dev nD) (r : Fin 31) (l : List (Fin 31)) (R : CellTallies nD τ sig Unit) {sS sR : DmaSem sig}
    (hS : sS = xSem 2 (dist r)) (hR : sR = xSem 3 c)
    {hsc : (mineView c accM).view.ref.isScScratch = false}
    {hsrc : (mineView c accM).view.WordExact} {hdst : (mineView c accM).view.WordExact}
    {hsem : DmaTarget.Typed .vmem (.dma sR) (.remote (Dev.tc (devOf c r) : Thread nD τ) (mineView c accM) (.dma sS) hsc)}
    (k : Pgm F) (Q : PUnit → sProp 𝕄) :
    iprop(agPre H c r ∗ Owes H c (due (dueX 3 c) (r :: l) + R))
      ⊢ iprop((cred (tallyAt (xC c 2 (dist r)) () N16) ∗ Owes H c (due (dueX 3 c) l + R) -∗ Wp c k Q)
        -∗ Wp c (.op (.enqueueDma (mineView c accM) (.remote (Dev.tc (devOf c r) : Thread nD τ) (mineView c accM) (.dma sS) hsc) (.dma sR) hsrc hdst hsem) fun _ => k) Q) := by
  subst hS hR
  unfold agPre
  iintro ⟨⟨Ht, Ha, Hs⟩, HO⟩
  ihave Ha := (Entails.of_eq (acc_mine c c (sh (dist r)) (finC H.part))) $$ Ha
  ihave Hs := (Entails.of_eq (acc_mine (devOf c r) c fullShare (H.part (devOf c r)))) $$ Hs
  iapply (wp_send_kept H c (devOf c r) (mineView c accM) (mineView c accM) (due_cons (dueX 3 c) r l R) (finC H.part) (H.part (devOf c r))
    (duties_send H c 2 rfl r) (duties_recv H (devOf c r) 3 rfl (devOf_ne c r).symm) rfl
    (by rw [payload_agSend]; exact Entails.of_eq (acc_mine c c (sh (dist r)) (finC H.part)).symm)
    (by rw [payload_agRecv, ← acc_mine]; exact Entails.of_eq (accPts_congr fun i hi => copied_acc c _ _ hi)) k Q)
  isplitl [Ht Ha Hs]
  · isplitl [Ht]; · iexact Ht
    isplitl [Ha]; · iexact Ha
    iexact Hs
  iexact HO

theorem wp_ag (c : Dev nD) (r : Fin 31) (l : List (Fin 31)) (k : Pgm F) (Q : PUnit → sProp 𝕄) :
    iprop(agPre H c r ∗ Owes H c (due (dueX 3 c) (r :: l) + 0))
      ⊢ iprop((cred (tallyAt (xC c 2 (dist r)) () N16) ∗ Owes H c (due (dueX 3 c) l + 0) -∗ Wp c k Q)
        -∗ Wp c (agStep accM cc0_scratch7 cc0_scratch8 c r k) Q) :=
  wp_ag_op H c r l 0 (distSem7 r) (mineSem8 c) k Q

/-! ## The waits -/

/-- Before a wait at one of its cells: the cell, and the credit for its bytes. -/
def waitPre (c : Dev nD) (a : Fin 4) (i : Fin 32) : sProp 𝕄 := iprop(cred (tallyAt (xC c a i) () N16) ∗ fresh (xC c a i))

/-- A wait for an arrival or a departure. -/
theorem wp_wait_x (c : Dev nD) (a : Fin 4) (i : Fin 32) {sm : DmaSem sig} (hs : sm = xSem a i) (src dst : Memref sig .tc .vmem S16x512 .f32)
    (hN : dst.view.dmaCredit = N16) {hsrc : src.view.WordExact} {hdst : dst.view.WordExact}
    {n : ℕ} {O : CellTallies nD τ sig Unit} (hl : lv (xC c a i) () ≤ n) (hO : Above n O)
    {d : Dev nD} (hd : (Rd (F := F) H).duties (xC c a i) 0 = {d})
    {P : sProp 𝕄} (hP : (Rd (F := F) H).payload (xC c a i) 0 d = P) (k : PUnit → Pgm F) (Q : PUnit → sProp 𝕄) :
    iprop(waitPre (F := F) c a i ∗ Owes H c O)
      ⊢ iprop((Owes H c O ∗ done (xC c a i) ∗ P -∗ Wp c (k ⟨⟩) Q) -∗ Wp c (.op (.waitDma2 sm src dst hsrc hdst) k) Q) := by
  subst hs
  unfold waitPre
  iintro ⟨⟨Hc, Hf⟩, HO⟩
  iapply (wp_wait_one H c (w := .waitDma2 (xSem a i) src dst hsrc hdst) (k' := N16) (fun K => by rw [← hN]; rfl)
    (by unfold Schedule.expect Schedule.amountOf; rw [hd, Finset.sum_singleton, amount_x]) hl hO (known_x H c a i) hd hP)
  isplitl [HO]; · iexact HO
  isplitl [Hc]; · iexact Hc
  iexact Hf

/-- The elements a load of a device's sixteen rows reads, of the accumulator and of the landing buffer. -/
theorem acc_rows (p : Dev nD) {off : Fin 2 → ℕ} (h : off = ![16 * p.val, 0]) (inb : ∀ a, off a + S16x512.size a ≤ S512x512.size a) :
    accM.view.setOn (Rect.unit (s := S512x512) off S16x512.size inb).set = blk p := by
  rw [← rect_set p h inb]
  exact (View.set_slice _ _).symm.trans (View.set_slice_whole cc0_scratch0 (Rect.unit (s := S512x512) off S16x512.size inb))
theorem slot_rows (p : Dev nD) {off : Fin 2 → ℕ} (h : off = ![16 * p.val, 0]) (inb : ∀ a, off a + S16x512.size a ≤ S512x512.size a) :
    slotM.view.setOn (Rect.unit (s := S512x512) off S16x512.size inb).set = blk p := by
  rw [← rect_set p h inb]
  exact (View.set_slice _ _).symm.trans (View.set_slice_whole cc0_scratch1 (Rect.unit (s := S512x512) off S16x512.size inb))

/-- After the wait for hop `r`'s partial product: the landed block, and the block its reduced rows go to. -/
def redPost (c : Dev nD) (r : Fin 31) : sProp 𝕄 :=
  iprop(done (xC c 1 (devOf c r)) ∗ slotPts c (devOf c r) (slotC H.part c) ∗ accPts (devOf c r) c fullShare (H.part (devOf c r)))

theorem wp_red (c : Dev nD) (r : Fin 31) (acc : FVec F S16x512 .f32) (k : FVec F S16x512 .f32 → Pgm F) (Q : PUnit → sProp 𝕄) :
    iprop(waitPre (F := F) c 1 (devOf c r) ∗ Owes H c (owed₂ c))
      ⊢ iprop((redPost H c r ∗ Owes H c (owed₂ c) -∗ Wp c (k (addf acc (blockOf c (H.part (devOf c r))))) Q)
        -∗ Wp c (redStep slotM cc0_scratch6 c r k acc) Q) := by
  unfold redStep redPost
  iintro H1 Hk
  iapply (wp_wait_x H c 1 (devOf c r) (hopSem6 c r) (hopView c slotM r) (hopView c slotM r) rfl (n := 2) (O := owed₂ c) (by rw [lv_x]; decide) (above_ag c hops)
    (duties_recv H c 1 rfl (devOf_ne c r)) (payload_rsRecv H c (devOf c r) (devOf c r))) $$ H1
  iintro ⟨HO, Hd, Hs, Ha⟩
  unfold slotPts
  iapply (wp_load 𝒱₀ (c : Thread nD τ) none Set.univ (m := slotM) (S := blk (devOf c r)) (q := fullShare) (f := slotC H.part c)
    (slot_rows _ (off7_eq c r) _).le) $$ Hs
  iintro Hs
  rw [read_slot (devOf c r) (off7_eq c r), blockOf_slotC]
  iapply Hk
  isplitr [HO]
  · isplitl [Hd]; · iexact Hd
    isplitl [Hs]; · iexact Hs
    iexact Ha
  iexact HO

/-- After the wait for hop `r`'s reduced block: that block. -/
def agPost (c : Dev nD) (r : Fin 31) : sProp 𝕄 := iprop(done (xC c 3 (devOf c r)) ∗ accPts c (devOf c r) fullShare (finC H.part))

theorem wp_agWait (c : Dev nD) (r : Fin 31) (k : Pgm F) (Q : PUnit → sProp 𝕄) :
    iprop(waitPre (F := F) c 3 (devOf c r) ∗ Owes H c 0)
      ⊢ iprop((agPost H c r ∗ Owes H c 0 -∗ Wp c k Q) -∗ Wp c (agWaitStep accM cc0_scratch8 c r k) Q) := by
  unfold agWaitStep agPost
  iintro H1 Hk
  iapply (wp_wait_x H c 3 (devOf c r) (hopSem8 c r) (hopView c accM r) (hopView c accM r) rfl (n := 3) (by rw [lv_x]; decide) (above_zero 3)
    (duties_recv H c 3 rfl (devOf_ne c r)) (payload_agRecv H c (devOf c r) (devOf c r))) $$ H1
  iintro ⟨HO, Hd, Ha⟩
  iapply Hk
  isplitr [HO]
  · isplitl [Hd]; · iexact Hd
    iexact Ha
  iexact HO

/-- After the waits for both departures to hop `r`: the share of the reduced block is back. -/
def donePost (c : Dev nD) (r : Fin 31) : sProp 𝕄 :=
  iprop((done (xC c 0 (dist r)) ∗ done (xC c 2 (dist r))) ∗ accPts c c (sh (dist r)) (finC H.part))

theorem wp_done (c : Dev nD) (r : Fin 31) (k : Pgm F) (Q : PUnit → sProp 𝕄) :
    iprop((waitPre (F := F) c 0 (dist r) ∗ waitPre (F := F) c 2 (dist r)) ∗ Owes H c 0)
      ⊢ iprop((donePost H c r ∗ Owes H c 0 -∗ Wp c k Q) -∗ Wp c (doneStep accM slotM cc0_scratch5 cc0_scratch7 c r k) Q) := by
  unfold doneStep donePost
  iintro ⟨⟨H1, H2⟩, HO⟩ Hk
  iapply (wp_wait_x H c 0 (dist r) (distSem5 r) (mineView c slotM) (hopView c accM r) rfl (n := 0) (by rw [lv_x]; decide) (above_zero 0)
    (duties_send H c 0 rfl r) (payload_rsSend H c (dist r) c)) $$ [H1 HO]
  · isplitl [H1] <;> iassumption
  iintro ⟨HO, Hd, -⟩
  iapply (wp_wait_x H c 2 (dist r) (distSem7 r) (mineView c accM) (mineView c accM) rfl (n := 0) (by rw [lv_x]; decide) (above_zero 0)
    (duties_send H c 2 rfl r) (payload_agSend H c (dist r) c)) $$ [H2 HO]
  · isplitl [H2] <;> iassumption
  iintro ⟨HO, Hd', Ha⟩
  iapply Hk
  isplitr [HO]
  · isplitr [Ha]
    · isplitl [Hd] <;> iassumption
    iexact Ha
  iexact HO

/-! ## A loop from its step -/

/-- A loop whose steps each take a hop's `pre` to its `post`, threading a state that lists the hops to come. -/
theorem wp_loop (c : Dev nD) {step : Fin 31 → Pgm F → Pgm F} {pre post : Fin 31 → sProp 𝕄} {S : List (Fin 31) → sProp 𝕄}
    (hstep : ∀ r l k Q, iprop(pre r ∗ S (r :: l)) ⊢ iprop((post r ∗ S l -∗ Wp c k Q) -∗ Wp c (step r k) Q))
    (k : Pgm F) (Q : PUnit → sProp 𝕄) : ∀ l : List (Fin 31),
    iprop(bigSepL l pre ∗ S l) ⊢ iprop((bigSepL l post ∗ S [] -∗ Wp c k Q) -∗ Wp c (l.foldr step k) Q)
  | [] => by
    iintro ⟨Hp, HS⟩ Hk
    iapply Hk
    isplitl [Hp]; · iexact Hp
    iexact HS
  | r :: l => by
    rw [bigSepL_cons', bigSepL_cons', List.foldr_cons]
    iintro ⟨⟨Hr, Hp⟩, HS⟩ Hk
    iapply (hstep r l (l.foldr step k) Q) $$ [Hr HS]
    · isplitl [Hr] <;> iassumption
    iintro ⟨Hr, HS⟩
    iapply (wp_loop c hstep k Q l) $$ [Hp HS]
    · isplitl [Hp] <;> iassumption
    iintro ⟨Hp, HS⟩
    iapply Hk
    isplitr [HS]
    · isplitl [Hr] <;> iassumption
    iexact HS

/-- The reduction's loop: the state is fixed, and the accumulated block is handed from step to step. -/
theorem wp_redLoop (c : Dev nD) (k : FVec F S16x512 .f32 → Pgm F) (Q : PUnit → sProp 𝕄) : ∀ (l : List (Fin 31)) (acc : FVec F S16x512 .f32),
    iprop(bigSepL l (fun r => waitPre (F := F) c 1 (devOf c r)) ∗ Owes H c (owed₂ c))
      ⊢ iprop((bigSepL l (redPost H c) ∗ Owes H c (owed₂ c) -∗ Wp c (k (l.foldl (fun acc r => addf acc (blockOf c (H.part (devOf c r)))) acc)) Q)
        -∗ Wp c (l.foldr (redStep slotM cc0_scratch6 c) k acc) Q)
  | [], acc => by
    iintro ⟨Hp, HS⟩ Hk
    iapply Hk
    isplitl [Hp]; · iexact Hp
    iexact HS
  | r :: l, acc => by
    rw [bigSepL_cons', bigSepL_cons', List.foldr_cons, List.foldl_cons]
    iintro ⟨⟨Hr, Hp⟩, HS⟩ Hk
    iapply (wp_red H c r acc (l.foldr (redStep slotM cc0_scratch6 c) k) Q) $$ [Hr HS]
    · isplitl [Hr] <;> iassumption
    iintro ⟨Hr, HS⟩
    iapply (wp_redLoop c k Q l _) $$ [Hp HS]
    · isplitl [Hp] <;> iassumption
    iintro ⟨Hp, HS⟩
    iapply Hk
    isplitr [HS]
    · isplitl [Hr] <;> iassumption
    iexact HS

end Cert.Proof

end
-- ==== Proof.Phases.lean ====
/- The phases of a device's body.

   Between the loops: the barrier, the attention of the device's own heads, the reduction of its own block, and the copy
   of the gathered result to the output. For each phase: what the device holds before it and after it. -/
module

public import proofs.«01_k».proof.Proof.Steps
public import Idealize.ShloMosaic.Lib.Ring
public import Idealize.ShloMosaic.Lib.Pipeline.Value

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The scratch buffers, block by block -/

/-- A device's whole accumulator, at share `q`. -/
def accAll (c : Dev nD) (q : PosShare TreeShare) (f : Sq F) : sProp 𝕄 := (c : Thread nD τ).loc cc0_scratch0 ↦{q} f
/-- Its whole landing buffer. -/
def slotAll (c : Dev nD) (f : Sq F) : sProp 𝕄 := (c : Thread nD τ).loc cc0_scratch1 ↦{fullShare} f

theorem blk_cover : Finset.univ.biUnion blk = Finset.univ :=
  Finset.eq_univ_iff_forall.mpr fun i => by
    obtain ⟨p, h⟩ := exists_blk i
    exact Finset.mem_biUnion.mpr ⟨p, Finset.mem_univ _, h⟩

omit [FloatOps F] in
/-- The accumulator is the device's own block and its hops'. -/
theorem accAll_eq (c : Dev nD) (q : PosShare TreeShare) (f : Sq F) :
    (accAll c q f : sProp 𝕄) = iprop(accPts c c q f ∗ bigSepL hops fun r => accPts c (devOf c r) q f) := by
  rw [← bigSep_dev c fun p => accPts c p q f]
  exact Ring.pointsTo_blocks (ℓ := (c : Thread nD τ).loc cc0_scratch0) blk blk_disjoint blk_cover f
omit [FloatOps F] in
/-- So is the landing buffer. -/
theorem slotAll_eq (c : Dev nD) (f : Sq F) :
    (slotAll c f : sProp 𝕄) = iprop(slotPts c c f ∗ bigSepL hops fun r => slotPts c (devOf c r) f) := by
  rw [← bigSep_dev c fun p => slotPts c p f]
  exact Ring.pointsTo_blocks (ℓ := (c : Thread nD τ).loc cc0_scratch1) blk blk_disjoint blk_cover f
omit [FloatOps F] in
/-- A block held whole is held in 32 shares: the first, and one for each hop. -/
theorem accPts_shares (c p : Dev nD) (f : Sq F) :
    (accPts c p fullShare f : sProp 𝕄) = iprop(accPts c p (sh 0) f ∗ bigSepL hops fun r => accPts c p (sh (dist r)) f) := by
  rw [← bigSep_dist fun i => accPts c p (sh i) f]
  exact ShareLeaves.pointsTo_leaves (ℓ := (c : Thread nD τ).loc cc0_scratch0) (blk p) f 5 fullShare

variable (H : Held F)

/-! ## The barrier -/

theorem wp_barrier (c : Dev nD) (k : Pgm F) (Q : PUnit → sProp 𝕄) :
    iprop(Owes H c (owed₀ c) ∗ bigSepL hops (sigPre c) ∗ cred (tallyAt (barC c) () 31) ∗ fresh (barC c))
      ⊢ iprop((Owes H c (owed₁ c) ∗ done (barC c) ∗ bigSepL hops (fun r => barPay (F := F) c (devOf c r)) -∗ Wp c k Q)
        -∗ Wp c (barrierPart c k) Q) := by
  unfold barrierPart owed₀
  iintro ⟨HO, Hp, Hc, Hf⟩ Hk
  iapply (wp_loop (F := F) c (step := sigStep c) (pre := sigPre c) (post := fun _ => iprop(emp)) (S := fun l => Owes H c (due (dueBar c) l + owed₁ c))
    (wp_sig H c) (.op (.semWait barSem 31) fun _ => k) Q hops) $$ [HO Hp]
  · isplitl [Hp] <;> iassumption
  rw [due_nil, zero_add]
  iintro ⟨-, HO⟩
  iapply (wp_wait_cell H c (w := .semWait barSem 31) (k' := 31) (fun K => wpE_semWait_eq 𝒱₀ (c : Thread nD τ) none Set.univ K) (expect_bar H c)
    (n := 1) (by rw [lv_bar]) (above_owed₁ c) (known_bar H c) (k := fun _ => k)) $$ [HO Hc Hf]
  · isplitl [HO]; · iexact HO
    isplitl [Hc]; · iexact Hc
    iexact Hf
  iintro ⟨HO, Hd, Hp⟩
  iapply Hk
  isplitl [HO]; · iexact HO
  isplitl [Hd]; · iexact Hd
  iapply (Entails.of_eq (by
    rw [duties_bar, bigSep_erase_hops (devOf_inj c) (devOf_ne c)]; rfl)) $$ Hp

/-! ## The attention of the device's own heads -/

/-- The value of a (batch, head) block of the copied keys, and of the copied values. -/
abbrev kHead (f : (cc0_scratch2 : Ref sig .tc).ty.Contents (Elt F)) (o : Fin 4 → Nat)
    (h : ∀ a, o a + S1x256x1x64.size a ≤ S2x256x4x64.size a) : Vec F S1x256x1x64 .f32 :=
  kM.view.readAt (Elt F) (Rect.unit (s := S2x256x4x64) o S1x256x1x64.size h).toLoadRect f
abbrev vHead (f : (cc0_scratch3 : Ref sig .tc).ty.Contents (Elt F)) (o : Fin 4 → Nat)
    (h : ∀ a, o a + S1x256x1x64.size a ≤ S2x256x4x64.size a) : Vec F S1x256x1x64 .f32 :=
  vM.view.readAt (Elt F) (Rect.unit (s := S2x256x4x64) o S1x256x1x64.size h).toLoadRect f

/-- The device's partial product, from its input, its weights, its keys and its values. -/
def partD (x : Vec F S2x256x512 .f32) (wq : Vec F S512x256 .f32) (ks : (cc0_scratch2 : Ref sig .tc).ty.Contents (Elt F))
    (vs : (cc0_scratch3 : Ref sig .tc).ty.Contents (Elt F)) (wo : Vec F S256x512 .f32) : Sq F :=
  partOf x wq
    (kHead ks ![0, 0, 0, 0] inb_S2x256x4x64_S1x256x1x64_0_0_0_0) (vHead vs ![0, 0, 0, 0] inb_S2x256x4x64_S1x256x1x64_0_0_0_0)
    (kHead ks ![0, 0, 1, 0] inb_S2x256x4x64_S1x256x1x64_0_0_1_0) (vHead vs ![0, 0, 1, 0] inb_S2x256x4x64_S1x256x1x64_0_0_1_0)
    (kHead ks ![0, 0, 2, 0] inb_S2x256x4x64_S1x256x1x64_0_0_2_0) (vHead vs ![0, 0, 2, 0] inb_S2x256x4x64_S1x256x1x64_0_0_2_0)
    (kHead ks ![0, 0, 3, 0] inb_S2x256x4x64_S1x256x1x64_0_0_3_0) (vHead vs ![0, 0, 3, 0] inb_S2x256x4x64_S1x256x1x64_0_0_3_0)
    (kHead ks ![1, 0, 0, 0] inb_S2x256x4x64_S1x256x1x64_1_0_0_0) (vHead vs ![1, 0, 0, 0] inb_S2x256x4x64_S1x256x1x64_1_0_0_0)
    (kHead ks ![1, 0, 1, 0] inb_S2x256x4x64_S1x256x1x64_1_0_1_0) (vHead vs ![1, 0, 1, 0] inb_S2x256x4x64_S1x256x1x64_1_0_1_0)
    (kHead ks ![1, 0, 2, 0] inb_S2x256x4x64_S1x256x1x64_1_0_2_0) (vHead vs ![1, 0, 2, 0] inb_S2x256x4x64_S1x256x1x64_1_0_2_0)
    (kHead ks ![1, 0, 3, 0] inb_S2x256x4x64_S1x256x1x64_1_0_3_0) (vHead vs ![1, 0, 3, 0] inb_S2x256x4x64_S1x256x1x64_1_0_3_0)
    wo

theorem lv_kv (c : Dev nD) (j : Fin 2) : lv (kvC c j) () ≤ 1 := by
  show (if 4 + j.val < 6 then 0 else _) ≤ 1
  rw [if_pos (by have := j.isLt; omega)]; decide

/-- A local copy of heads, on its own semaphore. -/
theorem wp_copy_kv (c : Dev nD) (j : Fin 2) {sm : DmaSem sig} (hs : sm = kvSem j)
    (src : Memref sig .tc .hbm S2x256x4x64 .f32) (dst : Memref sig .tc .vmem S2x256x4x64 .f32)
    {hsrc : src.view.WordExact} {hdst : dst.view.WordExact} {hsem : DmaTarget.Typed .hbm (.dma sm) (DmaTarget.here (nD := nD) (τ := τ) (p := .tc) dst)}
    (fs : Buf (Elt F) (src.view.loc (c : Thread nD τ))) (fd : Buf (Elt F) (dst.view.loc (c : Thread nD τ)))
    (hN : dst.view.amount (.dma (kvSem j)) = NKV) (O : CellTallies nD τ sig Unit)
    (hpay : iprop((dst.view.loc (c : Thread nD τ) ↦[dst.view.set]{fullShare} (dst.view.write (Elt F) fd (src.view.read (Elt F) fs) Finset.univ))
        ∗ (src.view.loc (c : Thread nD τ) ↦[src.view.set]{fullShare} fs)) ⊢ (Rd (F := F) H).payload (kvC c j) 0 c)
    (k : Pgm F) (Q : PUnit → sProp 𝕄) :
    iprop(Owes H c O ∗ dutyTok ER (kvC c j) 0 c ∗ (src.view.loc (c : Thread nD τ) ↦[src.view.set]{fullShare} fs)
        ∗ (dst.view.loc (c : Thread nD τ) ↦[dst.view.set]{fullShare} fd))
      ⊢ iprop((Owes H c O ∗ cred (tallyAt (kvC c j) () NKV) -∗ Wp c k Q)
        -∗ Wp c (.op (.enqueueDma src (.here dst) (.dma sm) hsrc hdst hsem) fun _ => k) Q) := by
  subst hs
  unfold Owes
  iintro ⟨⟨#HK, #Hl, HO⟩, Ht, Hs, Hd⟩ Hk
  ihave #Hg := (known_kv H c j) $$ HK
  unfold known
  icases Hg with ⟨⟨%κ, #Hi⟩, #Hr⟩
  iapply (Rounds.wp_copy_pointsTo 𝒱₀ ER (Rd H) (c : Thread nD τ) none (Γ := []) (defs := defs₀ (F := F)) (k := fun _ => k) (Q := Q)
    (Es := Set.univ) (hsrc := hsrc) (hdst := hdst) (hsem := hsem) (κ := κ) (r := 0) (d := c) (fd := fd)
    (by rw [duties_kv]; exact Finset.mem_singleton_self _) () NKV hN (amount_kv H c j c) hpay) $$ [Ht Hs Hd]
  · isplitr; · iexact Hi
    isplitl [Hs]; · iexact Hs
    isplitl [Hd]; · iexact Hd
    isplitl [Ht]; · iexact Ht
    iexact Hr
  iintro Hc
  iapply Hk
  isplitr [Hc]
  · isplitr; · iexact HK
    isplitr; · iexact Hl
    iexact HO
  iexact Hc

/-- The wait for a local copy. -/
theorem wp_wait_kv (c : Dev nD) (j : Fin 2) {sm : DmaSem sig} (hs : sm = kvSem j)
    (src : Memref sig .tc .hbm S2x256x4x64 .f32) (dst : Memref sig .tc .vmem S2x256x4x64 .f32)
    {hsrc : src.view.WordExact} {hdst : dst.view.WordExact} (hN : dst.view.dmaCredit = NKV)
    {P : sProp 𝕄} (hP : (Rd (F := F) H).payload (kvC c j) 0 c = P) (hl : lv (kvC c j) () ≤ 1) (k : Pgm F) (Q : PUnit → sProp 𝕄) :
    iprop(Owes H c (owed₁ c) ∗ cred (tallyAt (kvC c j) () NKV) ∗ fresh (kvC c j))
      ⊢ iprop((Owes H c (owed₁ c) ∗ done (kvC c j) ∗ P -∗ Wp c k Q) -∗ Wp c (.op (.waitDma2 sm src dst hsrc hdst) fun _ => k) Q) := by
  subst hs
  exact wp_wait_one H c (w := .waitDma2 (kvSem j) src dst hsrc hdst) (k' := NKV) (fun K => by rw [← hN]; rfl)
    (expect_kv H c j) hl (above_owed₁ c) (known_kv H c j) (duties_kv H c j) hP (k := fun _ => k)

/-- A load of one block of copied heads. -/
theorem wp_headAt (c : Dev nD) (m : Memref sig .tc .vmem S2x256x4x64 .f32) (f : Buf (Elt F) (m.view.loc (c : Thread nD τ))) (o : Fin 4 → Nat)
    (h : ∀ a, o a + S1x256x1x64.size a ≤ S2x256x4x64.size a) (k : Vec F S1x256x1x64 .f32 → Pgm F) (Q : PUnit → sProp 𝕄) :
    (m.view.loc (c : Thread nD τ) ↦{fullShare} f : sProp 𝕄)
      ⊢ iprop(((m.view.loc (c : Thread nD τ) ↦{fullShare} f)
          -∗ Wp c (k (m.view.readAt (Elt F) (Rect.unit (s := S2x256x4x64) o S1x256x1x64.size h).toLoadRect f)) Q)
        -∗ Wp c (headAt m o h k) Q) :=
  wp_load 𝒱₀ (c : Thread nD τ) none Set.univ (m := m) (Finset.subset_univ _)

/-- What a device holds of its arrays and buffers around the attention: its key and value arrays, its copies of its heads,
    its staged input and weights, and its accumulator. -/
def attnBufs (c : Dev nD) (X : (cc0_stg0_0 : Ref sig .tc).ty.Contents (Elt F)) (WQ : (cc0_stg1_0 : Ref sig .tc).ty.Contents (Elt F))
    (WO : (cc0_stg2_0 : Ref sig .tc).ty.Contents (Elt F)) (ks : (cc0_scratch2 : Ref sig .tc).ty.Contents (Elt F))
    (vs : (cc0_scratch3 : Ref sig .tc).ty.Contents (Elt F)) (f : Sq F) : sProp 𝕄 :=
  iprop(((c : Thread nD τ).loc main_arg2 ↦{fullShare} H.keys c) ∗ ((c : Thread nD τ).loc main_arg3 ↦{fullShare} H.vals c)
    ∗ ((c : Thread nD τ).loc cc0_scratch2 ↦{fullShare} ks) ∗ ((c : Thread nD τ).loc cc0_scratch3 ↦{fullShare} vs)
    ∗ ((c : Thread nD τ).loc cc0_stg0_0 ↦{fullShare} X) ∗ ((c : Thread nD τ).loc cc0_stg1_0 ↦{fullShare} WQ)
    ∗ ((c : Thread nD τ).loc cc0_stg2_0 ↦{fullShare} WO) ∗ accAll c fullShare f)

theorem zero2 : (![0, 0] : Fin 2 → Nat) = fun _ => 0 := funext fun a => by fin_cases a <;> rfl
theorem zero3 : (![0, 0, 0] : Fin 3 → Nat) = fun _ => 0 := funext fun a => by fin_cases a <;> rfl

/-- A load of a whole staged array, or of the accumulator's store of a whole product, is the contents. -/
theorem read_stg0 (f : (cc0_stg0_0 : Ref sig .tc).ty.Contents (Elt F)) :
    (Memref.whole cc0_stg0_0 : Memref sig .tc .vmem S2x256x512 .f32).view.readAt (Elt F)
      (Rect.unit (s := S2x256x512) ![0, 0, 0] S2x256x512.size inb_S2x256x512_S2x256x512_0_0_0).toLoadRect f = f :=
  Memref.readAt_unit_zero (Elt F) cc0_stg0_0 zero3 _ f
theorem read_stg1 (f : (cc0_stg1_0 : Ref sig .tc).ty.Contents (Elt F)) :
    (Memref.whole cc0_stg1_0 : Memref sig .tc .vmem S512x256 .f32).view.readAt (Elt F)
      (Rect.unit (s := S512x256) ![0, 0] S512x256.size inb_S512x256_S512x256_0_0).toLoadRect f = f :=
  Memref.readAt_unit_zero (Elt F) cc0_stg1_0 zero2 _ f
theorem read_stg2 (f : (cc0_stg2_0 : Ref sig .tc).ty.Contents (Elt F)) :
    (Memref.whole cc0_stg2_0 : Memref sig .tc .vmem S256x512 .f32).view.readAt (Elt F)
      (Rect.unit (s := S256x512) ![0, 0] S256x512.size inb_S256x512_S256x512_0_0).toLoadRect f = f :=
  Memref.readAt_unit_zero (Elt F) cc0_stg2_0 zero2 _ f
theorem write_accAll (f w : Sq F) :
    (accM.access (Rect.unit (s := S512x512) ![0, 0] S512x512.size inb_S512x512_S512x512_0_0) : View sig .tc _ _ _).write (Elt F) f w Finset.univ = w :=
  Memref.write_access_unit_zero_univ (Elt F) cc0_scratch0 zero2 _ f w

theorem k_pay (c : Dev nD) (fd : (cc0_scratch2 : Ref sig .tc).ty.Contents (Elt F)) :
    iprop((kM.view.loc (c : Thread nD τ) ↦[kM.view.set]{fullShare} (kM.view.write (Elt F) fd ((headView c keysM).view.read (Elt F) (H.keys c)) Finset.univ))
        ∗ ((headView c keysM).view.loc (c : Thread nD τ) ↦[(headView c keysM).view.set]{fullShare} H.keys c))
      ⊢ (Rd (F := F) H).payload (kvC c 0) 0 c := by
  rw [payload_k]; unfold kPay kBuf
  rw [show kM.view.set = Finset.univ from View.set_whole _]
  exact Entails.of_eq (congrArg (fun g => iprop(((c : Thread nD τ).loc cc0_scratch2 ↦{fullShare} g)
    ∗ ((headView c keysM).view.loc (c : Thread nD τ) ↦[(headView c keysM).view.set]{fullShare} H.keys c))) (View.write_whole_univ _ _ _))
theorem v_pay (c : Dev nD) (fd : (cc0_scratch3 : Ref sig .tc).ty.Contents (Elt F)) :
    iprop((vM.view.loc (c : Thread nD τ) ↦[vM.view.set]{fullShare} (vM.view.write (Elt F) fd ((headView c valsM).view.read (Elt F) (H.vals c)) Finset.univ))
        ∗ ((headView c valsM).view.loc (c : Thread nD τ) ↦[(headView c valsM).view.set]{fullShare} H.vals c))
      ⊢ (Rd (F := F) H).payload (kvC c 1) 0 c := by
  rw [payload_v]; unfold vPay vBuf
  rw [show vM.view.set = Finset.univ from View.set_whole _]
  exact Entails.of_eq (congrArg (fun g => iprop(((c : Thread nD τ).loc cc0_scratch3 ↦{fullShare} g)
    ∗ ((headView c valsM).view.loc (c : Thread nD τ) ↦[(headView c valsM).view.set]{fullShare} H.vals c))) (View.write_whole_univ _ _ _))

set_option maxHeartbeats 1600000 in
/-- The attention: both copies, their waits, the loads, and the store of the partial product. -/
theorem wp_attn (c : Dev nD) (X : (cc0_stg0_0 : Ref sig .tc).ty.Contents (Elt F)) (WQ : (cc0_stg1_0 : Ref sig .tc).ty.Contents (Elt F))
    (WO : (cc0_stg2_0 : Ref sig .tc).ty.Contents (Elt F)) (ks : (cc0_scratch2 : Ref sig .tc).ty.Contents (Elt F))
    (vs : (cc0_scratch3 : Ref sig .tc).ty.Contents (Elt F)) (f : Sq F) (k : Pgm F) (Q : PUnit → sProp 𝕄) :
    iprop(Owes H c (owed₁ c) ∗ (dutyTok ER (kvC c 0) 0 c ∗ dutyTok ER (kvC c 1) 0 c) ∗ (fresh (kvC c 0) ∗ fresh (kvC c 1))
        ∗ attnBufs H c X WQ WO ks vs f)
      ⊢ iprop((Owes H c (owed₁ c) ∗ (done (kvC c 0) ∗ done (kvC c 1))
            ∗ attnBufs H c X WQ WO (kBuf H c) (vBuf H c) (partD X WQ (kBuf H c) (vBuf H c) WO) -∗ Wp c k Q)
        -∗ Wp c (attnPart (Memref.whole cc0_stg0_0) (Memref.whole cc0_stg1_0) keysM valsM (Memref.whole cc0_stg2_0) accM
          kM (Memref.isWhole_whole _) vM (Memref.isWhole_whole _) cc0_scratch4 c k) Q) := by
  unfold attnPart attnBufs accAll
  iintro ⟨HO, ⟨Ht0, Ht1⟩, ⟨Hf0, Hf1⟩, Hk, Hv, Hks, Hvs, Hx, Hwq, Hwo, Ha⟩ HK
  ihave Hk := (pointsTo_split_subset (I := (headView c keysM).view.set) (Finset.subset_univ _)).1 $$ Hk
  icases Hk with ⟨Hk, Hkr⟩
  ihave Hv := (pointsTo_split_subset (I := (headView c valsM).view.set) (Finset.subset_univ _)).1 $$ Hv
  icases Hv with ⟨Hv, Hvr⟩
  iapply (wp_copy_kv H c 0 kSem_eq (headView c keysM) kM (H.keys c) ks rfl (owed₁ c) (k_pay H c ks)) $$ [HO Ht0 Hk Hks]
  · isplitl [HO]; · iexact HO
    isplitl [Ht0]; · iexact Ht0
    isplitl [Hk]; · iexact Hk
    rw [show kM.view.set = Finset.univ from View.set_whole _]
    iexact Hks
  iintro ⟨HO, Hc0⟩
  iapply (wp_copy_kv H c 1 vSem_eq (headView c valsM) vM (H.vals c) vs rfl (owed₁ c) (v_pay H c vs)) $$ [HO Ht1 Hv Hvs]
  · isplitl [HO]; · iexact HO
    isplitl [Ht1]; · iexact Ht1
    isplitl [Hv]; · iexact Hv
    rw [show vM.view.set = Finset.univ from View.set_whole _]
    iexact Hvs
  iintro ⟨HO, Hc1⟩
  iapply (wp_load 𝒱₀ (c : Thread nD τ) none Set.univ (m := (Memref.whole cc0_stg0_0 : Memref sig .tc .vmem S2x256x512 .f32)) (Finset.subset_univ _)) $$ Hx
  iintro Hx
  iapply (wp_load 𝒱₀ (c : Thread nD τ) none Set.univ (m := (Memref.whole cc0_stg1_0 : Memref sig .tc .vmem S512x256 .f32)) (Finset.subset_univ _)) $$ Hwq
  iintro Hwq
  rw [read_stg0, read_stg1]
  iapply (wp_wait_kv H c 0 kSem_eq (headView c keysM) kM rfl (payload_k H c c) (lv_kv c 0)) $$ [HO Hc0 Hf0]
  · isplitl [HO]; · iexact HO
    isplitl [Hc0] <;> iassumption
  iintro ⟨HO, Hd0, Hp⟩
  unfold kPay
  icases Hp with ⟨Hks, Hk⟩
  iapply (wp_wait_kv H c 1 vSem_eq (headView c valsM) vM rfl (payload_v H c c) (lv_kv c 1)) $$ [HO Hc1 Hf1]
  · isplitl [HO]; · iexact HO
    isplitl [Hc1] <;> iassumption
  iintro ⟨HO, Hd1, Hp⟩
  unfold vPay
  icases Hp with ⟨Hvs, Hv⟩
  iapply (wp_headAt c kM (kBuf H c)) $$ Hks; iintro Hks
  iapply (wp_headAt c vM (vBuf H c)) $$ Hvs; iintro Hvs
  iapply (wp_headAt c kM (kBuf H c)) $$ Hks; iintro Hks
  iapply (wp_headAt c vM (vBuf H c)) $$ Hvs; iintro Hvs
  iapply (wp_headAt c kM (kBuf H c)) $$ Hks; iintro Hks
  iapply (wp_headAt c vM (vBuf H c)) $$ Hvs; iintro Hvs
  iapply (wp_headAt c kM (kBuf H c)) $$ Hks; iintro Hks
  iapply (wp_headAt c vM (vBuf H c)) $$ Hvs; iintro Hvs
  iapply (wp_headAt c kM (kBuf H c)) $$ Hks; iintro Hks
  iapply (wp_headAt c vM (vBuf H c)) $$ Hvs; iintro Hvs
  iapply (wp_headAt c kM (kBuf H c)) $$ Hks; iintro Hks
  iapply (wp_headAt c vM (vBuf H c)) $$ Hvs; iintro Hvs
  iapply (wp_headAt c kM (kBuf H c)) $$ Hks; iintro Hks
  iapply (wp_headAt c vM (vBuf H c)) $$ Hvs; iintro Hvs
  iapply (wp_headAt c kM (kBuf H c)) $$ Hks; iintro Hks
  iapply (wp_headAt c vM (vBuf H c)) $$ Hvs; iintro Hvs
  iapply (wp_load 𝒱₀ (c : Thread nD τ) none Set.univ (m := (Memref.whole cc0_stg2_0 : Memref sig .tc .vmem S256x512 .f32)) (Finset.subset_univ _)) $$ Hwo
  iintro Hwo
  iapply (wp_load 𝒱₀ (c : Thread nD τ) none Set.univ (m := accM) (Finset.subset_univ _)) $$ Ha
  iintro Ha
  iapply (wp_store 𝒱₀ (c : Thread nD τ) none Set.univ (m := accM)
    (r := Rect.unit (s := S512x512) ![0, 0] S512x512.size inb_S512x512_S512x512_0_0) (Mk := Finset.univ) (Finset.subset_univ _)) $$ Ha
  iintro Ha
  rw [read_stg2, write_accAll]
  iapply HK
  isplitl [HO]; · iexact HO
  isplitl [Hd0 Hd1]; · isplitl [Hd0] <;> iassumption
  isplitl [Hk Hkr]
  · iapply (pointsTo_split_subset (I := (headView c keysM).view.set) (Finset.subset_univ _)).2
    isplitl [Hk] <;> iassumption
  isplitl [Hv Hvr]
  · iapply (pointsTo_split_subset (I := (headView c valsM).view.set) (Finset.subset_univ _)).2
    isplitl [Hv] <;> iassumption
  isplitl [Hks]; · iexact Hks
  isplitl [Hvs]; · iexact Hvs
  isplitl [Hx]; · iexact Hx
  isplitl [Hwq]; · iexact Hwq
  isplitl [Hwo]; · iexact Hwo
  iexact Ha

/-! ## The reduction of the device's own block -/

theorem wp_reduce (c : Dev nD) (k : Pgm F) (Q : PUnit → sProp 𝕄) :
    iprop(Owes H c (owed₂ c) ∗ bigSepL hops (fun r => waitPre (F := F) c 1 (devOf c r)) ∗ accPts c c fullShare (H.part c))
      ⊢ iprop((Owes H c (owed₂ c) ∗ bigSepL hops (redPost H c) ∗ accPts c c fullShare (finC H.part) -∗ Wp c k Q)
        -∗ Wp c (reducePart accM slotM cc0_scratch6 c k) Q) := by
  unfold reducePart accPts
  iintro ⟨HO, Hw, Ha⟩ HK
  iapply (wp_load 𝒱₀ (c : Thread nD τ) none Set.univ (m := accM) (S := blk c) (q := fullShare) (f := H.part c)
    (acc_rows _ (k0_off5_eq c) _).le) $$ Ha
  iintro Ha
  rw [read_acc c (k0_off5_eq c)]
  iapply (wp_redLoop H c _ Q hops (blockOf c (H.part c))) $$ [HO Hw]
  · isplitl [Hw] <;> iassumption
  iintro ⟨Hp, HO⟩
  iapply (wp_load 𝒱₀ (c : Thread nD τ) none Set.univ (m := accM) (S := blk c) (q := fullShare) (f := H.part c)
    (acc_rows _ (k0_off5_eq c) _).le) $$ Ha
  iintro Ha
  iapply (wp_store 𝒱₀ (c : Thread nD τ) none Set.univ (m := accM)
    (r := Rect.unit (s := S512x512) (k0_off5 c) S16x512.size (k0_off5_inb c)) (Mk := Finset.univ) (S := blk c) (f := H.part c)
    ((View.set_slice_whole cc0_scratch0 _).trans (rect_set c (k0_off5_eq c) _)).le) $$ Ha
  iintro Ha
  iapply HK
  isplitl [HO]; · iexact HO
  isplitl [Hp]; · iexact Hp
  iapply (Entails.of_eq (pointsTo_congr fun i hi => ?_)) $$ Ha
  refine (stored_acc c (k0_off5_eq c) _ _ _ hi).trans ?_
  rw [shapeCast_self]
  unfold finC redC
  rw [owner_of_mem hi]

end Cert.Proof

end
-- ==== Proof.Out.lean ====
/- The copy of the gathered result to the output, one half at a time. -/
module

public import proofs.«01_k».proof.Proof.Phases

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev outM : Memref sig .tc .vmem S2x256x512 .f32 := Memref.whole cc0_stg3_0

/-- The row of the 512×512 result that an element of the output is. -/
abbrev outIdx (i : S2x256x512.Idx) : S512x512.Idx :=
  Fin.cons (⟨256 * (i 0).val + (i 1).val, by
    have h0 : (i 0).val < 2 := (i 0).isLt
    have h1 : (i 1).val < 256 := (i 1).isLt
    show _ < 512
    omega⟩ : Fin 512) (Fin.cons (i 2) (fun a => a.elim0))

/-- The output made of a 512×512 result. -/
def outOf (g : Sq F) : (cc0_stg3_0 : Ref sig .tc).ty.Contents (Elt F) := fun i => g (outIdx i)

abbrev outRect (b : ℕ) (inb : ∀ a, (![b, 0, 0] : Fin 3 → ℕ) a + S1x256x512.size a ≤ S2x256x512.size a) : Rect S2x256x512 :=
  Rect.unit (s := S2x256x512) ![b, 0, 0] S1x256x512.size inb

/-- An index of a stored half. -/
abbrev halfIdx (i : S2x256x512.Idx) : S1x256x512.Idx := Fin.cons (0 : Fin 1) (Fin.cons (i 1) (Fin.cons (i 2) (fun a => a.elim0)))

theorem outRect_emb (b : ℕ) (inb) (i : S2x256x512.Idx) (h : (i 0).val = b) : (outRect b inb).emb (halfIdx i) = i := by
  funext a
  refine Fin.ext ?_
  rw [Rect.emb_apply]
  fin_cases a
  · show b + 1 * 0 = (i 0).val; omega
  · show 0 + 1 * (i 1).val = (i 1).val; omega
  · show 0 + 1 * (i 2).val = (i 2).val; omega

omit [FloatOps F] in
/-- A store of one half puts the vector's elements in that half, -/
theorem stored_half (b : ℕ) (inb) (f : (cc0_stg3_0 : Ref sig .tc).ty.Contents (Elt F)) (w : Vec F S1x256x512 .f32) (i : S2x256x512.Idx) (h : (i 0).val = b) :
    (outM.access (outRect b inb)).write (Elt F) f w Finset.univ i = w (halfIdx i) := by
  have e : (outM.access (outRect b inb)).emb (halfIdx i) = i := outRect_emb b inb i h
  have := View.write_emb_of_mem (v := outM.access (outRect b inb)) (Val := Elt F) f w (Finset.mem_univ (halfIdx i))
  rw [e] at this
  exact this

omit [FloatOps F] in
/-- and leaves the other alone. -/
theorem stored_other (b : ℕ) (inb) (f : (cc0_stg3_0 : Ref sig .tc).ty.Contents (Elt F)) (w : Vec F S1x256x512 .f32) (i : S2x256x512.Idx) (h : (i 0).val ≠ b) :
    (outM.access (outRect b inb)).write (Elt F) f w Finset.univ i = f i := by
  refine View.write_of_not_mem (v := outM.access (outRect b inb)) f w Finset.univ ?_
  have e : (outM.access (outRect b inb)).setOn Finset.univ = (outRect b inb).set := View.set_slice_whole cc0_stg3_0 (outRect b inb)
  rw [e]
  intro hi
  have := Rect.mem_set_unit.mp hi 0
  have h1 : b ≤ (i 0).val ∧ (i 0).val < b + 1 := this
  omega

omit [FloatOps F] in
/-- A loaded half of the result, reshaped, is that half of the output. -/
theorem half_read (b : ℕ) (inb : ∀ a, (![256 * b, 0] : Fin 2 → ℕ) a + S256x512.size a ≤ S512x512.size a) (g : Sq F) (i : S2x256x512.Idx) (h : (i 0).val = b) :
    shapeCast S1x256x512 (accM.view.readAt (Elt F) (Rect.unit (s := S512x512) ![256 * b, 0] S256x512.size inb).toLoadRect g)
      shapeCasts_S256x512_S1x256x512 (halfIdx i) = outOf g i := by
  refine (shapeCast_addUnit_apply ![256, 512] _ shapeCasts_S256x512_S1x256x512 (halfIdx i)).trans ?_
  refine congrArg g (funext fun a => Fin.ext ?_)
  have e := Rect.emb_apply (Rect.unit (s := S512x512) ![256 * b, 0] S256x512.size inb) (fun a => halfIdx i a.succ) a
  refine e.trans ?_
  fin_cases a
  · show 256 * b + 1 * (i 1).val = 256 * (i 0).val + (i 1).val
    omega
  · show 0 + 1 * (i 2).val = (i 2).val
    omega

/-- Both halves stored are the output. -/
theorem stored_both (g : Sq F) (f : (cc0_stg3_0 : Ref sig .tc).ty.Contents (Elt F)) :
    (outM.access (outRect 1 inb_S2x256x512_S1x256x512_1_0_0)).write (Elt F)
      ((outM.access (outRect 0 inb_S2x256x512_S1x256x512_0_0_0)).write (Elt F) f
        (k0_pay41 (accM.view.readAt (Elt F) (Rect.unit (s := S512x512) ![0, 0] S256x512.size inb_S512x512_S256x512_0_0).toLoadRect g)) Finset.univ)
      (k0_pay42 (accM.view.readAt (Elt F) (Rect.unit (s := S512x512) ![256, 0] S256x512.size inb_S512x512_S256x512_256_0).toLoadRect g)) Finset.univ
    = outOf g := by
  funext i
  have h0 : (i 0).val < 2 := (i 0).isLt
  rcases Nat.eq_zero_or_pos (i 0).val with h | h
  · rw [stored_other 1 _ _ _ i (by omega), stored_half 0 _ _ _ i h]
    exact half_read 0 inb_S512x512_S256x512_0_0 g i h
  · rw [stored_half 1 _ _ _ i (by omega)]
    exact half_read 1 inb_S512x512_S256x512_256_0 g i (by omega)

theorem wp_out (c : Dev nD) (q : PosShare TreeShare) (g : Sq F) (f : (cc0_stg3_0 : Ref sig .tc).ty.Contents (Elt F)) (k : Pgm F) (Q : PUnit → sProp 𝕄) :
    iprop(accAll c q g ∗ ((c : Thread nD τ).loc cc0_stg3_0 ↦{fullShare} f))
      ⊢ iprop((accAll c q g ∗ ((c : Thread nD τ).loc cc0_stg3_0 ↦{fullShare} outOf g) -∗ Wp c k Q) -∗ Wp c (outPart outM accM k) Q) := by
  unfold outPart accAll
  iintro ⟨Ha, Ho⟩ HK
  iapply (wp_load 𝒱₀ (c : Thread nD τ) none Set.univ (m := accM) (Finset.subset_univ _)) $$ Ha; iintro Ha
  iapply (wp_load 𝒱₀ (c : Thread nD τ) none Set.univ (m := outM) (Finset.subset_univ _)) $$ Ho; iintro Ho
  iapply (wp_store 𝒱₀ (c : Thread nD τ) none Set.univ (m := outM) (r := outRect 0 inb_S2x256x512_S1x256x512_0_0_0) (Mk := Finset.univ)
    (Finset.subset_univ _)) $$ Ho
  iintro Ho
  iapply (wp_load 𝒱₀ (c : Thread nD τ) none Set.univ (m := accM) (Finset.subset_univ _)) $$ Ha; iintro Ha
  iapply (wp_load 𝒱₀ (c : Thread nD τ) none Set.univ (m := outM) (Finset.subset_univ _)) $$ Ho; iintro Ho
  iapply (wp_store 𝒱₀ (c : Thread nD τ) none Set.univ (m := outM) (r := outRect 1 inb_S2x256x512_S1x256x512_1_0_0) (Mk := Finset.univ)
    (Finset.subset_univ _)) $$ Ho
  iintro Ho
  iapply HK
  isplitl [Ha]; · iexact Ha
  iapply (Entails.of_eq (congrArg (fun x => ((c : Thread nD τ).loc cc0_stg3_0 ↦{fullShare} x : sProp 𝕄)) (stored_both g f))) $$ Ho

end Cert.Proof

end
-- ==== Proof.Whole.lean ====
/- A device's whole body.

   The phases and the loops put together: from the cells, the credits and the buffers a device starts with, to every cell
   closed, the arguments as they were and the output holding the reduced result of all devices. -/
module

public import proofs.«01_k».proof.Proof.Out

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
/-- A family over the hops of pairs is the pair of the families. -/
theorem hops_sep (Φ Ψ : Fin 31 → sProp 𝕄) : (bigSepL hops fun r => iprop(Φ r ∗ Ψ r)) = iprop(bigSepL hops Φ ∗ bigSepL hops Ψ) := by
  rw [← bigSep_univ_eq_bigSepL hops hops_univ hops_nodup, ← bigSep_univ_eq_bigSepL hops hops_univ hops_nodup Φ,
    ← bigSep_univ_eq_bigSepL hops hops_univ hops_nodup Ψ, bigSep_sep']

variable (H : Held F)

/-- The rights to pay that a device starts with: its copies', and at each hop the barrier's unit and both ends of both sends. -/
def payToks (c : Dev nD) : sProp 𝕄 :=
  iprop((dutyTok ER (kvC c 0) 0 c ∗ dutyTok ER (kvC c 1) 0 c)
    ∗ bigSepL hops (fun r => dutyTok ER (barC (devOf c r)) 0 c)
    ∗ bigSepL hops (fun r => iprop(dutyTok ER (xC c 0 (dist r)) 0 c ∗ dutyTok ER (xC (devOf c r) 1 c) 0 c))
    ∗ bigSepL hops (fun r => iprop(dutyTok ER (xC c 2 (dist r)) 0 c ∗ dutyTok ER (xC (devOf c r) 3 c) 0 c)))

/-- The credits it starts with: what the other devices owe its barrier and its arrival cells. -/
def startCreds (c : Dev nD) : sProp 𝕄 :=
  iprop(cred (tallyAt (barC c) () 31)
    ∗ bigSepL hops (fun r => cred (tallyAt (xC c 1 (devOf c r)) () N16))
    ∗ bigSepL hops (fun r => cred (tallyAt (xC c 3 (devOf c r)) () N16)))

/-- A property of each of its cells: the barrier's, the copies', the four arrays' used and unused ones. -/
def eachCell (c : Dev nD) (Φ : GSem nD τ sig → sProp 𝕄) : sProp 𝕄 :=
  iprop(Φ (barC c) ∗ (Φ (kvC c 0) ∗ Φ (kvC c 1))
    ∗ (Φ (xC c 0 0) ∗ bigSepL hops fun r => Φ (xC c 0 (dist r)))
    ∗ (Φ (xC c 1 c) ∗ bigSepL hops fun r => Φ (xC c 1 (devOf c r)))
    ∗ (Φ (xC c 2 0) ∗ bigSepL hops fun r => Φ (xC c 2 (dist r)))
    ∗ (Φ (xC c 3 c) ∗ bigSepL hops fun r => Φ (xC c 3 (devOf c r))))

/-- A cell that nobody pays closes at once. -/
theorem close_idle {g : GSem nD τ sig} (hk : (allKnown H : sProp 𝕄) ⊢ known H g) (hd : ∀ r, 0 ≤ r → (Rd (F := F) H).duties g r = ∅) :
    iprop(allKnown H ∗ fresh g) ⊢ (|={Set.univ}=> done g : sProp 𝕄) := by
  unfold fresh done
  iintro ⟨#HK, Hf⟩
  ihave #Hg := hk $$ HK
  unfold known
  icases Hg with ⟨⟨%κ, #Hi⟩, -⟩
  iapply (Rounds.cell_close ER (Rd H) (Set.mem_univ κ) (fun h => h) (R := 0) hd)
  isplitr; · iexact Hi
  iexact Hf

theorem known_of_owes (c : Dev nD) (O : CellTallies nD τ sig Unit) : (Owes H c O : sProp 𝕄) ⊢ iprop(allKnown H ∗ Owes H c O) := by
  unfold Owes
  iintro ⟨#HK, H⟩
  isplitr; · iexact HK
  isplitr; · iexact HK
  iexact H

/-- The landing buffer with its own block as it was and the hops' landed is the buffer whole, at some contents. -/
theorem slot_rejoin (c : Dev nD) (f g : Sq F) :
    iprop(slotPts c c f ∗ bigSepL hops fun r => slotPts c (devOf c r) g) ⊢ (iprop(∃ h, slotAll c h) : sProp 𝕄) := by
  have e1 : (slotPts c c f : sProp 𝕄) = slotPts c c (fun i => if i ∈ blk c then f i else g i) :=
    slotPts_congr fun i hi => (if_pos hi).symm
  have e2 : ∀ r, (slotPts c (devOf c r) g : sProp 𝕄) = slotPts c (devOf c r) (fun i => if i ∈ blk c then f i else g i) := fun r =>
    slotPts_congr fun i hi => (if_neg fun h => (devOf_ne c r) ((owner_of_mem hi).symm.trans (owner_of_mem h))).symm
  rw [e1, funext e2, ← slotAll_eq]
  iintro H; iexists _; iexact H

/-- The hops' blocks, each split into the share that stays and the shares of the other hops. -/
theorem hop_shares (c : Dev nD) (g : Sq F) :
    (bigSepL hops fun r => (accPts c (devOf c r) fullShare g : sProp 𝕄))
      = iprop((bigSepL hops fun r => accPts c (devOf c r) (sh 0) g)
        ∗ bigSepL hops fun r => bigSepL hops fun r' => accPts c (devOf c r) (sh (dist r')) g) := by
  rw [← hops_sep]; exact congrArg (bigSepL hops) (funext fun r => accPts_shares c (devOf c r) g)

/-- The loops' programs, from the kernel's buffers. -/
abbrev theBody (c : Dev nD) : Pgm F :=
  devBody (Memref.whole cc0_stg0_0) (Memref.whole cc0_stg1_0) keysM valsM (Memref.whole cc0_stg2_0) outM accM slotM
    kM (Memref.isWhole_whole _) vM (Memref.isWhole_whole _) cc0_scratch4 cc0_scratch5 cc0_scratch6 cc0_scratch7 cc0_scratch8 c

set_option maxHeartbeats 1600000 in
/-- The whole body: what a device starts with is enough to run it, and it ends with its cells closed, its arguments as they
were and its output the reduced sum. -/
theorem wp_devBody (c : Dev nD) (X : (cc0_stg0_0 : Ref sig .tc).ty.Contents (Elt F)) (WQ : (cc0_stg1_0 : Ref sig .tc).ty.Contents (Elt F))
    (WO : (cc0_stg2_0 : Ref sig .tc).ty.Contents (Elt F)) (ks : (cc0_scratch2 : Ref sig .tc).ty.Contents (Elt F))
    (vs : (cc0_scratch3 : Ref sig .tc).ty.Contents (Elt F)) (f0 f1 : Sq F) (fo : (cc0_stg3_0 : Ref sig .tc).ty.Contents (Elt F))
    (hpart : H.part c = partD X WQ (kBuf H c) (vBuf H c) WO) (Q : PUnit → sProp 𝕄) :
    iprop(Owes H c (owed₀ c) ∗ payToks c ∗ startCreds c ∗ eachCell c fresh
        ∗ attnBufs H c X WQ WO ks vs f0 ∗ slotAll c f1 ∗ ((c : Thread nD τ).loc cc0_stg3_0 ↦{fullShare} fo))
      ⊢ iprop((Owes H c 0 ∗ eachCell c done
            ∗ attnBufs H c X WQ WO (kBuf H c) (vBuf H c) (finC H.part) ∗ (∃ g, slotAll c g)
            ∗ ((c : Thread nD τ).loc cc0_stg3_0 ↦{fullShare} outOf (finC H.part)) -∗ Q ⟨⟩)
        -∗ Wp c (theBody c) Q) := by
  unfold theBody devBody payToks startCreds eachCell
  rw [slotAll_eq, hops_sep, hops_sep]
  iintro ⟨HO, ⟨Htkv, Htb, ⟨Ht0, Ht1⟩, Ht2, Ht3⟩, ⟨HcB, Hc1, Hc3⟩, ⟨HfB, Hfkv, ⟨Hi0, Hf0⟩, ⟨Hi1, Hf1⟩, ⟨Hi2, Hf2⟩, ⟨Hi3, Hf3⟩⟩, Hat, ⟨Hsm, Hs⟩, Hout⟩ HK
  -- the idle cells
  ihave HO := (known_of_owes H c (owed₀ c)) $$ HO
  icases HO with ⟨#HKn, HO⟩
  imod (close_idle H (known_x H c 0 0) (duties_send_idle H c 0 rfl)) $$ [Hi0] with Hi0
  · isplitr; · iexact HKn
    iexact Hi0
  imod (close_idle H (known_x H c 1 c) (duties_recv_idle H c 1 rfl)) $$ [Hi1] with Hi1
  · isplitr; · iexact HKn
    iexact Hi1
  imod (close_idle H (known_x H c 2 0) (duties_send_idle H c 2 rfl)) $$ [Hi2] with Hi2
  · isplitr; · iexact HKn
    iexact Hi2
  imod (close_idle H (known_x H c 3 c) (duties_recv_idle H c 3 rfl)) $$ [Hi3] with Hi3
  · isplitr; · iexact HKn
    iexact Hi3
  -- the barrier
  iapply (wp_barrier H c) $$ [HO Htb Hs HcB HfB]
  · isplitl [HO]; · iexact HO
    isplitr [HcB HfB]
    · unfold sigPre barPay
      rw [hops_sep]
      isplitl [Htb]; · iexact Htb
      iapply (bigSepL_mono (l := hops) fun r _ => (show (slotPts c (devOf c r) f1 : sProp 𝕄) ⊢ iprop(∃ f, slotPts c (devOf c r) f) from by
        iintro H; iexists f1; iexact H)) $$ Hs
    isplitl [HcB] <;> iassumption
  iintro ⟨HO, HdB, Hbp⟩
  -- the attention
  iapply (wp_attn H c X WQ WO ks vs f0) $$ [HO Htkv Hfkv Hat]
  · isplitl [HO]; · iexact HO
    isplitl [Htkv]; · iexact Htkv
    isplitl [Hfkv]; · iexact Hfkv
    iexact Hat
  rw [← hpart]
  unfold attnBufs
  iintro ⟨HO, Hdkv, Hk, Hv, Hks, Hvs, Hx, Hwq, Hwo, Ha⟩
  ihave Ha := (Entails.of_eq (accAll_eq c fullShare (H.part c))) $$ Ha
  icases Ha with ⟨Ham, Ha⟩
  -- the sends of the partial products
  iapply (wp_loop (F := F) c (step := rsStep accM slotM cc0_scratch5 cc0_scratch6 c) (pre := rsPre H c)
    (post := fun r => cred (tallyAt (xC c 0 (dist r)) () N16)) (S := fun l => Owes H c (due (dueX 1 c) l + owed₂ c)) (wp_rs H c) _ Q hops) $$ [HO Ht0 Ht1 Ha Hbp]
  · isplitr [HO]
    · unfold rsPre
      rw [hops_sep, hops_sep, hops_sep]
      isplitl [Ht0 Ht1]; · isplitl [Ht0] <;> iassumption
      isplitl [Ha] <;> iassumption
    iexact HO
  rw [due_nil, zero_add]
  iintro ⟨Hc0, HO⟩
  -- the reduction
  iapply (wp_reduce H c) $$ [HO Hc1 Hf1 Ham]
  · isplitl [HO]; · iexact HO
    isplitr [Ham]
    · unfold waitPre
      rw [hops_sep]
      isplitl [Hc1] <;> iassumption
    iexact Ham
  unfold redPost
  rw [hops_sep, hops_sep]
  iintro ⟨HO, ⟨Hd1, Hs, Ha⟩, Ham⟩
  ihave Ham := (Entails.of_eq (accPts_shares c c (finC H.part))) $$ Ham
  icases Ham with ⟨Ham, Hsh⟩
  -- the sends of the reduced block
  iapply (wp_loop (F := F) c (step := agStep accM cc0_scratch7 cc0_scratch8 c) (pre := agPre H c)
    (post := fun r => cred (tallyAt (xC c 2 (dist r)) () N16)) (S := fun l => Owes H c (due (dueX 3 c) l + 0)) (wp_ag H c) _ Q hops) $$ [HO Ht2 Ht3 Hsh Ha]
  · isplitr [HO]
    · unfold agPre
      rw [hops_sep, hops_sep, hops_sep]
      isplitl [Ht2 Ht3]; · isplitl [Ht2] <;> iassumption
      isplitl [Hsh] <;> iassumption
    iapply (Entails.of_eq (congrArg (Owes H c) (add_zero (owed₂ c)).symm)) $$ HO
  rw [due_nil, zero_add]
  iintro ⟨Hc2, HO⟩
  -- the waits for the reduced blocks
  iapply (wp_loop (F := F) c (step := agWaitStep accM cc0_scratch8 c) (pre := fun r => waitPre (F := F) c 3 (devOf c r))
    (post := agPost H c) (S := fun _ => Owes H c 0) (fun r _ => wp_agWait H c r) _ Q hops) $$ [HO Hc3 Hf3]
  · isplitr [HO]
    · unfold waitPre
      rw [hops_sep]
      isplitl [Hc3] <;> iassumption
    iexact HO
  unfold agPost
  rw [hops_sep]
  iintro ⟨⟨Hd3, Ha⟩, HO⟩
  -- the output, read at the share that stays
  ihave Ha := (Entails.of_eq (hop_shares c (finC H.part))) $$ Ha
  icases Ha with ⟨Ha, Hrest⟩
  iapply (wp_out c (sh 0) (finC H.part) fo) $$ [Ham Ha Hout]
  · isplitr [Hout]
    · rw [accAll_eq]
      isplitl [Ham] <;> iassumption
    iexact Hout
  rw [accAll_eq c (sh 0)]
  iintro ⟨⟨Ham, Ha⟩, Hout⟩
  -- the departures
  iapply (wp_loop (F := F) c (step := doneStep accM slotM cc0_scratch5 cc0_scratch7 c)
    (pre := fun r => iprop(waitPre (F := F) c 0 (dist r) ∗ waitPre (F := F) c 2 (dist r)))
    (post := donePost H c) (S := fun _ => Owes H c 0) (fun r _ => wp_done H c r) _ Q hops) $$ [HO Hc0 Hf0 Hc2 Hf2]
  · isplitr [HO]
    · unfold waitPre
      rw [hops_sep, hops_sep, hops_sep]
      isplitl [Hc0 Hf0]; · isplitl [Hc0] <;> iassumption
      isplitl [Hc2] <;> iassumption
    iexact HO
  unfold donePost
  rw [hops_sep, hops_sep]
  iintro ⟨⟨⟨Hd0, Hd2⟩, Hsh⟩, HO⟩
  unfold Wp; rw [wp_ret]; imodintro
  iapply HK
  isplitl [HO]; · iexact HO
  isplitr [Hk Hv Hks Hvs Hx Hwq Hwo Ham Ha Hrest Hsh Hsm Hs Hout]
  · isplitl [HdB]; · iexact HdB
    isplitl [Hdkv]; · iexact Hdkv
    isplitl [Hi0 Hd0]; · isplitl [Hi0] <;> iassumption
    isplitl [Hi1 Hd1]; · isplitl [Hi1] <;> iassumption
    isplitl [Hi2 Hd2]; · isplitl [Hi2] <;> iassumption
    isplitl [Hi3] <;> iassumption
  isplitr [Hsm Hs Hout]
  · isplitl [Hk]; · iexact Hk
    isplitl [Hv]; · iexact Hv
    isplitl [Hks]; · iexact Hks
    isplitl [Hvs]; · iexact Hvs
    isplitl [Hx]; · iexact Hx
    isplitl [Hwq]; · iexact Hwq
    isplitl [Hwo]; · iexact Hwo
    rw [accAll_eq]
    isplitl [Ham Hsh]
    · rw [accPts_shares c c]
      isplitl [Ham] <;> iassumption
    rw [hop_shares]
    isplitl [Ha] <;> iassumption
  isplitr [Hout]
  · iapply (slot_rejoin c f1 (slotC H.part c))
    isplitl [Hsm] <;> iassumption
  iexact Hout

end Cert.Proof

end
-- ==== Proof.Launch.lean ====
/- What the launch deals the devices.

   Every device's cells begin their round, the rights to pay are minted by the device that pays them, and what the other
   devices owe a device's barrier and arrival cells is the credit it starts with. -/
module

public import proofs.«01_k».proof.Proof.Whole
public import Idealize.ShloMosaic.Lib.Pipeline.CollectiveSegs

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (H : Held F)

omit [FloatOps F] in
/-- Two assertions that entail each other are one. -/
theorem eq_of_entails {P Q : sProp 𝕄} (h : P ⊢ Q) (h' : Q ⊢ P) : P = Q := BI.Entails.antisymm h h'

/-! ## The cells -/

theorem ownSemFacts : Pipeline.OwnSemFacts cfg0.spec osem := by decide +kernel

theorem csem_injective : Function.Injective csem := by
  rintro (_ | k) (_ | k') h
  · rfl
  · rcases k' with _ | ⟨_, _⟩ <;> cases h
  · rcases k with _ | ⟨_, _⟩ <;> cases h
  · exact congrArg some (ownSemFacts.inj h)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

omit [FloatOps F] in
/-- A family over the cells' indices is its member at the barrier and the others. -/
theorem bigSep_cellIx (Φ : CellIx → sProp 𝕄) :
    bigSep Finset.univ Φ = iprop((bigSep Finset.univ fun k => Φ (some k)) ∗ Φ none) := by
  rw [bigSep_univ_equiv (Equiv.optionEquivSumPUnit.{0, 0} _).symm, bigSep_univ_sum]
  have h : (Finset.univ : Finset PUnit.{1}) = {PUnit.unit} := rfl
  rw [h, bigSep_singleton]
  rfl

omit [FloatOps F] in
/-- A family over a device's cells, cell by cell. -/
theorem eachCell_eq (c : Dev nD) (Φ : GSem nD τ sig → sProp 𝕄) :
    (bigSep Finset.univ fun k : CellIx => Φ (kcell (c, k))) = eachCell c Φ := by
  rw [bigSep_cellIx, bigSep_univ_sum, bigSep_univ_prod]
  unfold eachCell
  rw [bigSep_univ_eq_bigSepL [(0 : Fin 4), 1, 2, 3] (by decide) (by decide), bigSep_univ_eq_bigSepL [(0 : Fin 2), 1] (by decide) (by decide)]
  simp only [bigSepL_cons_cons, bigSepL_singleton]
  rw [bigSep_dist (F := F), bigSep_dev (F := F) c, bigSep_dist (F := F), bigSep_dev (F := F) c]
  refine Eq.trans (b := iprop(((Φ (kvC c 0) ∗ Φ (kvC c 1))
    ∗ (Φ (xC c 0 0) ∗ bigSepL hops fun r => Φ (xC c 0 (dist r)))
    ∗ (Φ (xC c 1 c) ∗ bigSepL hops fun r => Φ (xC c 1 (devOf c r)))
    ∗ (Φ (xC c 2 0) ∗ bigSepL hops fun r => Φ (xC c 2 (dist r)))
    ∗ (Φ (xC c 3 c) ∗ bigSepL hops fun r => Φ (xC c 3 (devOf c r)))) ∗ Φ (barC c))) rfl ?_
  refine eq_of_entails ?_ ?_
  · iintro ⟨H2, HB⟩
    isplitl [HB] <;> iassumption
  · iintro ⟨HB, H2⟩
    isplitl [H2] <;> iassumption

omit [FloatOps F] in
/-- The kernel's own semaphores and the barrier's, at zero, are the device's cells at zero. -/
theorem sems0_eq (c : Dev nD) :
    (iprop(Pipeline.ownSems0 (Ix := Unit) (Name := ℕ) (U := UU) (Lvl := ℕ) (Val := Elt F) (τ := τ) osem c ∗ unscopedSems0 c) : sProp 𝕄)
      = bigSep Finset.univ fun k : CellIx => semVal (kcell (c, k)) 0 := by
  rw [bigSep_cellIx]
  unfold Pipeline.ownSems0 unscopedSems0
  rw [bigSep_eq_bigSepL_of_eq [SemLoc.reg barSem] (by decide) (by decide)]
  rfl

/-! ## The rights to pay -/

/-- The cell a device pays: its copies'; at each hop the barrier there, and the two ends of its two sends. -/
def payCell (c : Dev nD) : Fin 2 ⊕ Fin 5 × Fin 31 → Dev nD × CellIx
  | .inl j => (c, some (.inl j))
  | .inr (0, r) => (devOf c r, none)
  | .inr (1, r) => (c, some (.inr (0, dist r)))
  | .inr (2, r) => (devOf c r, some (.inr (1, c)))
  | .inr (3, r) => (c, some (.inr (2, dist r)))
  | .inr (4, r) => (devOf c r, some (.inr (3, c)))

theorem payCell_injective (c : Dev nD) : Function.Injective (payCell c) := by
  rintro (j | ⟨a, r⟩) (j' | ⟨a', r'⟩) h
  · simp only [payCell, Prod.mk.injEq, Option.some.injEq, Sum.inl.injEq] at h; rw [h.2]
  · exfalso; fin_cases a' <;> simp [payCell] at h
  · exfalso; fin_cases a <;> simp [payCell] at h
  · fin_cases a <;> fin_cases a' <;> simp only [payCell, Fin.reduceFinMk, Fin.zero_eta, Fin.mk_one, Prod.mk.injEq, Option.some.injEq, Sum.inr.injEq, reduceCtorEq,
      and_false, Fin.reduceEq, false_and] at h
    all_goals first
      | rw [devOf_inj c h.1]
      | rw [dist_inj h.2.2]

abbrev tokOf (cj : Dev nD × (Fin 2 ⊕ Fin 5 × Fin 31)) : GSem nD τ sig × ℕ × Dev nD := (kcell (payCell cj.1 cj.2), 0, cj.1)
theorem tokOf_injective : Function.Injective tokOf := by
  rintro ⟨c, j⟩ ⟨c', j'⟩ h
  have h1 : c = c' := congrArg (fun x : GSem nD τ sig × ℕ × Dev nD => x.2.2) h
  subst h1
  have h2 : j = j' := payCell_injective c (kcell_injective (congrArg Prod.fst h))
  rw [h2]

def allCells : Finset (GSem nD τ sig) := Finset.univ.map ⟨kcell, kcell_injective⟩
def allToks : Finset (GSem nD τ sig × ℕ × Dev nD) := Finset.univ.map ⟨tokOf, tokOf_injective⟩

omit [FloatOps F] in
/-- The tokens minted are each device's rights to pay. -/
theorem toks_eq : bigSep allToks (fun x => (dutyTok ER x.1 x.2.1 x.2.2 : sProp 𝕄)) = bigSep Finset.univ payToks := by
  unfold allToks; rw [bigSep_map, bigSep_univ_prod]
  refine bigSep_congr fun c _ => ?_
  rw [bigSep_univ_sum, bigSep_univ_prod, bigSep_univ_eq_bigSepL [(0 : Fin 5), 1, 2, 3, 4] (by decide) (by decide),
    bigSep_univ_eq_bigSepL [(0 : Fin 2), 1] (by decide) (by decide)]
  simp only [bigSep_univ_eq_bigSepL hops hops_univ hops_nodup]
  refine Eq.trans (b := iprop((dutyTok ER (kvC c 0) 0 c ∗ dutyTok ER (kvC c 1) 0 c)
    ∗ bigSepL hops (fun r => dutyTok ER (barC (devOf c r)) 0 c)
    ∗ bigSepL hops (fun r => dutyTok ER (xC c 0 (dist r)) 0 c) ∗ bigSepL hops (fun r => dutyTok ER (xC (devOf c r) 1 c) 0 c)
    ∗ bigSepL hops (fun r => dutyTok ER (xC c 2 (dist r)) 0 c) ∗ bigSepL hops (fun r => dutyTok ER (xC (devOf c r) 3 c) 0 c))) rfl ?_
  unfold payToks
  rw [hops_sep, hops_sep]
  refine eq_of_entails ?_ ?_
  · iintro ⟨H0, HB, H1, H2, H3, H4⟩
    isplitl [H0]; · iexact H0
    isplitl [HB]; · iexact HB
    isplitl [H1 H2]; · isplitl [H1] <;> iassumption
    isplitl [H3] <;> iassumption
  · iintro ⟨H0, HB, ⟨H1, H2⟩, H3, H4⟩
    isplitl [H0]; · iexact H0
    isplitl [HB]; · iexact HB
    isplitl [H1]; · iexact H1
    isplitl [H2]; · iexact H2
    isplitl [H3] <;> iassumption

/-! ## The launch's deal -/

/-- What the launch element deals device `c`. -/
def G (c : Dev nD) : sProp 𝕄 :=
  iprop((bigSep Finset.univ fun k : CellIx => roundState ER (Rd H) (kcell (c, k)) 0)
    ∗ ((bigSep Finset.univ fun k : CellIx => reached ER (kcell (c, k)) 0) ∗ bigSep Finset.univ fun k : CellIx => fresh (kcell (c, k))) ∗ payToks c)

/-- What it has once all the cells are running. -/
def G' (c : Dev nD) : sProp 𝕄 := iprop(allKnown H ∗ eachCell c fresh ∗ payToks c)

theorem fund_cells : BI.own (ER (initOf allCells allToks)) ⊢ (|==> bigSep Finset.univ (G H) : sProp 𝕄) := by
  have hX (Φ : GSem nD τ sig → sProp 𝕄) : bigSep allCells Φ = bigSep Finset.univ fun c : Dev nD => bigSep Finset.univ fun k : CellIx => Φ (kcell (c, k)) := by
    unfold allCells; rw [bigSep_map, bigSep_univ_prod]; rfl
  iintro HX
  imod (Rounds.fund ER (Rd H) allCells allToks) $$ HX with ⟨Hst, Hr, Hat, Htok⟩
  imodintro
  ihave Hst' := (Entails.of_eq (hX fun g => roundState ER (Rd H) g 0)) $$ Hst
  ihave Hat' := (Entails.of_eq (hX fun g => atPos ER g 0 ∅ 0)) $$ Hat
  ihave Hr' := (Entails.of_eq (hX fun g => reached ER g 0)) $$ Hr
  ihave Htok' := (Entails.of_eq (toks_eq (F := F))) $$ Htok
  unfold G fresh; simp only [bigSep_sep']
  isplitl [Hst']; · iexact Hst'
  isplitl [Hat' Hr']
  · isplitl [Hr'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G H c)
      ⊢ |={Set.univ}=> iprop((bigSep Finset.univ fun k : CellIx => known H (kcell (c, k))) ∗ eachCell c fresh ∗ payToks c) := by
  unfold G
  iintro ⟨Hos, Hus, Hst, ⟨Hr, Hat⟩, Htok⟩
  ihave Hv := (Entails.of_eq (sems0_eq (F := F) c)) $$ [Hos Hus]
  · isplitl [Hos] <;> iassumption
  imod (show iprop((bigSep Finset.univ fun k : CellIx => semVal (kcell (c, k)) 0) ∗ bigSep Finset.univ fun k : CellIx => roundState ER (Rd H) (kcell (c, k)) 0)
      ⊢ (|={Set.univ}=> bigSep Finset.univ fun k : CellIx => iprop(∃ κ : ℕ, cellInv ER (Rd H) κ (kcell (c, k))) : sProp 𝕄) from by
        rw [← bigSep_sep']
        exact (bigSep_mono fun k _ => (Rounds.body_intro ER (Rd H) (kcell (c, k))).trans inv_alloc).trans (bigSep_fupd _ _)) $$ [Hv Hst] with Hinv
  · isplitl [Hv] <;> iassumption
  imodintro
  isplitl [Hinv Hr]
  · unfold known; rw [bigSep_sep']
    isplitl [Hinv] <;> iassumption
  isplitl [Hat]; · rw [← eachCell_eq]; iexact Hat
  iexact Htok

/-- What one device knows of its cells, every device knows of all. -/
theorem regroup :
    (bigSep Finset.univ fun c => iprop((bigSep Finset.univ fun k : CellIx => known H (kcell (c, k))) ∗ eachCell c fresh ∗ payToks c) : sProp 𝕄)
      ⊢ bigSep Finset.univ (G' H) := by
  unfold G'
  rw [bigSep_sep', bigSep_sep' Finset.univ (fun _ => allKnown H), ← bigSep_univ_prod (fun ck : Dev nD × CellIx => known H (kcell ck))]
  iintro ⟨HK, Hr⟩
  isplitl [HK]
  · iapply (show (bigSep Finset.univ fun ck : Dev nD × CellIx => known H (kcell ck)) ⊢ bigSep Finset.univ fun _ : Dev nD => allKnown H from
      (Entails.of_eq (by unfold allKnown; rfl)).trans (BI.bigSep_of_persistent Finset.univ (allKnown H))) $$ HK
  iexact Hr

/-- Every device at once: the cells run, and every device knows all of them. -/
theorem glob : (bigSep Finset.univ fun c => iprop(Pipeline.ownSems0 (Ix := Unit) (Name := ℕ) (U := UU) (Lvl := ℕ) (Val := Elt F) (τ := τ) osem c ∗ unscopedSems0 c ∗ G H c) : sProp 𝕄)
    ⊢ |={Set.univ}=> bigSep Finset.univ (G' H) :=
  ((bigSep_mono fun c _ => core_alloc H c).trans (bigSep_fupd _ _)).trans (BI.fupd_mono (regroup H))

/-! ## The credits -/

theorem due_apply (f : Fin 31 → CellTallies nD τ sig Unit) (g : GSem nD τ sig) : due f hops g () = ∑ r, f r g () := by
  have h : ∀ l : List (Fin 31), due f l g () = (l.map fun r => f r g ()).sum := fun l => by
    induction l with
    | nil => rfl
    | cons r l ih => unfold due at ih ⊢; rw [List.map_cons, List.sum_cons, List.map_cons, List.sum_cons, Pi.add_apply, Finsupp.add_apply, ih]
  rw [h, hops_univ, List.sum_toFinset _ hops_nodup]

/-- Exactly one hop leads from a device to another. -/
theorem hop_count (d c : Dev nD) (n : ℕ) : (∑ r, if devOf d r = c then n else 0) = if d = c then 0 else n := by
  split
  · next h => subst h; exact Finset.sum_eq_zero fun r _ => if_neg (devOf_ne d r)
  · next h =>
    obtain ⟨r₀, hr₀⟩ := exists_hop (c := d) (s := c) (Ne.symm h)
    rw [Finset.sum_eq_single r₀ (fun r _ hr => if_neg fun e => hr (devOf_inj d (e.trans hr₀.symm))) (fun h => absurd (Finset.mem_univ _) h), if_pos hr₀]

theorem barC_iff {a b : Dev nD} : barC a = barC b ↔ a = b :=
  ⟨fun h => congrArg (fun g : GSem nD τ sig => g.1.1) h, fun h => h ▸ rfl⟩
theorem xC_iff {a b : Dev nD} {x y : Fin 4} {i j : Fin 32} : xC a x i = xC b y j ↔ a = b ∧ x = y ∧ i = j :=
  ⟨fun h => by
    have := kcell_injective (a₁ := (a, some (.inr (x, i)))) (a₂ := (b, some (.inr (y, j)))) h
    simp only [Prod.mk.injEq, Option.some.injEq, Sum.inr.injEq] at this
    exact this, fun ⟨h1, h2, h3⟩ => by rw [h1, h2, h3]⟩

/-- The devices together owe a device's barrier 31 units. -/
theorem total_bar (c : Dev nD) : (∑ d, due (dueBar d) hops (barC c) ()) = 31 := by
  have h : ∀ d, due (dueBar d) hops (barC c) () = if d = c then 0 else 1 := fun d => by
    rw [due_apply, ← hop_count]
    refine Finset.sum_congr rfl fun r _ => ?_
    unfold dueBar; rw [tallyAt_apply]
    exact if_congr ⟨fun h => (barC_iff.mp h.1).symm, fun h => ⟨barC_iff.mpr h.symm, rfl⟩⟩ rfl rfl
  rw [Finset.sum_congr rfl fun d _ => h d]
  clear h
  revert c; decide

/-- And its arrival cell of another device the bytes of one block. -/
theorem total_x (a : Fin 4) {c s : Dev nD} (hs : s ≠ c) : (∑ d, due (dueX a d) hops (xC c a s) ()) = N16 := by
  have h : ∀ d, due (dueX a d) hops (xC c a s) () = if d = s then N16 else 0 := fun d => by
    rw [due_apply]
    by_cases e : d = s
    · subst e
      rw [if_pos rfl, ← (hop_count d c N16).trans (if_neg hs)]
      refine Finset.sum_congr rfl fun r _ => ?_
      unfold dueX; rw [tallyAt_apply]
      exact if_congr ⟨fun h => (xC_iff.mp h.1).1.symm, fun h => ⟨xC_iff.mpr ⟨h.symm, rfl, rfl⟩, rfl⟩⟩ rfl rfl
    · rw [if_neg e]
      refine Finset.sum_eq_zero fun r _ => ?_
      unfold dueX; rw [tallyAt_apply]
      exact if_neg fun h => e (xC_iff.mp h.1).2.2.symm
  rw [Finset.sum_congr rfl fun d _ => h d, Finset.sum_ite_eq' Finset.univ s, if_pos (Finset.mem_univ _)]

omit [FloatOps F] in
/-- What all devices owe one cell is the credit its device starts with there. -/
theorem cred_of_total (O : Dev nD → CellTallies nD τ sig Unit) (g : GSem nD τ sig) {n : ℕ} (h : (∑ d, O d g ()) = n) :
    (cred (tallyOn g (launchCredit (Pipeline.owing O) 0 g)) : sProp 𝕄) = cred (tallyAt g () n) := by
  unfold tallyAt
  refine congrArg (fun x => cred (tallyOn g x)) (Finsupp.ext fun u => ?_)
  cases u
  rw [Pipeline.launchCredit_owing, Finsupp.single_eq_same, h]

omit [FloatOps F] in
theorem creds_bar (c : Dev nD) : (Pipeline.launchCred (fun d => due (dueBar d) hops) c : sProp 𝕄) ⊢ cred (tallyAt (barC c) () 31) := by
  unfold Pipeline.launchCred
  rw [← cred_of_total _ _ (total_bar c)]
  exact bigSep_elim (Finset.mem_univ _)

omit [FloatOps F] in
theorem creds_x (a : Fin 4) (c : Dev nD) :
    (Pipeline.launchCred (fun d => due (dueX a d) hops) c : sProp 𝕄) ⊢ bigSepL hops fun r => cred (tallyAt (xC c a (devOf c r)) () N16) := by
  unfold Pipeline.launchCred
  rw [← bigSep_univ_eq_bigSepL hops hops_univ hops_nodup]
  have hi : Function.Injective fun r : Fin 31 => (SemLoc.dma (xSem a (devOf c r)) : SemLoc sig) := fun r r' h =>
    devOf_inj c (xC_iff.mp (congrArg (fun sm => (((c : Thread nD τ), sm) : GSem nD τ sig)) h)).2.2
  refine (bigSep_subset (t := Finset.univ.map ⟨_, hi⟩) (Finset.subset_univ _)).trans ?_
  rw [bigSep_map]
  exact bigSep_mono fun r _ => Entails.of_eq (cred_of_total _ _ (total_x a (devOf_ne c r)))

omit [FloatOps F] in
/-- The launch's credit of a device. -/
theorem creds (c : Dev nD) : (Pipeline.launchCred owed₀ c : sProp 𝕄) ⊢ startCreds c := by
  rw [show (owed₀ : Dev nD → CellTallies nD τ sig Unit) = fun d => due (dueBar d) hops + (due (dueX 1 d) hops + due (dueX 3 d) hops) from rfl,
    Pipeline.launchCred_add, Pipeline.launchCred_add]
  exact BI.sep_mono (creds_bar c) (BI.sep_mono (creds_x 1 c) (creds_x 3 c))

end Cert.Proof

end
-- ==== Proof.Run.lean ====
/- The run of the kernel on its 32 devices.

   For any float values and from any memory, every device's call runs to its end: the arguments end unchanged, the
   result is the reduced sum of all devices' products, and every semaphore is at zero. -/
module

public import proofs.«01_k».proof.Proof.Launch
public import proofs.«01_k».proof.Proof.Gen.KernelIdeal.Points
public import Idealize.ShloMosaic.Lib.VecWindow

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What the devices hold -/

/-- Device `c`'s staged activations, query weights and output weights: its arguments. -/
def xStg (c : Dev nD) : (cc0_stg0_0 : Ref sig .tc).ty.Contents (Elt F) := m ((c : Thread nD τ).loc main_arg0)
def wqStg (c : Dev nD) : (cc0_stg1_0 : Ref sig .tc).ty.Contents (Elt F) := m ((c : Thread nD τ).loc main_arg1)
def woStg (c : Dev nD) : (cc0_stg2_0 : Ref sig .tc).ty.Contents (Elt F) := m ((c : Thread nD τ).loc main_arg4)

/-- The keys, the values and the partial products of the devices. -/
def held : Held F where
  part c := partD (xStg m c) (wqStg m c) ((headView c keysM).view.read (Elt F) (m ((c : Thread nD τ).loc main_arg2)))
    ((headView c valsM).view.read (Elt F) (m ((c : Thread nD τ).loc main_arg3))) (woStg m c)
  keys c := m ((c : Thread nD τ).loc main_arg2)
  vals c := m ((c : Thread nD τ).loc main_arg3)

/-- What every device's output ends holding. -/
def outAll : (cc0_stg3_0 : Ref sig .tc).ty.Contents (Elt F) := outOf (finC (held m).part)

/-! ## The windows: each is its whole array -/

theorem blk0_read (t : Fin cfg0.N) (f : (main_arg0 : Ref sig .tc).ty.Contents (Elt F)) : ((cfg0.win 0).blk t).view.read (Elt F) f = f :=
  funext fun i => congrArg f (by
    obtain rfl := fin_N0 t
    exact Rect.emb_unit_full _ i)
theorem blk1_read (t : Fin cfg0.N) (f : (main_arg1 : Ref sig .tc).ty.Contents (Elt F)) : ((cfg0.win 1).blk t).view.read (Elt F) f = f :=
  funext fun i => congrArg f (by
    obtain rfl := fin_N0 t
    exact Rect.emb_unit_full _ i)
theorem blk2_read (t : Fin cfg0.N) (f : (main_arg4 : Ref sig .tc).ty.Contents (Elt F)) : ((cfg0.win 2).blk t).view.read (Elt F) f = f :=
  funext fun i => congrArg f (by
    obtain rfl := fin_N0 t
    exact Rect.emb_unit_full _ i)
theorem blk3_emb (t : Fin cfg0.N) (i : S2x256x512.Idx) : ((cfg0.win 3).blk t).view.emb i = i := by
  obtain rfl := fin_N0 t
  exact Rect.emb_unit_full (s := S2x256x512) _ i

/-! ## The pipeline's data -/

/-- What a device starts its body with, the buffers apart that are the call's own. -/
def start (c : Dev nD) : sProp 𝕄 :=
  iprop(G' (held m) c ∗ startCreds c ∗ levAts L lv
    ∗ ((c : Thread nD τ).loc main_arg2 ↦{fullShare} (held m).keys c) ∗ ((c : Thread nD τ).loc main_arg3 ↦{fullShare} (held m).vals c))

/-- The call's own buffers, at some contents. -/
def scratch (c : Dev nD) : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f)
    ∗ (∃ f : Buf (Elt F) ((c : Thread nD τ).loc cc0_scratch3), (c : Thread nD τ).loc cc0_scratch3 ↦{fullShare} f))

/-- What it ends it with. -/
def finish (c : Dev nD) : sProp 𝕄 :=
  iprop(eachCell c done ∗ ((c : Thread nD τ).loc main_arg2 ↦{fullShare} (held m).keys c)
    ∗ ((c : Thread nD τ).loc main_arg3 ↦{fullShare} (held m).vals c) ∗ scratch c)

def dats (_ : Fin 1) (c : Dev nD) : Dat τ (Elt F) Unit ℕ UU ℕ cfg0 c where
  A w := m ((cfg0.win w).arr.view.loc (c : Thread nD τ))
  after w _ := match w with
    | ⟨0, _⟩ => xStg m c
    | ⟨1, _⟩ => wqStg m c
    | ⟨2, _⟩ => woStg m c
    | ⟨3, _⟩ => outAll m
  Φ t := match t with
    | ⟨0, _⟩ => iprop(start m c ∗ scratch c)
    | ⟨_ + 1, _⟩ => finish m c
  q _ := fullShare
  owed t := match t with
    | ⟨0, _⟩ => owed₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- Device `c`'s buffer `b` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((start m c ∗ scratch c) ∗ (dats m 0 c).owesAt () t0_0.castSucc
    ∗ (∃ d, stg c cc0_stg0_0 ((dats (F := F) m 0 c).before (0 : Fin 4) t0_0 d))
    ∗ (∃ d, stg c cc0_stg1_0 ((dats (F := F) m 0 c).before (1 : Fin 4) t0_0 d))
    ∗ (∃ d, stg c cc0_stg2_0 ((dats (F := F) m 0 c).before (2 : Fin 4) t0_0 d))
    ∗ (∃ d, stg c cc0_stg3_0 ((dats (F := F) m 0 c).before (3 : Fin 4) t0_0 d)))

def bodyPost (c : Dev nD) : sProp 𝕄 :=
  iprop(finish m c ∗ (dats m 0 c).owesAt () t0_0.succ
    ∗ stg c cc0_stg0_0 (xStg m c) ∗ stg c cc0_stg1_0 (wqStg m c) ∗ stg c cc0_stg2_0 (woStg m c) ∗ stg c cc0_stg3_0 (outAll m))

theorem before_0 (c : Dev nD) (d) : (dats (F := F) m 0 c).before (0 : Fin 4) t0_0 d = xStg m c := by
  unfold Dat.before; rw [if_pos (fetch0_0 t0_0)]; exact blk0_read (F := F) t0_0 _
theorem before_1 (c : Dev nD) (d) : (dats (F := F) m 0 c).before (1 : Fin 4) t0_0 d = wqStg m c := by
  unfold Dat.before; rw [if_pos (fetch0_1 t0_0)]; exact blk1_read (F := F) t0_0 _
theorem before_2 (c : Dev nD) (d) : (dats (F := F) m 0 c).before (2 : Fin 4) t0_0 d = woStg m c := by
  unfold Dat.before; rw [if_pos (fetch0_2 t0_0)]; exact blk2_read (F := F) t0_0 _

set_option maxHeartbeats 800000 in
/-- The body runs from what the pipeline hands it to what it hands back. -/
theorem sound_body (c : Dev nD) :
    bodyPre m c ⊢ wp frame (wpE (defs₀ (F := F)) 𝒱₀ c none) Set.univ
      (.op .deviceId fun d0 => theBody (F := F) d0) (fun _ => bodyPost m c) := by
  simp only [wp_deviceId]
  unfold bodyPre start G' scratch
  iintro ⟨⟨⟨⟨#HKn, Hf, Ht⟩, Hc, #Hlev, Hk, Hv⟩, ⟨%f0, Hs0⟩, ⟨%f1, Hs1⟩, ⟨%f2, Hs2⟩, ⟨%f3, Hs3⟩⟩, Ho, ⟨%d0, %g0, %h0, Hx⟩, ⟨%d1, %g1, %h1, Hwq⟩, ⟨%d2, %g2, %h2, Hwo⟩, ⟨%d3, %g3, -, Hout⟩⟩
  rw [before_0] at h0; rw [before_1] at h1; rw [before_2] at h2
  subst h0; subst h1; subst h2
  unfold Dat.owesAt Pipeline.owesWithin
  icases Ho with ⟨%W, %hW, HO⟩
  rw [show (dats m 0 c).owed t0_0.castSucc = owed₀ c from rfl]
  iapply (wp_devBody (held m) c (xStg m c) (wqStg m c) (woStg m c) f2 f3 f0 f1 g3 rfl (fun _ => bodyPost m c)) $$ [HO Ht Hc Hf Hk Hv Hs0 Hs1 Hs2 Hs3 Hx Hwq Hwo Hout]
  · isplitl [HO]
    · unfold Owes
      isplitr; · iexact HKn
      isplitr; · iexact Hlev
      iexists W; iexact HO
    isplitl [Ht]; · iexact Ht
    isplitl [Hc]; · iexact Hc
    isplitl [Hf]; · iexact Hf
    isplitr [Hs1 Hout]
    · unfold attnBufs
      isplitl [Hk]; · iexact Hk
      isplitl [Hv]; · iexact Hv
      isplitl [Hs2]; · iexact Hs2
      isplitl [Hs3]; · iexact Hs3
      isplitl [Hx]; · iexact Hx
      isplitl [Hwq]; · iexact Hwq
      isplitl [Hwo]; · iexact Hwo
      unfold accAll; iexact Hs0
    isplitl [Hs1]; · unfold slotAll; iexact Hs1
    iexact Hout
  unfold attnBufs accAll slotAll
  iintro ⟨HO, Hd, ⟨Hk, Hv, Hs2, Hs3, Hx, Hwq, Hwo, Hs0⟩, ⟨%g, Hs1⟩, Hout⟩
  unfold bodyPost finish scratch Owes Dat.owesAt Pipeline.owesWithin
  icases HO with ⟨-, -, ⟨%W', HO⟩⟩
  rw [show (dats m 0 c).owed t0_0.succ = 0 from rfl]
  isplitl [Hd Hk Hv Hs0 Hs1 Hs2 Hs3]
  · isplitl [Hd]; · iexact Hd
    isplitl [Hk]; · iexact Hk
    isplitl [Hv]; · iexact Hv
    isplitl [Hs0]; · iexists _; iexact Hs0
    isplitl [Hs1]; · iexists _; iexact Hs1
    isplitl [Hs2]; · iexists _; iexact Hs2
    iexists _; iexact Hs3
  isplitl [HO]
  · iexists W'
    isplitr; · ipureintro; exact fun _ _ => Or.inl trivial
    iexact HO
  isplitl [Hx]
  · iexists _; isplitr; · (ipureintro; rfl)
    iexact Hx
  isplitl [Hwq]
  · iexists _; isplitr; · (ipureintro; rfl)
    iexact Hwq
  isplitl [Hwo]
  · iexists _; isplitr; · (ipureintro; rfl)
    iexact Hwo
  iexists _; isplitr; · (ipureintro; rfl)
  iexact Hout

set_option maxRecDepth 20000 in
/-- The library's obligation on the body. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ c none) Set.univ (bodyAt0 t0_0) (fun _ => bodyPost m c)
  rw [show (bodyAt0 (F := F) t0_0) = .op .deviceId fun d0 => theBody (F := F) d0 from cc0_body_eq ..]
  exact sound_body m c

/-! ## The launch's side conditions -/

/-- The memory at launch: every semaphore counter zero. -/
def s₀ : MemSt nD τ sig (Elt F) := ⟨m, fun _ => 0, ρ⟩

def u₀ : UU :=
  (initOf (Pipeline.cells cfgs cellOf_inj) (Pipeline.launchToks cfgs cellOf_inj), initOf allCells allToks)

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' (held m) c)
      ⊢ |={Set.univ}=> iprop(start m c ∗ emp) := by
  rw [Pipeline.unscopedRestP_none, show Pipeline.unscopedRest cfg0.spec c (fun b => m ((c : Thread nD τ).loc b)) = _ from unscopedRest0_eq c _]
  iintro ⟨⟨Hk, Hv⟩, Hlev, Hcr, -, HG⟩
  ihave Hc := (creds (F := F) c) $$ Hcr
  imodintro
  unfold start
  isplitl
  · isplitl [HG]; · iexact HG
    isplitl [Hc]; · iexact Hc
    isplitl [Hlev]; · iexact Hlev
    isplitl [Hk]; · iexact Hk
    iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl, show (Pipeline.scopedRest cfg0.spec c : sProp 𝕄) = scratch c from scopedRest0_eq c]
  iintro ⟨Hs, -, Hr⟩
  isplitl [Hs] <;> iassumption

/-- What a device keeps to the end: its barrier at zero, its keys and its values. -/
def kept (c : Dev nD) : sProp 𝕄 :=
  iprop(unscopedSems0 c ∗ ((c : Thread nD τ).loc main_arg2 ↦{fullShare} (held m).keys c)
    ∗ ((c : Thread nD τ).loc main_arg3 ↦{fullShare} (held m).vals c))

theorem phi1_exit (c : Dev nD) :
    (dats m 0 c).Φ (Fin.last cfg0.N) ⊢ iprop(kept m c ∗ Pipeline.ownSems0 osem c ∗ Pipeline.scopedRest cfg0.spec c) := by
  rw [show (dats m 0 c).Φ (Fin.last cfg0.N) = finish m c from rfl, show (Pipeline.scopedRest cfg0.spec c : sProp 𝕄) = scratch c from scopedRest0_eq c]
  unfold finish kept
  rw [← eachCell_eq]
  unfold done
  rw [← sems0_eq]
  iintro ⟨⟨Hos, Hus⟩, Hk, Hv, Hr⟩
  isplitl [Hus Hk Hv]
  · isplitl [Hus]; · iexact Hus
    isplitl [Hk] <;> iassumption
  isplitl [Hos] <;> iassumption

theorem waits (c : Dev nD) : (levAts L lv : sProp 𝕄) ⊢ Pipeline.cellsWaits cfgs (dats m) () 0 c :=
  Pipeline.cellsWaits_intro cfgs (dats m) () 0 c fun w s t =>
    mayWait (n := 0) c _ (by fin_cases w <;> fin_cases s <;> exact Nat.le_refl 0) (by
      rcases t with ⟨_ | _, ht⟩
      · exact above_owed₀ c
      · exact above_zero 0)

/-! ## The run -/

/-- What the windows' arrays end holding. -/
def finalA (c : Dev nD) (w : Fin cfg0.W) : Buf (Elt F) ((cfg0.win w).arr.view.loc (c : Thread nD τ)) := (dats m 0 c).arrAt w cfg0.N

/-- Keys and values unchanged, and the semaphores outside the call at zero. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg2) = m ((c : Thread nD τ).loc main_arg2)
    ∧ s.mem ((c : Thread nD τ).loc main_arg3) = m ((c : Thread nD τ).loc main_arg3)

theorem kept_read (c : Dev nD) (s' : Phys nD τ sig (Elt F)) :
    iprop(kept m c ∗ emp ∗ SI s') ⊢ (|={Set.univ}=> iprop(⌜QY m c s'.mem⌝ ∗ SI s') : sProp 𝕄) := by
  unfold kept
  iintro ⟨⟨Hu, Hk, Hv⟩, -, HSI⟩
  imod (Pipeline.unscopedSems0_read (X := unscopedSems0 c) (c := c) fupd_intro s') $$ [Hu HSI] with ⟨%hs, HSI⟩
  · isplitl [Hu] <;> iassumption
  ihave H := (persistent_entails_right (SI_pointsTo_agree (st := s') (ℓ := (c : Thread nD τ).loc main_arg2) (I := Finset.univ) (q := fullShare) (f := (held m).keys c))) $$ [HSI Hk]
  · isplitl [HSI] <;> iassumption
  icases H with ⟨%hk, HSI, -⟩
  ihave H := (persistent_entails_right (SI_pointsTo_agree (st := s') (ℓ := (c : Thread nD τ).loc main_arg3) (I := Finset.univ) (q := fullShare) (f := (held m).vals c))) $$ [HSI Hv]
  · isplitl [HSI] <;> iassumption
  icases H with ⟨%hv, HSI, -⟩
  imodintro
  isplitr
  · ipureintro
    exact ⟨hs, funext fun i => hk i (Finset.mem_univ _), funext fun i => hv i (Finset.mem_univ _)⟩
  iexact HSI

/-- What a run ends with: the windows' arrays as computed, keys and values unchanged. -/
def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg2) = m ((c : Thread nD τ).loc main_arg2)
    ∧ r.2.mem ((c : Thread nD τ).loc main_arg3) = m ((c : Thread nD τ).loc main_arg3)

set_option maxRecDepth 20000 in
theorem run_sched : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := owed₀) (howed₀ := fun _ => rfl) (howedN := fun _ => rfl)
    (L := L) (lv := lv) (hL := L_of_ne) (hwaits := waits m)
    (G := G (held m)) (G' := G' (held m)) (u₀ := u₀)
    (hu₀ := by
      unfold u₀
      iintro Hu
      ihave H := (ownU_pair _ _) $$ Hu
      icases H with ⟨HP, HX⟩
      imod (fund_cells (held m)) $$ HX with HG
      imodintro
      isplitl [HP] <;> iassumption)
    (hglob := glob (held m))
    (hA := fun _ _ => rfl) (hpf := fun _ k => k.elim0)
    (X := start m) (Y := kept m) (Z := fun _ => iprop(emp))
    (hX := start_intro m ρ) (hin := phi0_intro m) (hout := phi1_exit m)
    (QY := QY m) (hY := kept_read m)
    (hQ := fun _ h hs => ⟨fun c => ⟨(h c).1, (h c).2.2.2⟩, sem_eq_zero hs fun c => (h c).2.2.1⟩)

/-! ## What the arrays end holding -/

theorem final_in (c : Dev nD) (w : Fin cfg0.W) (h : (cfg0.win w).isOut = false) :
    finalA m c w = m ((cfg0.win w).arr.view.loc (c : Thread nD τ)) := (dats (F := F) m 0 c).arrAt_in w h _

theorem final_out (c : Dev nD) : finalA m c (3 : Fin 4) = outAll m :=
  (dats m 0 c).arrAt_eq_of_cover (3 : Fin 4) (outAll m)
    (fun t _ => by
      obtain rfl := fin_N0 t
      unfold Dat.flushed
      funext i
      exact congrArg (outAll m) (blk3_emb t0_0 i).symm)
    (fun i => ⟨t0_0, flush0_3 _, by
      have := View.emb_mem_set (((cfg0.win (3 : Fin 4)).blk t0_0).view) i
      rw [blk3_emb t0_0 i] at this; exact this⟩)

/-- Every run from any memory ends, with every device's arguments unchanged, its result the reduced sum of all devices'
products, and every semaphore at zero. -/
theorem run_main :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_v1) = outAll m)
      ∧ r.2.sem = fun _ => 0) :=
  (θ_run defs _ _).mono (fun _ h => ⟨fun c => ⟨((h.1 c).1 (0 : Fin 4)).trans (final_in m c 0 rfl), ((h.1 c).1 (1 : Fin 4)).trans (final_in m c 1 rfl),
    (h.1 c).2.1, (h.1 c).2.2, ((h.1 c).1 (2 : Fin 4)).trans (final_in m c 2 rfl), ((h.1 c).1 (3 : Fin 4)).trans (final_out m c)⟩, h.2⟩) (run_sched m ρ)

end Cert.Proof

end
-- ==== Proof.Frames.lean ====
/- The frames: every run of each of the three programs ends, leaves its arguments as they were, and every semaphore at
   zero. -/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

variable {F : FTy → Type} [FloatOps F]

/-- The kernel's frame, for any float values. -/
theorem run_frame (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread _ Cert.KernelIdeal.τ).loc Cert.KernelIdeal.main_arg0) = m ((c.tc : Thread _ Cert.KernelIdeal.τ).loc Cert.KernelIdeal.main_arg0)
        ∧ r.2.mem ((c.tc : Thread _ Cert.KernelIdeal.τ).loc Cert.KernelIdeal.main_arg1) = m ((c.tc : Thread _ Cert.KernelIdeal.τ).loc Cert.KernelIdeal.main_arg1)
        ∧ r.2.mem ((c.tc : Thread _ Cert.KernelIdeal.τ).loc Cert.KernelIdeal.main_arg2) = m ((c.tc : Thread _ Cert.KernelIdeal.τ).loc Cert.KernelIdeal.main_arg2)
        ∧ r.2.mem ((c.tc : Thread _ Cert.KernelIdeal.τ).loc Cert.KernelIdeal.main_arg3) = m ((c.tc : Thread _ Cert.KernelIdeal.τ).loc Cert.KernelIdeal.main_arg3)
        ∧ r.2.mem ((c.tc : Thread _ Cert.KernelIdeal.τ).loc Cert.KernelIdeal.main_arg4) = m ((c.tc : Thread _ Cert.KernelIdeal.τ).loc Cert.KernelIdeal.main_arg4))
      ∧ r.2.sem = fun _ => 0) :=
  (θ_run _ _ _).mono (fun _ h => ⟨fun c => ⟨(h.1 c).1, (h.1 c).2.1, (h.1 c).2.2.1, (h.1 c).2.2.2.1, (h.1 c).2.2.2.2.1⟩, h.2⟩) (run_main m ρ)

/-- The idealized kernel's frame. -/
theorem frame_kernelIdeal : Cert.quiescent_KernelIdeal := fun m ρ _ => run_frame m ρ

/-- The two programs have the same bodies. -/
theorem defs₀_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, _ => rfl

/-- The two programs have the same definitions. -/
theorem defs_eq : Cert.Kernel.defs (F := F) = Cert.KernelIdeal.defs (F := F) := by
  unfold Cert.Kernel.defs Cert.KernelIdeal.defs
  exact congrArg _ defs₀_eq

/-- The kernel's frame at the machine's floats: the two programs are the same. -/
theorem frame_kernel : Cert.quiescent_Kernel := fun m ρ _ => by
  rw [defs_eq]
  exact (θ_run (Cert.KernelIdeal.defs (F := Bits)) _ _).mono (fun _ h => h) (run_frame (F := Bits) m ρ)

/-- The reference's frame. -/
theorem frame_reference : Cert.quiescent_ReferenceIdeal := fun m ρ _ =>
  (θ_run (Cert.ReferenceIdeal.defs (F := Ideal)) _ _).mono
    (fun r h => ⟨fun c => (h c).2, sem_eq_zero_of_no_sems (by decide) r.2⟩)
    (Cert.ReferenceIdeal.Value.run (F := Ideal) m ρ)

end Cert.Proof

end
-- ==== Proof.Attn.lean ====
/- Masked attention over the extended reals.

   The mathematics both programs compute for one (batch, head) pair: the scores of the queries against the keys under
   the local-and-global mask, their row-wise softmax, and the mean of the values it weighs. -/
module

public import Idealize.ShloMosaic.Lib.Pointwise

@[expose] public section

noncomputable section

namespace Cert.Proof

open Idealize.ShloMosaic

/-- The mask at query `i` and key `j`: they are near, or one of them is among the first 32. -/
def mask (i j : Fin 256) : BitVec 1 :=
  IntOp.ori (IntOp.ori (IntOp.cmpi .sle (IntOp.absi (IntOp.subi (BitVec.ofNat 32 i) (BitVec.ofNat 32 j))) 128#32)
    (IntOp.cmpi .slt (BitVec.ofNat 32 j) 32#32)) (IntOp.cmpi .slt (BitVec.ofNat 32 i) 32#32)

/-- The score of query `i` and key `j`. -/
def scoreOf (q k : Fin 256 → Fin 64 → EReal) (i j : Fin 256) : EReal :=
  Scalar.select (mask i j) ((∑ d, q i d * k j d) * Ideal.ofBits FTy.f32 0x3E000000#32) (Ideal.ofBits FTy.f32 0xCE6E6B28#32)

/-- The exponential of entry `j` of a row less the row's largest. -/
def expOf (s : Fin 256 → EReal) (j : Fin 256) : EReal :=
  Ideal.exp (s j - Finset.fold max (Ideal.ofBits FTy.f32 0xFF800000#32) (fun x => s x) Finset.univ)

/-- Entry `j` of the softmax of a row. -/
def softOf (s : Fin 256 → EReal) (j : Fin 256) : EReal := Ideal.div (expOf s j) (∑ x, expOf s x)

/-- The attention of one pair at query `i`, dimension `d`. -/
def headOf (q k v : Fin 256 → Fin 64 → EReal) (i : Fin 256) (d : Fin 64) : EReal :=
  ∑ j, softOf (scoreOf q k i) j * v j d

/-- The mask lets every query see the first key. -/
theorem mask_zero (i : Fin 256) : mask i 0 = 1#1 := by
  revert i; decide

/-- A sum over `m * k` columns, by group of `k` and place in the group. -/
theorem sum_cut {m k N : ℕ} (h : N = m * k) (f : Fin N → EReal) :
    ∑ e, f e = ∑ a : Fin m, ∑ d : Fin k, f ⟨k * a.val + d.val, by
      have := a.isLt; have := d.isLt; subst h; calc
        k * a.val + d.val < k * a.val + k := by omega
        _ = (a.val + 1) * k := by rw [Nat.add_mul, Nat.one_mul, Nat.mul_comm]
        _ ≤ m * k := Nat.mul_le_mul_right _ (by omega)⟩ := by
  subst h
  rw [← Fintype.sum_prod_type']
  refine (Fintype.sum_equiv (finProdFinEquiv (m := m) (n := k)) _ _ fun p => congrArg f (Fin.ext ?_)).symm
  exact Nat.add_comm _ _

end Cert.Proof

end
-- ==== Proof.Head.lean ====
/- The attention of one (batch, head) pair, as the kernel computes it.

   The kernel writes the attention of its eight pairs out one after the other. Here it is written once, and the
   device's partial product is the product of the eight laid side by side with its output weights. -/
module

public import proofs.«01_k».proof.Proof.Body
public import proofs.«01_k».proof.Proof.Attn

@[expose] public section

noncomputable section

namespace Cert.Proof

open Cert.KernelIdeal Cert.KernelIdeal.Gen
open Idealize.ShloMosaic

section Ops

variable {F : FTy → Type} [FloatOps F]

/-- The masked scores of a block of queries against a block of keys. -/
def scoreOps (q : FVec F S256x64 .f32) (k : Vec F S1x256x1x64 .f32) : FVec F S256x256 .f32 :=
  select k0_pay3
    (mulf (matmul dot_S256x64_S64x256_S256x256_1_0_0_1_n_n none q
        (transpose S64x256 [1, 0] (shapeCast S256x64 k shapeCasts_S1x256x1x64_S256x64) transposes_S256x64_p1_0_S64x256)
        (constant S256x256 .f32 0x00000000#32))
      (broadcast S256x256 (Scalar.ofBits .f32 0x3E000000#32 : F .f32)))
    (broadcast S256x256 (Scalar.ofBits .f32 0xCE6E6B28#32 : F .f32))

/-- The exponentials of the scores less their row's largest. -/
def expOps (s : FVec F S256x256 .f32) : FVec F S256x256 .f32 :=
  exp (subf s (broadcastTo S256x256
    (shapeCast S256x1 (multiReduction .maximumf [1] S256 s 0xFF800000#32 reduces_S256x256_S256 (.inl rfl) rfl) shapeCasts_S256_S256x1)
    broadcasts_S256x1_S256x256))

/-- The exponentials over their row's sum, times the values. -/
def mixOps (e : FVec F S256x256 .f32) (v : Vec F S1x256x1x64 .f32) : FVec F S256x64 .f32 :=
  matmul dot_S256x256_S256x64_S256x64_1_0_0_1_n_n none
    (divf e (broadcastTo S256x256
      (shapeCast S256x1 (multiReduction .add [1] S256 e 0x00000000#32 reduces_S256x256_S256 (.inl rfl) rfl) shapeCasts_S256_S256x1)
      broadcasts_S256x1_S256x256))
    (shapeCast S256x64 v shapeCasts_S1x256x1x64_S256x64) (constant S256x64 .f32 0x00000000#32)

/-- The attention of one pair. -/
def headOps (q : FVec F S256x64 .f32) (k v : Vec F S1x256x1x64 .f32) : FVec F S256x64 .f32 :=
  mixOps (expOps (scoreOps q k)) v

/-- The attention of one batch: its four heads side by side. -/
def batchOps (h : Fin 4 → FVec F S256x64 .f32) : FVec F S256x256 .f32 :=
  concatenate S256x256 1 [⟨S256x64, h 0⟩, ⟨S256x64, h 1⟩, ⟨S256x64, h 2⟩, ⟨S256x64, h 3⟩]
    concatenates_S256x64_S256x64_S256x64_S256x64_S256x256_d1

/-- The device's partial product, from the attention of its two batches. -/
def prodOps (b0 b1 : FVec F S256x256 .f32) (wo : Vec F S256x512 .f32) : FVec F S512x512 .f32 :=
  matmul dot_S512x256_S256x512_S512x512_1_0_0_1_n_n none
    (concatenate S512x256 0 [⟨S256x256, b0⟩, ⟨S256x256, b1⟩] concatenates_S256x256_S256x256_S512x256_d0)
    (shapeCast S256x512 wo shapeCasts_S256x512_S256x512) (constant S512x512 .f32 0x00000000#32)

set_option maxRecDepth 8192 in
/-- The partial product is the product of the eight pairs' attention with the output weights. -/
theorem partOf_eq (x : Vec F S2x256x512 .f32) (wq : Vec F S512x256 .f32)
    (k0 v0 k1 v1 k2 v2 k3 v3 k4 v4 k5 v5 k6 v6 k7 v7 : Vec F S1x256x1x64 .f32) (wo : Vec F S256x512 .f32) :
    partOf x wq k0 v0 k1 v1 k2 v2 k3 v3 k4 v4 k5 v5 k6 v6 k7 v7 wo
    = shapeCast S512x512 (prodOps
        (batchOps ![headOps (extractStridedSlice S256x64 ![0, 0] (k0_pay2 (k0_pay1 x) wq) slices_S512x256_o0_0_S256x64) k0 v0,
          headOps (extractStridedSlice S256x64 ![0, 64] (k0_pay2 (k0_pay1 x) wq) slices_S512x256_o0_64_S256x64) k1 v1,
          headOps (extractStridedSlice S256x64 ![0, 128] (k0_pay2 (k0_pay1 x) wq) slices_S512x256_o0_128_S256x64) k2 v2,
          headOps (extractStridedSlice S256x64 ![0, 192] (k0_pay2 (k0_pay1 x) wq) slices_S512x256_o0_192_S256x64) k3 v3])
        (batchOps ![headOps (extractStridedSlice S256x64 ![256, 0] (k0_pay2 (k0_pay1 x) wq) slices_S512x256_o256_0_S256x64) k4 v4,
          headOps (extractStridedSlice S256x64 ![256, 64] (k0_pay2 (k0_pay1 x) wq) slices_S512x256_o256_64_S256x64) k5 v5,
          headOps (extractStridedSlice S256x64 ![256, 128] (k0_pay2 (k0_pay1 x) wq) slices_S512x256_o256_128_S256x64) k6 v6,
          headOps (extractStridedSlice S256x64 ![256, 192] (k0_pay2 (k0_pay1 x) wq) slices_S512x256_o256_192_S256x64) k7 v7])
        wo) shapeCasts_S512x512_S512x512 := rfl

end Ops

set_option maxRecDepth 16384 in
/-- The scores, entry by entry. -/
theorem scoreOps_apply (q : FVec Ideal S256x64 .f32) (k : Vec Ideal S1x256x1x64 .f32) (i j : Fin 256) :
    scoreOps q k (ix2 i j) = scoreOf (fun i d => q (ix2 i d)) (fun j d => k (ix4 0 j 0 d)) i j := by
  pointwise [scoreOps, k0_pay3]
  rfl

set_option maxRecDepth 16384 in
/-- The exponentials, entry by entry. -/
theorem expOps_apply (s : FVec Ideal S256x256 .f32) (i j : Fin 256) :
    expOps s (ix2 i j) = expOf (fun j => s (ix2 i j)) j := by
  pointwise [expOps]
  rfl

set_option maxRecDepth 16384 in
/-- The attention of one pair, entry by entry. -/
theorem headOps_apply (q : FVec Ideal S256x64 .f32) (k v : Vec Ideal S1x256x1x64 .f32) (i : Fin 256) (d : Fin 64) :
    headOps q k v (ix2 i d)
      = headOf (fun i d => q (ix2 i d)) (fun j d => k (ix4 0 j 0 d)) (fun j d => v (ix4 0 j 0 d)) i d := by
  unfold headOps
  pointwise [mixOps]
  simp only [expOps_apply, scoreOps_apply]
  rfl

/-- The attention of a batch: column `64 h + d` is dimension `d` of head `h`. -/
theorem batchOps_apply (h : Fin 4 → FVec Ideal S256x64 .f32) (i : Fin 256) (a : Fin 4) (d : Fin 64) :
    batchOps h (ix2 i ⟨64 * a.val + d.val, by omega⟩) = h a (ix2 i d) := by
  pointwise [batchOps]
  have := d.isLt
  fin_cases a <;> dsimp only <;> split_ifs <;>
    first
    | (exfalso; omega)
    | exact congrArg (h _) (congrArg (ix2 i) (Fin.ext (by dsimp only; omega)))

end Cert.Proof

end
-- ==== Proof.Part.lean ====
/- The partial product of one device, entry by entry. -/
module

public import proofs.«01_k».proof.Proof.Head
public import proofs.«01_k».proof.Proof.Phases

@[expose] public section

noncomputable section

namespace Cert.Proof

open Cert.KernelIdeal Cert.KernelIdeal.Gen
open Idealize.ShloMosaic

section Pairs

variable {F : FTy → Type} [FloatOps F]

/-- Where a pair's queries lie among all the device's, -/
theorem pair_slices (b : Fin 2) (a : Fin 4) : S512x256.Slices ![256 * b.val, 64 * a.val] S256x64 := by
  revert b a; decide

/-- and its keys and values among the copied ones. -/
theorem pair_inb (b : Fin 2) (a : Fin 4) (x : Fin 4) :
    (![b.val, 0, a.val, 0] : Fin 4 → ℕ) x + S1x256x1x64.size x ≤ S2x256x4x64.size x := by
  revert b a x; decide

/-- The attention of head `a` of batch `b`. -/
def pairOps (x : Vec F S2x256x512 .f32) (wq : Vec F S512x256 .f32) (ks : (cc0_scratch2 : Ref sig .tc).ty.Contents (Elt F))
    (vs : (cc0_scratch3 : Ref sig .tc).ty.Contents (Elt F)) (b : Fin 2) (a : Fin 4) : FVec F S256x64 .f32 :=
  headOps (extractStridedSlice S256x64 ![256 * b.val, 64 * a.val] (k0_pay2 (k0_pay1 x) wq) (pair_slices b a))
    (kHead ks ![b.val, 0, a.val, 0] (pair_inb b a)) (vHead vs ![b.val, 0, a.val, 0] (pair_inb b a))

/-- The partial product, from the attention of the pairs. -/
theorem partD_eq (x : Vec F S2x256x512 .f32) (wq : Vec F S512x256 .f32) (ks : (cc0_scratch2 : Ref sig .tc).ty.Contents (Elt F))
    (vs : (cc0_scratch3 : Ref sig .tc).ty.Contents (Elt F)) (wo : Vec F S256x512 .f32) :
    partD x wq ks vs wo
      = shapeCast S512x512 (prodOps (batchOps (pairOps x wq ks vs 0)) (batchOps (pairOps x wq ks vs 1)) wo)
          shapeCasts_S512x512_S512x512 :=
  (partOf_eq ..).trans rfl

end Pairs

/-- The query projection of row `i` of batch `b` on the device's head `a`. -/
abbrev queryOf (x : Vec Ideal S2x256x512 .f32) (wq : Vec Ideal S512x256 .f32) (b : Fin 2) (a : Fin 4) (i : Fin 256)
    (d : Fin 64) : EReal :=
  ∑ t, x (ix3 b i t) * wq (ix2 t ⟨64 * a.val + d.val, by omega⟩)

set_option maxRecDepth 16384 in
/-- A pair's queries are that projection. -/
theorem query_apply (x : Vec Ideal S2x256x512 .f32) (wq : Vec Ideal S512x256 .f32) (b : Fin 2) (a : Fin 4) (i : Fin 256)
    (d : Fin 64) :
    extractStridedSlice S256x64 ![256 * b.val, 64 * a.val] (k0_pay2 (k0_pay1 x) wq) (pair_slices b a) (ix2 i d)
      = queryOf x wq b a i d := by
  pointwise [k0_pay2, k0_pay1]

/-- A pair's block starts at the pair. -/
theorem pair_emb (b : Fin 2) (a : Fin 4) (j : Fin 256) (d : Fin 64) :
    (Rect.unit (s := S2x256x4x64) ![b.val, 0, a.val, 0] S1x256x1x64.size (pair_inb b a)).emb (ix4 0 j 0 d) = ix4 b j a d := by
  funext x
  refine Fin.ext ?_
  fin_cases x <;> simp [Rect.unit, Rect.emb, ix4]

/-- A pair's keys are the copied ones at the pair, -/
theorem kHead_apply (ks : (cc0_scratch2 : Ref sig .tc).ty.Contents (Elt Ideal)) (b : Fin 2) (a : Fin 4) (j : Fin 256)
    (d : Fin 64) : kHead ks ![b.val, 0, a.val, 0] (pair_inb b a) (ix4 0 j 0 d) = ks (ix4 b j a d) :=
  congrArg ks (pair_emb b a j d)

/-- and so are its values. -/
theorem vHead_apply (vs : (cc0_scratch3 : Ref sig .tc).ty.Contents (Elt Ideal)) (b : Fin 2) (a : Fin 4) (j : Fin 256)
    (d : Fin 64) : vHead vs ![b.val, 0, a.val, 0] (pair_inb b a) (ix4 0 j 0 d) = vs (ix4 b j a d) :=
  congrArg vs (pair_emb b a j d)

/-- The attention of one pair, from the device's arrays. -/
abbrev attnOf (x : Vec Ideal S2x256x512 .f32) (wq : Vec Ideal S512x256 .f32)
    (ks : (cc0_scratch2 : Ref sig .tc).ty.Contents (Elt Ideal)) (vs : (cc0_scratch3 : Ref sig .tc).ty.Contents (Elt Ideal))
    (b : Fin 2) (a : Fin 4) : Fin 256 → Fin 64 → EReal :=
  headOf (queryOf x wq b a) (fun j d => ks (ix4 b j a d)) (fun j d => vs (ix4 b j a d))

/-- The operations on a pair compute that attention. -/
theorem pairOps_apply (x : Vec Ideal S2x256x512 .f32) (wq : Vec Ideal S512x256 .f32)
    (ks : (cc0_scratch2 : Ref sig .tc).ty.Contents (Elt Ideal)) (vs : (cc0_scratch3 : Ref sig .tc).ty.Contents (Elt Ideal))
    (b : Fin 2) (a : Fin 4) (i : Fin 256) (d : Fin 64) :
    pairOps x wq ks vs b a (ix2 i d) = attnOf x wq ks vs b a i d := by
  unfold pairOps
  rw [headOps_apply]
  simp only [query_apply, kHead_apply, vHead_apply]

/-- The two batches one under the other times the output weights: row `256 b + i` is row `i` of batch `b`. -/
theorem prodOps_apply (h : Fin 2 → FVec Ideal S256x256 .f32) (wo : Vec Ideal S256x512 .f32) (b : Fin 2) (i : Fin 256)
    (n : Fin 512) :
    prodOps (h 0) (h 1) wo (ix2 ⟨256 * b.val + i.val, by omega⟩ n) = ∑ e : Fin 256, h b (ix2 i e) * wo (ix2 e n) := by
  pointwise [prodOps]
  refine Finset.sum_congr rfl fun e _ => ?_
  fin_cases b <;> dsimp only <;> split_ifs <;>
    first
    | (exfalso; omega)
    | exact congrArg (· * _) (congrArg (h _) (congrArg (fun i => ix2 i e) (Fin.ext (by dsimp only; omega))))

/-- Row `256 b + i` of the partial product is row `i` of batch `b`: the sum over the device's heads and dimensions of the
    attention times the output weights. -/
theorem partD_apply (x : Vec Ideal S2x256x512 .f32) (wq : Vec Ideal S512x256 .f32)
    (ks : (cc0_scratch2 : Ref sig .tc).ty.Contents (Elt Ideal)) (vs : (cc0_scratch3 : Ref sig .tc).ty.Contents (Elt Ideal))
    (wo : Vec Ideal S256x512 .f32) (b : Fin 2) (i : Fin 256) (n : Fin 512) :
    partD x wq ks vs wo (ix2 ⟨256 * b.val + i.val, by omega⟩ n)
      = ∑ a : Fin 4, ∑ d : Fin 64, attnOf x wq ks vs b a i d * wo (ix2 ⟨64 * a.val + d.val, by omega⟩ n) := by
  rw [partD_eq]
  refine (congrFun (shapeCast_self _ _) _).trans ?_
  rw [prodOps_apply (fun b => batchOps (pairOps x wq ks vs b)), sum_cut (m := 4) (k := 64) rfl]
  simp only [batchOps_apply, pairOps_apply]

end Cert.Proof

end
-- ==== Proof.Sum.lean ====
/- The gathered result is the sum of all devices' partial products. -/
module

public import proofs.«01_k».proof.Proof.Blocks
public import proofs.«01_k».proof.Proof.Out
public import Idealize.ShloMosaic.Lib.Pointwise

@[expose] public section

noncomputable section

namespace Cert.Proof

open Cert.KernelIdeal Cert.KernelIdeal.Gen
open Idealize.ShloMosaic

/-- Adding a block per hop, at one entry: the start plus the sum over the list. -/
theorem foldl_addf (l : List (Fin 31)) (v : Vec Ideal S16x512 .f32) (w : Fin 31 → Vec Ideal S16x512 .f32) (x : S16x512.Idx) :
    (l.foldl (fun acc r => addf (F := Ideal) (φ := .f32) acc (w r)) v) x = (v x : EReal) + (l.map fun r => (w r x : EReal)).sum := by
  induction l generalizing v with
  | nil => exact (add_zero _).symm
  | cons r l ih =>
    rw [List.foldl_cons, ih, List.map_cons, List.sum_cons, ← add_assoc]
    rfl

/-- A device's own term and those of its 31 hops are the terms of all devices. -/
theorem sum_hops (f : Dev nD → EReal) (c : Dev nD) : f c + (hops.map fun r => f (devOf c r)).sum = ∑ s, f s := by
  have h : (hops.map fun r => f (devOf c r)).sum = ∑ r, f (devOf c r) := by
    rw [hops_univ, List.sum_toFinset _ hops_nodup]
  have e : Finset.univ.erase c = Finset.univ.map ⟨devOf c, devOf_inj c⟩ := by
    ext s
    simp only [Finset.mem_erase, Finset.mem_univ, and_true, Finset.mem_map, true_and, Function.Embedding.coeFn_mk]
    exact ⟨exists_hop, fun ⟨r, hr⟩ => hr ▸ devOf_ne c r⟩
  rw [h, ← Finset.add_sum_erase Finset.univ f (Finset.mem_univ c), e, Finset.sum_map]
  rfl

/-- The gathered result at an entry is the sum over the devices of their partial products there. -/
theorem finC_apply (A : Dev nD → Sq Ideal) (i : S512x512.Idx) : finC A i = ∑ c : Dev nD, (show EReal from A c i) := by
  unfold finC redC
  rw [foldl_addf, ← sum_hops (fun c => A c i) (owner i)]
  have e : ∀ s, blockOf (owner i) (A s) (at16 (rowOf i) (i 1)) = A s i := fun s => congrArg (A s) (rowAt_owner i)
  simp only [e]

/-- The output at row `i` of batch `b` is the gathered result at row `256 b + i`. -/
theorem outOf_apply (g : Sq Ideal) (b : Fin 2) (i : Fin 256) (n : Fin 512) :
    outOf g (ix3 b i n) = g (ix2 ⟨256 * b.val + i.val, by omega⟩ n) :=
  congrArg g (by
    funext x
    refine Fin.ext ?_
    fin_cases x <;> rfl)

end Cert.Proof

end
-- ==== Proof.Ref.lean ====
/- The reference's result, entry by entry. -/
module

public import proofs.«01_k».proof.Proof.Attn
public import proofs.«01_k».proof.Proof.Gen.ReferenceIdeal.Run

@[expose] public section

noncomputable section

namespace Cert.Proof

open Cert.ReferenceIdeal Cert.ReferenceIdeal.Gen
open Idealize.ShloMosaic

/-- The reference's mask, its disjunction bracketed the other way. -/
theorem mask_assoc (i j : Fin 256) :
    IntOp.ori (IntOp.cmpi .sle (IntOp.absi (IntOp.subi (BitVec.ofNat 32 i) (BitVec.ofNat 32 j))) 128#32)
      (IntOp.ori (IntOp.cmpi .slt (BitVec.ofNat 32 j) 32#32) (IntOp.cmpi .slt (BitVec.ofNat 32 i) 32#32)) = mask i j :=
  (BitVec.or_assoc _ _ _).symm

/-- Every query has a key the mask lets it see. -/
theorem keep_row (i : Fin 256) : Finset.fold IntOp.ori 0#1 (fun j => mask i j) Finset.univ = 1#1 := by
  rw [← Finset.insert_erase (Finset.mem_univ (0 : Fin 256)), Finset.fold_insert (Finset.notMem_erase _ _), mask_zero]
  generalize Finset.fold IntOp.ori 0#1 _ _ = y
  revert y; decide

/-- A spread constant reads as the constant. -/
theorem const_apply (w : BitVec 32) : (id (constant (F := Ideal) S_ FTy.f32 w) : FVec Ideal S_ .f32) ix0 = Ideal.ofBits FTy.f32 w := rfl

/-- A choice on a bit that is set. -/
theorem select_one (a b : EReal) : Scalar.select 1#1 a b = a := rfl

/-- The query projection of row `i` of batch `b` on head `a`. -/
abbrev queryR (x : FVec Ideal S2x256x512 .f32) (wq : FVec Ideal S512x8192 .f32) (b : Fin 2) (a : Fin 128) (i : Fin 256)
    (d : Fin 64) : EReal :=
  ∑ t, x (ix3 b i t) * wq (ix2 t ⟨a.val * 64 + d.val, by omega⟩)

/-- The attention of head `a` of batch `b`, from the whole arrays. -/
abbrev attnR (x : FVec Ideal S2x256x512 .f32) (wq : FVec Ideal S512x8192 .f32) (ks vs : FVec Ideal S2x256x128x64 .f32)
    (b : Fin 2) (a : Fin 128) : Fin 256 → Fin 64 → EReal :=
  headOf (queryR x wq b a) (fun j d => ks (ix4 b j a d)) (fun j d => vs (ix4 b j a d))

/-- The sum over all columns of the attention of the column's head, at its dimension, times the output weights. -/
abbrev resR (x : FVec Ideal S2x256x512 .f32) (wq : FVec Ideal S512x8192 .f32) (ks vs : FVec Ideal S2x256x128x64 .f32)
    (wo : FVec Ideal S8192x512 .f32) (b : Fin 2) (i : Fin 256) (n : Fin 512) : EReal :=
  ∑ e : Fin 8192, attnR x wq ks vs b ⟨e.val / 64, by omega⟩ i ⟨e.val % 64, by omega⟩ * wo (ix2 e n)

set_option maxRecDepth 16384 in
set_option maxHeartbeats 4000000 in
/-- The result at row `i` of batch `b` is that sum. -/
theorem res_apply (m : (ℓ : Loc nD τ sig) → Buf (Elt Ideal) ℓ) (c : Dev nD) (b : Fin 2) (i : Fin 256) (n : Fin 512) :
    Cert.ReferenceIdeal.Value.res_main_v42 m c (ix3 b i n)
      = resR (m (c.tc.loc main_arg0)) (m (c.tc.loc main_arg1)) (m (c.tc.loc main_arg2)) (m (c.tc.loc main_arg3))
          (m (c.tc.loc main_arg4)) b i n := by
  unfold Cert.ReferenceIdeal.Value.res_main_v42
  pointwise
  simp only [mask_assoc, keep_row, const_apply, select_one]
  change @Eq EReal _ _
  refine Finset.sum_congr rfl fun e _ => congrArg (· * _) (Finset.sum_congr rfl fun j _ => (mul_comm _ _).trans ?_)
  rfl

end Cert.Proof

end
-- ==== Proof.Value.lean ====
/- The kernel's result is the reference's.

   Device `c` of the 32 computes heads `4 c` to `4 c + 3` of the 128, and the output's contribution of their 256 columns.
   The sum of the devices' partial products is therefore the reference's sum over all 8192 columns. -/
module

public import proofs.«01_k».proof.Defs
public import proofs.«01_k».proof.Proof.Part
public import proofs.«01_k».proof.Proof.Sum
public import proofs.«01_k».proof.Proof.Ref
public import proofs.«01_k».proof.Proof.Run
public import Idealize.ShloMosaic.Lib.Layout

@[expose] public section

noncomputable section

namespace Cert.Proof

open Cert.KernelIdeal Cert.KernelIdeal.Gen
open Idealize.ShloMosaic Idealize.ShloMosaic.TcCoe Idealize.SL.Sem

/-- The head of the whole that is device `c`'s head `a`. -/
abbrev headNo (c : Dev nD) (a : Fin 4) : Fin 128 := ⟨4 * c.val + a.val, by
  have := c.isLt; have := a.isLt; dsimp only [nD] at *; omega⟩

/-! ## A device's share of the whole arrays -/

/-- A device's heads start at its first one. -/
theorem headView_emb (c : Dev nD) (b : Fin 2) (j : Fin 256) (a : Fin 4) (d : Fin 64) :
    (Rect.unit (s := S2x256x128x64) (k0_off1 c) S2x256x4x64.size (k0_off1_inb c)).emb (ix4 b j a d) = ix4 b j (headNo c a) d := by
  funext x
  refine Fin.ext ?_
  rw [Rect.emb_apply]
  show k0_off1 c x + 1 * (ix4 b j a d x).val = _
  rw [k0_off1_eq]
  fin_cases x <;> simp [ix4]

/-- A device's copied keys are those of its heads, -/
theorem keys_apply (c : Dev nD) (ks : FVec Ideal S2x256x128x64 .f32) (b : Fin 2) (j : Fin 256) (a : Fin 4) (d : Fin 64) :
    (headView c keysM).view.read (Elt Ideal) ks (ix4 b j a d) = ks (ix4 b j (headNo c a) d) :=
  congrArg ks (headView_emb c b j a d)

/-- and so are its copied values. -/
theorem vals_apply (c : Dev nD) (vs : FVec Ideal S2x256x128x64 .f32) (b : Fin 2) (j : Fin 256) (a : Fin 4) (d : Fin 64) :
    (headView c valsM).view.read (Elt Ideal) vs (ix4 b j a d) = vs (ix4 b j (headNo c a) d) :=
  congrArg vs (headView_emb c b j a d)

/-- A device's query weights are the columns of its heads, -/
theorem wq_apply (c : Dev nD) (wq : FVec Ideal ⟨2, ![512, 8192]⟩ .f32) (h : Layout.Tiles ⟨2, ![512, 256]⟩ ⟨2, ![512, 8192]⟩ 1 32)
    (t : Fin 512) (a : Fin 4) (d : Fin 64) :
    Layout.block ⟨2, ![512, 256]⟩ ⟨2, ![512, 8192]⟩ 1 32 c wq h (ix2 t ⟨64 * a.val + d.val, by omega⟩)
      = wq (ix2 t ⟨(headNo c a).val * 64 + d.val, by have := (headNo c a).isLt; omega⟩) := by
  rw [Layout.block_apply]
  refine congrArg wq (funext fun x => Fin.ext ?_)
  fin_cases x
  · exact (Layout.idx_cols_val h c _).1
  · refine (Layout.idx_cols_val h c _).2.trans ?_
    show c.val * 256 + (64 * a.val + d.val) = (4 * c.val + a.val) * 64 + d.val
    omega

/-- and its output weights are their rows. -/
theorem wo_apply (c : Dev nD) (wo : FVec Ideal ⟨2, ![8192, 512]⟩ .f32) (h : Layout.Tiles ⟨2, ![256, 512]⟩ ⟨2, ![8192, 512]⟩ 0 32)
    (a : Fin 4) (d : Fin 64) (n : Fin 512) :
    Layout.block ⟨2, ![256, 512]⟩ ⟨2, ![8192, 512]⟩ 0 32 c wo h (ix2 ⟨64 * a.val + d.val, by omega⟩ n)
      = wo (ix2 ⟨64 * (headNo c a).val + d.val, by have := (headNo c a).isLt; omega⟩ n) := by
  rw [Layout.block_apply]
  refine congrArg wo (funext fun x => Fin.ext ?_)
  fin_cases x
  · refine (Layout.idx_rows_val h c _).1.trans ?_
    show c.val * 256 + (64 * a.val + d.val) = 64 * (4 * c.val + a.val) + d.val
    omega
  · exact (Layout.idx_rows_val h c _).2

/-- A device's attention on its head `a` is the whole's on that head. -/
theorem attn_share (c : Dev nD) (x : FVec Ideal S2x256x512 .f32) (wq : FVec Ideal ⟨2, ![512, 8192]⟩ .f32)
    (ks vs : FVec Ideal S2x256x128x64 .f32) (h : Layout.Tiles ⟨2, ![512, 256]⟩ ⟨2, ![512, 8192]⟩ 1 32) (b : Fin 2) (a : Fin 4) :
    attnOf x (Layout.block ⟨2, ![512, 256]⟩ ⟨2, ![512, 8192]⟩ 1 32 c wq h) ((headView c keysM).view.read (Elt Ideal) ks)
        ((headView c valsM).view.read (Elt Ideal) vs) b a
      = attnR x wq ks vs b (headNo c a) := by
  refine congr (congr (congrArg headOf (funext fun i => funext fun d => ?_)) (funext fun j => funext fun d => ?_))
    (funext fun j => funext fun d => ?_)
  · exact Finset.sum_congr rfl fun t _ => congrArg (_ * ·) (wq_apply c wq h t a d)
  · exact keys_apply c ks b j a d
  · exact vals_apply c vs b j a d

/-! ## The sum over the devices -/

/-- The reference's sum over the columns, by device, head and dimension. -/
theorem resR_eq (x : FVec Ideal S2x256x512 .f32) (wq : FVec Ideal ⟨2, ![512, 8192]⟩ .f32) (ks vs : FVec Ideal S2x256x128x64 .f32)
    (wo : FVec Ideal ⟨2, ![8192, 512]⟩ .f32) (b : Fin 2) (i : Fin 256) (n : Fin 512) :
    resR x wq ks vs wo b i n
      = ∑ c : Dev nD, ∑ a : Fin 4, ∑ d : Fin 64, attnR x wq ks vs b (headNo c a) i d
          * wo (ix2 ⟨64 * (headNo c a).val + d.val, by have := (headNo c a).isLt; omega⟩ n) := by
  unfold resR
  rw [sum_cut (m := 128) (k := 64) rfl, sum_cut (m := 32) (k := 4) rfl]
  refine Finset.sum_congr rfl fun c _ => Finset.sum_congr rfl fun a _ => Finset.sum_congr rfl fun d _ => ?_
  have e₁ : (64 * (4 * c.val + a.val) + d.val) / 64 = 4 * c.val + a.val := by omega
  have e₂ : (64 * (4 * c.val + a.val) + d.val) % 64 = d.val := by omega
  simp only [e₁, e₂]

/-- The output of devices that hold their shares of the arrays is the reference's, entry by entry. -/
theorem out_apply (m : (ℓ : Loc nD τ sig) → Buf (Elt Ideal) ℓ)
    (x : FVec Ideal S2x256x512 .f32) (wq : FVec Ideal ⟨2, ![512, 8192]⟩ .f32) (ks vs : FVec Ideal S2x256x128x64 .f32)
    (wo : FVec Ideal ⟨2, ![8192, 512]⟩ .f32)
    (hx : ∀ c : Dev nD, m ((c.tc : Thread nD τ).loc main_arg0) = x)
    (hq : ∀ c : Dev nD, m ((c.tc : Thread nD τ).loc main_arg1) = Layout.block ⟨2, ![512, 256]⟩ ⟨2, ![512, 8192]⟩ 1 32 c wq)
    (hk : ∀ c : Dev nD, m ((c.tc : Thread nD τ).loc main_arg2) = ks)
    (hv : ∀ c : Dev nD, m ((c.tc : Thread nD τ).loc main_arg3) = vs)
    (ho : ∀ c : Dev nD, m ((c.tc : Thread nD τ).loc main_arg4) = Layout.block ⟨2, ![256, 512]⟩ ⟨2, ![8192, 512]⟩ 0 32 c wo)
    (b : Fin 2) (i : Fin 256) (n : Fin 512) :
    outAll m (ix3 b i n) = resR x wq ks vs wo b i n := by
  unfold outAll
  rw [outOf_apply, finC_apply, resR_eq]
  change @Eq EReal _ _
  refine Finset.sum_congr rfl fun c _ => ?_
  have e : (held m).part c = partD x (Layout.block ⟨2, ![512, 256]⟩ ⟨2, ![512, 8192]⟩ 1 32 c wq)
      ((headView c keysM).view.read (Elt Ideal) ks) ((headView c valsM).view.read (Elt Ideal) vs)
      (Layout.block ⟨2, ![256, 512]⟩ ⟨2, ![8192, 512]⟩ 0 32 c wo) := by
    unfold held xStg wqStg woStg
    dsimp only
    rw [hx c, hq c, hk c, hv c, ho c]
  rw [e]
  refine (partD_apply ..).trans ?_
  change @Eq EReal _ _
  exact Finset.sum_congr rfl fun a _ => Finset.sum_congr rfl fun d _ =>
    congrArg₂ (· * ·) (congrFun (congrFun (attn_share c x wq ks vs _ b a) i) d) (wo_apply c wo _ a d n)

/-! ## The claim -/

/-- On shares of the reference's arrays the kernel's devices all end with the reference's result. -/
theorem algebraic : Cert.algebraic_KernelIdeal_ReferenceIdeal := fun m g m' g' _ h => by
  refine ⟨Cert.ReferenceIdeal.Value.res_main_v42 m' 0, ?_, ?_⟩
  · refine (θ_run _ _ _).mono (fun r hr c => ?_) (run_main m g)
    obtain ⟨h0, h1, h2, h3, h4, hout⟩ := hr.1 c
    refine ⟨hout.trans (funext fun idx => ?_), h0, h1, h2, h3, h4⟩
    obtain ⟨b, i, n, rfl⟩ : ∃ b i n, idx = ix3 b i n := ⟨idx 0, idx 1, idx 2, by funext a; fin_cases a <;> rfl⟩
    exact (out_apply m _ _ _ _ _ (fun c => (h c).1) (fun c => (h c).2.1) (fun c => (h c).2.2.1) (fun c => (h c).2.2.2.1)
      (fun c => (h c).2.2.2.2) b i n).trans (res_apply m' 0 b i n).symm
  · exact (θ_run _ _ _).mono (fun r hr => hr 0) (Cert.ReferenceIdeal.Value.run (F := Ideal) m' g')

end Cert.Proof

end
-- ==== Proof.lean ====
/- The certificate's claim, assembled from its parts. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Value

@[expose] public section

noncomputable section

namespace Cert.Proof

/-- The three frames, that the idealized kernel is the kernel, and that it computes what the reference does. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
